-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 8192]⟩ ⟨2, ![4096, 8192]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x8192 : Shape := ⟨2, ![128, 8192]⟩
abbrev S1 : Shape := ⟨1, ![1]⟩
abbrev S32 : Shape := ⟨1, ![32]⟩
abbrev S_ : Shape := ⟨0, ![]⟩
abbrev S32x1 : Shape := ⟨2, ![32, 1]⟩
abbrev S2 : Shape := ⟨1, ![2]⟩
abbrev S2x128x4096 : Shape := ⟨3, ![2, 128, 4096]⟩
abbrev S128x128 : Shape := ⟨2, ![128, 128]⟩
abbrev S128x4096 : Shape := ⟨2, ![128, 4096]⟩
abbrev S1x128x4096 : Shape := ⟨3, ![1, 128, 4096]⟩

abbrev nBuf : Space → Nat
  | .hbm => 145
  | .vmem => 7
  | .smem => 5
  | _ => 0

abbrev hbmTy0_0 (i : Nat) : BufTy := match i % 128 with
  | 0 => ⟨S4096x128, .fp8e4m3⟩
  | 1 => ⟨S128x8192, .fp8e5m2⟩
  | 2 => ⟨S1, .f32⟩
  | 3 => ⟨S1, .f32⟩
  | 4 => ⟨S32, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S32, .i32⟩
  | 12 => ⟨S32, .i1⟩
  | 13 => ⟨S32, .i32⟩
  | 14 => ⟨S_, .i1⟩
  | 15 => ⟨S_, .i32⟩
  | 16 => ⟨S_, .i1⟩
  | 17 => ⟨S_, .i32⟩
  | 18 => ⟨S32, .i32⟩
  | 19 => ⟨S_, .i32⟩
  | 20 => ⟨S_, .i32⟩
  | 21 => ⟨S32, .i32⟩
  | 22 => ⟨S32, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S32, .i32⟩
  | 30 => ⟨S32, .i32⟩
  | 31 => ⟨S_, .i32⟩
  | 32 => ⟨S32, .i32⟩
  | 33 => ⟨S32, .i1⟩
  | 34 => ⟨S_, .i32⟩
  | 35 => ⟨S32, .i32⟩
  | 36 => ⟨S32, .i1⟩
  | 37 => ⟨S_, .i32⟩
  | 38 => ⟨S_, .i1⟩
  | 39 => ⟨S32, .i1⟩
  | 40 => ⟨S32, .i1⟩
  | 41 => ⟨S32, .i1⟩
  | 42 => ⟨S32, .i32⟩
  | 43 => ⟨S32, .i32⟩
  | 44 => ⟨S32, .i32⟩
  | 45 => ⟨S_, .i32⟩
  | 46 => ⟨S32, .i32⟩
  | 47 => ⟨S32, .i1⟩
  | 48 => ⟨S_, .i32⟩
  | 49 => ⟨S32, .i32⟩
  | 50 => ⟨S32, .i32⟩
  | 51 => ⟨S32, .i32⟩
  | 52 => ⟨S32x1, .i32⟩
  | 53 => ⟨S32, .i32⟩
  | 54 => ⟨S_, .i32⟩
  | 55 => ⟨S_, .i32⟩
  | 56 => ⟨S32, .i32⟩
  | 57 => ⟨S32, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S32, .i32⟩
  | 65 => ⟨S32, .i32⟩
  | 66 => ⟨S_, .i32⟩
  | 67 => ⟨S32, .i32⟩
  | 68 => ⟨S32, .i1⟩
  | 69 => ⟨S_, .i32⟩
  | 70 => ⟨S32, .i32⟩
  | 71 => ⟨S32, .i1⟩
  | 72 => ⟨S_, .i32⟩
  | 73 => ⟨S_, .i1⟩
  | 74 => ⟨S32, .i1⟩
  | 75 => ⟨S32, .i1⟩
  | 76 => ⟨S32, .i1⟩
  | 77 => ⟨S32, .i32⟩
  | 78 => ⟨S32, .i32⟩
  | 79 => ⟨S32, .i32⟩
  | 80 => ⟨S_, .i32⟩
  | 81 => ⟨S32, .i32⟩
  | 82 => ⟨S32, .i1⟩
  | 83 => ⟨S_, .i32⟩
  | 84 => ⟨S32, .i32⟩
  | 85 => ⟨S32, .i32⟩
  | 86 => ⟨S32, .i32⟩
  | 87 => ⟨S32x1, .i32⟩
  | 88 => ⟨S32, .i32⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i1⟩
  | 102 => ⟨S_, .i32⟩
  | 103 => ⟨S_, .i1⟩
  | 104 => ⟨S_, .i1⟩
  | 105 => ⟨S_, .i1⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S1, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i1⟩
  | _ => ⟨S4096x128, .fp8e4m3⟩

abbrev hbmTy0_1 (i : Nat) : BufTy := match i % 128 with
  | 0 => ⟨S_, .i32⟩
  | 1 => ⟨S_, .i1⟩
  | 2 => ⟨S_, .i1⟩
  | 3 => ⟨S_, .i1⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S1, .i32⟩
  | 12 => ⟨S_, .i32⟩
  | 13 => ⟨S1, .i32⟩
  | 14 => ⟨S1, .i32⟩
  | 15 => ⟨S2, .i32⟩
  | 16 => ⟨S128x8192, .f32⟩
  | _ => ⟨S4096x128, .fp8e4m3⟩

abbrev hbmTy (i : Nat) : BufTy := match i / 128 with
  | 0 => hbmTy0_0 i
  | 1 => hbmTy0_1 i
  | _ => ⟨S4096x128, .fp8e4m3⟩

abbrev bufTy : (tb : Table) → Fin (tcTables nBuf tb) → BufTy
  | .hbm, ⟨i, _⟩ => hbmTy i
  | .local _ .vmem, ⟨0, _⟩ => ⟨S4096x128, .fp8e4m3⟩
  | .local _ .vmem, ⟨1, _⟩ => ⟨S128x8192, .fp8e5m2⟩
  | .local _ .vmem, ⟨2, _⟩ => ⟨S128x8192, .f32⟩
  | .local _ .vmem, ⟨3, _⟩ => ⟨S2x128x4096, .f32⟩
  | .local _ .vmem, ⟨4, _⟩ => ⟨S2x128x4096, .f32⟩
  | .local _ .vmem, ⟨5, _⟩ => ⟨S2x128x4096, .f32⟩
  | .local _ .vmem, ⟨6, _⟩ => ⟨S2x128x4096, .f32⟩
  | .local _ .smem, ⟨0, _⟩ => ⟨S32, .i32⟩
  | .local _ .smem, ⟨1, _⟩ => ⟨S32, .i32⟩
  | .local _ .smem, ⟨2, _⟩ => ⟨S2, .i32⟩
  | .local _ .smem, ⟨3, _⟩ => ⟨S1, .f32⟩
  | .local _ .smem, ⟨4, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 3 → Bool
  | ⟨0, _⟩ => true
  | ⟨1, _⟩ => true
  | ⟨2, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 3 16 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_c_0 : Ref sig .tc := ⟨.hbm, 15, rfl⟩
abbrev main_call0_v1_0 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v12 : Ref sig .tc := ⟨.hbm, 44, rfl⟩
abbrev main_c_4 : Ref sig .tc := ⟨.hbm, 45, rfl⟩
abbrev main_v13 : Ref sig .tc := ⟨.hbm, 46, rfl⟩
abbrev main_v14 : Ref sig .tc := ⟨.hbm, 47, rfl⟩
abbrev main_c_5 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_c_6 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_c_7 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v23 : Ref sig .tc := ⟨.hbm, 79, rfl⟩
abbrev main_c_8 : Ref sig .tc := ⟨.hbm, 80, rfl⟩
abbrev main_v24 : Ref sig .tc := ⟨.hbm, 81, rfl⟩
abbrev main_v25 : Ref sig .tc := ⟨.hbm, 82, rfl⟩
abbrev main_c_9 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_c_10 : Ref sig .tc := ⟨.hbm, 89, rfl⟩
abbrev main_v31 : Ref sig .tc := ⟨.hbm, 90, rfl⟩
abbrev main_c_11 : Ref sig .tc := ⟨.hbm, 91, rfl⟩
abbrev main_call3_v0 : Ref sig .tc := ⟨.hbm, 92, rfl⟩
abbrev main_call3_c : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_c_1 : Ref sig .tc := ⟨.hbm, 98, rfl⟩
abbrev main_call3_v4 : Ref sig .tc := ⟨.hbm, 99, rfl⟩
abbrev main_call3_c_2 : Ref sig .tc := ⟨.hbm, 100, rfl⟩
abbrev main_call3_v5 : Ref sig .tc := ⟨.hbm, 101, rfl⟩
abbrev main_call3_c_3 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_v32 : Ref sig .tc := ⟨.hbm, 107, rfl⟩
abbrev main_c_12 : Ref sig .tc := ⟨.hbm, 108, rfl⟩
abbrev main_v33 : Ref sig .tc := ⟨.hbm, 109, rfl⟩
abbrev main_c_13 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_c_14 : Ref sig .tc := ⟨.hbm, 115, rfl⟩
abbrev main_v38 : Ref sig .tc := ⟨.hbm, 116, rfl⟩
abbrev main_c_15 : Ref sig .tc := ⟨.hbm, 117, rfl⟩
abbrev main_call4_v0 : Ref sig .tc := ⟨.hbm, 118, rfl⟩
abbrev main_call4_c : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_c_1 : Ref sig .tc := ⟨.hbm, 124, rfl⟩
abbrev main_call4_v4 : Ref sig .tc := ⟨.hbm, 125, rfl⟩
abbrev main_call4_c_2 : Ref sig .tc := ⟨.hbm, 126, rfl⟩
abbrev main_call4_v5 : Ref sig .tc := ⟨.hbm, 127, rfl⟩
abbrev main_call4_c_3 : Ref sig .tc := ⟨.hbm, 128, rfl⟩
abbrev main_call4_v6 : Ref sig .tc := ⟨.hbm, 129, rfl⟩
abbrev main_call4_v7 : Ref sig .tc := ⟨.hbm, 130, rfl⟩
abbrev main_call4_v8 : Ref sig .tc := ⟨.hbm, 131, rfl⟩
abbrev main_call4_v9 : Ref sig .tc := ⟨.hbm, 132, rfl⟩
abbrev main_v39 : Ref sig .tc := ⟨.hbm, 133, rfl⟩
abbrev main_c_16 : Ref sig .tc := ⟨.hbm, 134, rfl⟩
abbrev main_v40 : Ref sig .tc := ⟨.hbm, 135, rfl⟩
abbrev main_c_17 : Ref sig .tc := ⟨.hbm, 136, rfl⟩
abbrev main_v41 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_v48 : Ref sig .tc := ⟨.hbm, 144, rfl⟩
abbrev cc0_stg3_0 : Ref sig .tc := ⟨.vmem, 0, rfl⟩
abbrev cc0_stg4_0 : Ref sig .tc := ⟨.vmem, 1, rfl⟩
abbrev cc0_stg7_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg5_0 : Ref sig .tc := ⟨.smem, 3, rfl⟩
abbrev cc0_stg6_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 2

abbrev nD : Nat := 32
abbrev τ : Topo := Topo.v7x

variable {F : FTy → Type} [FloatOps F]

abbrev grid0 : Pipeline.Grid := .none

def k0_dev1 (v0 : BitVec 32) : Nat :=
  let c0_i32 : BitVec 32 := 0#32
  let c1_i32_0 : BitVec 32 := 1#32
  let v3 : BitVec 32 := Scalar.muli v0 c1_i32_0
  let v4 : BitVec 32 := Scalar.addi c0_i32 v3
  v4.toNat

def k0_dev2 (v1 : BitVec 32) : Nat :=
  let c0_i32_3 : BitVec 32 := 0#32
  let c1_i32_2 : BitVec 32 := 1#32
  let v5 : BitVec 32 := Scalar.muli v1 c1_i32_2
  let v6 : BitVec 32 := Scalar.addi c0_i32_3 v5
  v6.toNat

def k0_off1 (v10 : BitVec 32) : Fin 2 → Nat :=
  let c128_i32 : BitVec 32 := 128#32
  let v11 : BitVec 32 := Scalar.muli v10 c128_i32
  let v12 : Index := Scalar.indexCast v11
  let c0_7 : Index := 0#32
  ![v12.toNat, 0]

def k0_chk3 (v10 : BitVec 32) : Prop :=
  (∀ a, (k0_off1 v10) a + S128x128.size a ≤ S4096x128.size a)
theorem k0_off1_inb : ∀ (v10 : BitVec 32) (k0_hw3 : k0_chk3 v10), ∀ a, (k0_off1 v10) a + S128x128.size a ≤ S4096x128.size a := fun v10 k0_hw3 => k0_hw3

def k0_off2 (v18 : BitVec 32) : Fin 2 → Nat :=
  let c128_i32_9 : BitVec 32 := 128#32
  let v19 : BitVec 32 := Scalar.muli v18 c128_i32_9
  let v20 : Index := Scalar.indexCast v19
  let c0_10 : Index := 0#32
  ![v20.toNat, 0]

def k0_chk4 (v18 : BitVec 32) : Prop :=
  (∀ a, (k0_off2 v18) a + S128x128.size a ≤ S4096x128.size a)
theorem k0_off2_inb : ∀ (v18 : BitVec 32) (k0_hw4 : k0_chk4 v18), ∀ a, (k0_off2 v18) a + S128x128.size a ≤ S4096x128.size a := fun v18 k0_hw4 => k0_hw4

def k0_dev3 (v0 : BitVec 32) : Nat :=
  let c0_i32_20 : BitVec 32 := 0#32
  let c1_i32_19 : BitVec 32 := 1#32
  let v29 : BitVec 32 := Scalar.muli v0 c1_i32_19
  let v30 : BitVec 32 := Scalar.addi c0_i32_20 v29
  v30.toNat
def k0_dev4 (v1 : BitVec 32) : Nat :=
  let c0_i32_33 : BitVec 32 := 0#32
  let c1_i32_32 : BitVec 32 := 1#32
  let v42 : BitVec 32 := Scalar.muli v1 c1_i32_32
  let v43 : BitVec 32 := Scalar.addi c0_i32_33 v42
  v43.toNat
def k0_off3 (v52 : BitVec 32) : Fin 2 → Nat :=
  let c128_i32_39 : BitVec 32 := 128#32
  let v53 : BitVec 32 := Scalar.muli v52 c128_i32_39
  let v54 : Index := Scalar.indexCast v53
  let c0_40 : Index := 0#32
  ![v54.toNat, 0]

def k0_chk5 (v52 : BitVec 32) : Prop :=
  (∀ a, (k0_off3 v52) a + S128x128.size a ≤ S4096x128.size a)
theorem k0_off3_inb : ∀ (v52 : BitVec 32) (k0_hw5 : k0_chk5 v52), ∀ a, (k0_off3 v52) a + S128x128.size a ≤ S4096x128.size a := fun v52 k0_hw5 => k0_hw5

def k0_off4 (v60 : BitVec 32) : Fin 2 → Nat :=
  let c128_i32_43 : BitVec 32 := 128#32
  let v61 : BitVec 32 := Scalar.muli v60 c128_i32_43
  let v62 : Index := Scalar.indexCast v61
  let c0_44 : Index := 0#32
  ![v62.toNat, 0]

def k0_chk6 (v60 : BitVec 32) : Prop :=
  (∀ a, (k0_off4 v60) a + S128x128.size a ≤ S4096x128.size a)
theorem k0_off4_inb : ∀ (v60 : BitVec 32) (k0_hw6 : k0_chk6 v60), ∀ a, (k0_off4 v60) a + S128x128.size a ≤ S4096x128.size a := fun v60 k0_hw6 => k0_hw6

def k0_dev5 (v1 : BitVec 32) : Nat :=
  let c0_i32_74 : BitVec 32 := 0#32
  let c1_i32_73 : BitVec 32 := 1#32
  let v90 : BitVec 32 := Scalar.muli v1 c1_i32_73
  let v91 : BitVec 32 := Scalar.addi c0_i32_74 v90
  v91.toNat
def k0_dev6 (v0 : BitVec 32) : Nat :=
  let c0_i32_77 : BitVec 32 := 0#32
  let c1_i32_76 : BitVec 32 := 1#32
  let v92 : BitVec 32 := Scalar.muli v0 c1_i32_76
  let v93 : BitVec 32 := Scalar.addi c0_i32_77 v92
  v93.toNat
def k0_dev7 (v0 : BitVec 32) : Nat :=
  let c0_i32_86 : BitVec 32 := 0#32
  let c1_i32_85 : BitVec 32 := 1#32
  let v97 : BitVec 32 := Scalar.muli v0 c1_i32_85
  let v98 : BitVec 32 := Scalar.addi c0_i32_86 v97
  v98.toNat
def k0_dev8 (v1 : BitVec 32) : Nat :=
  let c0_i32_99 : BitVec 32 := 0#32
  let c1_i32_98 : BitVec 32 := 1#32
  let v110 : BitVec 32 := Scalar.muli v1 c1_i32_98
  let v111 : BitVec 32 := Scalar.addi c0_i32_99 v110
  v111.toNat
def k0_off5 (v120 : BitVec 32) : Fin 2 → Nat :=
  let c128_i32_104 : BitVec 32 := 128#32
  let v121 : BitVec 32 := Scalar.muli v120 c128_i32_104
  let v122 : Index := Scalar.indexCast v121
  let c0_105 : Index := 0#32
  ![v122.toNat, 0]

def k0_chk7 (v120 : BitVec 32) : Prop :=
  (∀ a, (k0_off5 v120) a + S128x128.size a ≤ S4096x128.size a)
theorem k0_off5_inb : ∀ (v120 : BitVec 32) (k0_hw7 : k0_chk7 v120), ∀ a, (k0_off5 v120) a + S128x128.size a ≤ S4096x128.size a := fun v120 k0_hw7 => k0_hw7

def k0_off6 (v128 : BitVec 32) : Fin 2 → Nat :=
  let c128_i32_108 : BitVec 32 := 128#32
  let v129 : BitVec 32 := Scalar.muli v128 c128_i32_108
  let v130 : Index := Scalar.indexCast v129
  let c0_109 : Index := 0#32
  ![v130.toNat, 0]

def k0_chk8 (v128 : BitVec 32) : Prop :=
  (∀ a, (k0_off6 v128) a + S128x128.size a ≤ S4096x128.size a)
theorem k0_off6_inb : ∀ (v128 : BitVec 32) (k0_hw8 : k0_chk8 v128), ∀ a, (k0_off6 v128) a + S128x128.size a ≤ S4096x128.size a := fun v128 k0_hw8 => k0_hw8

def k0_dev9 (v1 : BitVec 32) : Nat :=
  let c0_i32_139 : BitVec 32 := 0#32
  let c1_i32_138 : BitVec 32 := 1#32
  let v158 : BitVec 32 := Scalar.muli v1 c1_i32_138
  let v159 : BitVec 32 := Scalar.addi c0_i32_139 v158
  v159.toNat
def k0_dev10 (v0 : BitVec 32) : Nat :=
  let c0_i32_142 : BitVec 32 := 0#32
  let c1_i32_141 : BitVec 32 := 1#32
  let v160 : BitVec 32 := Scalar.muli v0 c1_i32_141
  let v161 : BitVec 32 := Scalar.addi c0_i32_142 v160
  v161.toNat
def k0_dev11 (v0 : BitVec 32) : Nat :=
  let c0_i32_173 : BitVec 32 := 0#32
  let c1_i32_172 : BitVec 32 := 1#32
  let v177 : BitVec 32 := Scalar.muli v0 c1_i32_172
  let v178 : BitVec 32 := Scalar.addi c0_i32_173 v177
  v178.toNat
def k0_dev12 (v1 : BitVec 32) : Nat :=
  let c0_i32_186 : BitVec 32 := 0#32
  let c1_i32_185 : BitVec 32 := 1#32
  let v190 : BitVec 32 := Scalar.muli v1 c1_i32_185
  let v191 : BitVec 32 := Scalar.addi c0_i32_186 v190
  v191.toNat
def k0_off7 (v200 : BitVec 32) : Fin 2 → Nat :=
  let c128_i32_191 : BitVec 32 := 128#32
  let v201 : BitVec 32 := Scalar.muli v200 c128_i32_191
  let v202 : Index := Scalar.indexCast v201
  let c0_192 : Index := 0#32
  ![v202.toNat, 0]

def k0_chk9 (v200 : BitVec 32) : Prop :=
  (∀ a, (k0_off7 v200) a + S128x128.size a ≤ S4096x128.size a)
theorem k0_off7_inb : ∀ (v200 : BitVec 32) (k0_hw9 : k0_chk9 v200), ∀ a, (k0_off7 v200) a + S128x128.size a ≤ S4096x128.size a := fun v200 k0_hw9 => k0_hw9

def k0_off8 (v208 : BitVec 32) : Fin 2 → Nat :=
  let c128_i32_195 : BitVec 32 := 128#32
  let v209 : BitVec 32 := Scalar.muli v208 c128_i32_195
  let v210 : Index := Scalar.indexCast v209
  let c0_196 : Index := 0#32
  ![v210.toNat, 0]

def k0_chk10 (v208 : BitVec 32) : Prop :=
  (∀ a, (k0_off8 v208) a + S128x128.size a ≤ S4096x128.size a)
theorem k0_off8_inb : ∀ (v208 : BitVec 32) (k0_hw10 : k0_chk10 v208), ∀ a, (k0_off8 v208) a + S128x128.size a ≤ S4096x128.size a := fun v208 k0_hw10 => k0_hw10

def k0_dev13 (v1 : BitVec 32) : Nat :=
  let c0_i32_226 : BitVec 32 := 0#32
  let c1_i32_225 : BitVec 32 := 1#32
  let v238 : BitVec 32 := Scalar.muli v1 c1_i32_225
  let v239 : BitVec 32 := Scalar.addi c0_i32_226 v238
  v239.toNat
def k0_dev14 (v0 : BitVec 32) : Nat :=
  let c0_i32_229 : BitVec 32 := 0#32
  let c1_i32_228 : BitVec 32 := 1#32
  let v240 : BitVec 32 := Scalar.muli v0 c1_i32_228
  let v241 : BitVec 32 := Scalar.addi c0_i32_229 v240
  v241.toNat
def k0_dev15 (v0 : BitVec 32) : Nat :=
  let c0_i32_260 : BitVec 32 := 0#32
  let c1_i32_259 : BitVec 32 := 1#32
  let v257 : BitVec 32 := Scalar.muli v0 c1_i32_259
  let v258 : BitVec 32 := Scalar.addi c0_i32_260 v257
  v258.toNat
def k0_dev16 (v1 : BitVec 32) : Nat :=
  let c0_i32_273 : BitVec 32 := 0#32
  let c1_i32_272 : BitVec 32 := 1#32
  let v270 : BitVec 32 := Scalar.muli v1 c1_i32_272
  let v271 : BitVec 32 := Scalar.addi c0_i32_273 v270
  v271.toNat
def k0_off9 (v280 : BitVec 32) : Fin 2 → Nat :=
  let c128_i32_278 : BitVec 32 := 128#32
  let v281 : BitVec 32 := Scalar.muli v280 c128_i32_278
  let v282 : Index := Scalar.indexCast v281
  let c0_279 : Index := 0#32
  ![v282.toNat, 0]

def k0_chk11 (v280 : BitVec 32) : Prop :=
  (∀ a, (k0_off9 v280) a + S128x128.size a ≤ S4096x128.size a)
theorem k0_off9_inb : ∀ (v280 : BitVec 32) (k0_hw11 : k0_chk11 v280), ∀ a, (k0_off9 v280) a + S128x128.size a ≤ S4096x128.size a := fun v280 k0_hw11 => k0_hw11

def k0_off10 (v288 : BitVec 32) : Fin 2 → Nat :=
  let c128_i32_282 : BitVec 32 := 128#32
  let v289 : BitVec 32 := Scalar.muli v288 c128_i32_282
  let v290 : Index := Scalar.indexCast v289
  let c0_283 : Index := 0#32
  ![v290.toNat, 0]

def k0_chk12 (v288 : BitVec 32) : Prop :=
  (∀ a, (k0_off10 v288) a + S128x128.size a ≤ S4096x128.size a)
theorem k0_off10_inb : ∀ (v288 : BitVec 32) (k0_hw12 : k0_chk12 v288), ∀ a, (k0_off10 v288) a + S128x128.size a ≤ S4096x128.size a := fun v288 k0_hw12 => k0_hw12

def k0_dev17 (v1 : BitVec 32) : Nat :=
  let c0_i32_313 : BitVec 32 := 0#32
  let c1_i32_312 : BitVec 32 := 1#32
  let v318 : BitVec 32 := Scalar.muli v1 c1_i32_312
  let v319 : BitVec 32 := Scalar.addi c0_i32_313 v318
  v319.toNat
def k0_dev18 (v0 : BitVec 32) : Nat :=
  let c0_i32_316 : BitVec 32 := 0#32
  let c1_i32_315 : BitVec 32 := 1#32
  let v320 : BitVec 32 := Scalar.muli v0 c1_i32_315
  let v321 : BitVec 32 := Scalar.addi c0_i32_316 v320
  v321.toNat
def k0_dev19 (v0 : BitVec 32) : Nat :=
  let c0_i32_347 : BitVec 32 := 0#32
  let c1_i32_346 : BitVec 32 := 1#32
  let v337 : BitVec 32 := Scalar.muli v0 c1_i32_346
  let v338 : BitVec 32 := Scalar.addi c0_i32_347 v337
  v338.toNat
def k0_dev20 (v1 : BitVec 32) : Nat :=
  let c0_i32_360 : BitVec 32 := 0#32
  let c1_i32_359 : BitVec 32 := 1#32
  let v350 : BitVec 32 := Scalar.muli v1 c1_i32_359
  let v351 : BitVec 32 := Scalar.addi c0_i32_360 v350
  v351.toNat
def k0_off11 (v360 : BitVec 32) : Fin 2 → Nat :=
  let c128_i32_365 : BitVec 32 := 128#32
  let v361 : BitVec 32 := Scalar.muli v360 c128_i32_365
  let v362 : Index := Scalar.indexCast v361
  let c0_366 : Index := 0#32
  ![v362.toNat, 0]

def k0_chk13 (v360 : BitVec 32) : Prop :=
  (∀ a, (k0_off11 v360) a + S128x128.size a ≤ S4096x128.size a)
theorem k0_off11_inb : ∀ (v360 : BitVec 32) (k0_hw13 : k0_chk13 v360), ∀ a, (k0_off11 v360) a + S128x128.size a ≤ S4096x128.size a := fun v360 k0_hw13 => k0_hw13

def k0_off12 (v368 : BitVec 32) : Fin 2 → Nat :=
  let c128_i32_369 : BitVec 32 := 128#32
  let v369 : BitVec 32 := Scalar.muli v368 c128_i32_369
  let v370 : Index := Scalar.indexCast v369
  let c0_370 : Index := 0#32
  ![v370.toNat, 0]

def k0_chk14 (v368 : BitVec 32) : Prop :=
  (∀ a, (k0_off12 v368) a + S128x128.size a ≤ S4096x128.size a)
theorem k0_off12_inb : ∀ (v368 : BitVec 32) (k0_hw14 : k0_chk14 v368), ∀ a, (k0_off12 v368) a + S128x128.size a ≤ S4096x128.size a := fun v368 k0_hw14 => k0_hw14

def k0_dev21 (v1 : BitVec 32) : Nat :=
  let c0_i32_400 : BitVec 32 := 0#32
  let c1_i32_399 : BitVec 32 := 1#32
  let v398 : BitVec 32 := Scalar.muli v1 c1_i32_399
  let v399 : BitVec 32 := Scalar.addi c0_i32_400 v398
  v399.toNat
def k0_dev22 (v0 : BitVec 32) : Nat :=
  let c0_i32_403 : BitVec 32 := 0#32
  let c1_i32_402 : BitVec 32 := 1#32
  let v400 : BitVec 32 := Scalar.muli v0 c1_i32_402
  let v401 : BitVec 32 := Scalar.addi c0_i32_403 v400
  v401.toNat
def k0_dev23 (v0 : BitVec 32) : Nat :=
  let c0_i32_434 : BitVec 32 := 0#32
  let c1_i32_433 : BitVec 32 := 1#32
  let v417 : BitVec 32 := Scalar.muli v0 c1_i32_433
  let v418 : BitVec 32 := Scalar.addi c0_i32_434 v417
  v418.toNat
def k0_dev24 (v1 : BitVec 32) : Nat :=
  let c0_i32_447 : BitVec 32 := 0#32
  let c1_i32_446 : BitVec 32 := 1#32
  let v430 : BitVec 32 := Scalar.muli v1 c1_i32_446
  let v431 : BitVec 32 := Scalar.addi c0_i32_447 v430
  v431.toNat
def k0_off13 (v440 : BitVec 32) : Fin 2 → Nat :=
  let c128_i32_452 : BitVec 32 := 128#32
  let v441 : BitVec 32 := Scalar.muli v440 c128_i32_452
  let v442 : Index := Scalar.indexCast v441
  let c0_453 : Index := 0#32
  ![v442.toNat, 0]

def k0_chk15 (v440 : BitVec 32) : Prop :=
  (∀ a, (k0_off13 v440) a + S128x128.size a ≤ S4096x128.size a)
theorem k0_off13_inb : ∀ (v440 : BitVec 32) (k0_hw15 : k0_chk15 v440), ∀ a, (k0_off13 v440) a + S128x128.size a ≤ S4096x128.size a := fun v440 k0_hw15 => k0_hw15

def k0_off14 (v448 : BitVec 32) : Fin 2 → Nat :=
  let c128_i32_456 : BitVec 32 := 128#32
  let v449 : BitVec 32 := Scalar.muli v448 c128_i32_456
  let v450 : Index := Scalar.indexCast v449
  let c0_457 : Index := 0#32
  ![v450.toNat, 0]

def k0_chk16 (v448 : BitVec 32) : Prop :=
  (∀ a, (k0_off14 v448) a + S128x128.size a ≤ S4096x128.size a)
theorem k0_off14_inb : ∀ (v448 : BitVec 32) (k0_hw16 : k0_chk16 v448), ∀ a, (k0_off14 v448) a + S128x128.size a ≤ S4096x128.size a := fun v448 k0_hw16 => k0_hw16

def k0_dev25 (v1 : BitVec 32) : Nat :=
  let c0_i32_487 : BitVec 32 := 0#32
  let c1_i32_486 : BitVec 32 := 1#32
  let v478 : BitVec 32 := Scalar.muli v1 c1_i32_486
  let v479 : BitVec 32 := Scalar.addi c0_i32_487 v478
  v479.toNat
def k0_dev26 (v0 : BitVec 32) : Nat :=
  let c0_i32_490 : BitVec 32 := 0#32
  let c1_i32_489 : BitVec 32 := 1#32
  let v480 : BitVec 32 := Scalar.muli v0 c1_i32_489
  let v481 : BitVec 32 := Scalar.addi c0_i32_490 v480
  v481.toNat
def k0_dev27 (v0 : BitVec 32) : Nat :=
  let c0_i32_521 : BitVec 32 := 0#32
  let c1_i32_520 : BitVec 32 := 1#32
  let v497 : BitVec 32 := Scalar.muli v0 c1_i32_520
  let v498 : BitVec 32 := Scalar.addi c0_i32_521 v497
  v498.toNat
def k0_dev28 (v1 : BitVec 32) : Nat :=
  let c0_i32_534 : BitVec 32 := 0#32
  let c1_i32_533 : BitVec 32 := 1#32
  let v510 : BitVec 32 := Scalar.muli v1 c1_i32_533
  let v511 : BitVec 32 := Scalar.addi c0_i32_534 v510
  v511.toNat
def k0_off15 (v520 : BitVec 32) : Fin 2 → Nat :=
  let c128_i32_539 : BitVec 32 := 128#32
  let v521 : BitVec 32 := Scalar.muli v520 c128_i32_539
  let v522 : Index := Scalar.indexCast v521
  let c0_540 : Index := 0#32
  ![v522.toNat, 0]

def k0_chk17 (v520 : BitVec 32) : Prop :=
  (∀ a, (k0_off15 v520) a + S128x128.size a ≤ S4096x128.size a)
theorem k0_off15_inb : ∀ (v520 : BitVec 32) (k0_hw17 : k0_chk17 v520), ∀ a, (k0_off15 v520) a + S128x128.size a ≤ S4096x128.size a := fun v520 k0_hw17 => k0_hw17

def k0_off16 (v528 : BitVec 32) : Fin 2 → Nat :=
  let c128_i32_543 : BitVec 32 := 128#32
  let v529 : BitVec 32 := Scalar.muli v528 c128_i32_543
  let v530 : Index := Scalar.indexCast v529
  let c0_544 : Index := 0#32
  ![v530.toNat, 0]

def k0_chk18 (v528 : BitVec 32) : Prop :=
  (∀ a, (k0_off16 v528) a + S128x128.size a ≤ S4096x128.size a)
theorem k0_off16_inb : ∀ (v528 : BitVec 32) (k0_hw18 : k0_chk18 v528), ∀ a, (k0_off16 v528) a + S128x128.size a ≤ S4096x128.size a := fun v528 k0_hw18 => k0_hw18

def k0_dev29 (v1 : BitVec 32) : Nat :=
  let c0_i32_574 : BitVec 32 := 0#32
  let c1_i32_573 : BitVec 32 := 1#32
  let v558 : BitVec 32 := Scalar.muli v1 c1_i32_573
  let v559 : BitVec 32 := Scalar.addi c0_i32_574 v558
  v559.toNat
def k0_dev30 (v0 : BitVec 32) : Nat :=
  let c0_i32_577 : BitVec 32 := 0#32
  let c1_i32_576 : BitVec 32 := 1#32
  let v560 : BitVec 32 := Scalar.muli v0 c1_i32_576
  let v561 : BitVec 32 := Scalar.addi c0_i32_577 v560
  v561.toNat
def k0_dev31 (v0 : BitVec 32) : Nat :=
  let c0_i32_608 : BitVec 32 := 0#32
  let c1_i32_607 : BitVec 32 := 1#32
  let v577 : BitVec 32 := Scalar.muli v0 c1_i32_607
  let v578 : BitVec 32 := Scalar.addi c0_i32_608 v577
  v578.toNat
def k0_dev32 (v1 : BitVec 32) : Nat :=
  let c0_i32_621 : BitVec 32 := 0#32
  let c1_i32_620 : BitVec 32 := 1#32
  let v590 : BitVec 32 := Scalar.muli v1 c1_i32_620
  let v591 : BitVec 32 := Scalar.addi c0_i32_621 v590
  v591.toNat
def k0_off17 (v600 : BitVec 32) : Fin 2 → Nat :=
  let c128_i32_626 : BitVec 32 := 128#32
  let v601 : BitVec 32 := Scalar.muli v600 c128_i32_626
  let v602 : Index := Scalar.indexCast v601
  let c0_627 : Index := 0#32
  ![v602.toNat, 0]

def k0_chk19 (v600 : BitVec 32) : Prop :=
  (∀ a, (k0_off17 v600) a + S128x128.size a ≤ S4096x128.size a)
theorem k0_off17_inb : ∀ (v600 : BitVec 32) (k0_hw19 : k0_chk19 v600), ∀ a, (k0_off17 v600) a + S128x128.size a ≤ S4096x128.size a := fun v600 k0_hw19 => k0_hw19

def k0_off18 (v608 : BitVec 32) : Fin 2 → Nat :=
  let c128_i32_630 : BitVec 32 := 128#32
  let v609 : BitVec 32 := Scalar.muli v608 c128_i32_630
  let v610 : Index := Scalar.indexCast v609
  let c0_631 : Index := 0#32
  ![v610.toNat, 0]

def k0_chk20 (v608 : BitVec 32) : Prop :=
  (∀ a, (k0_off18 v608) a + S128x128.size a ≤ S4096x128.size a)
theorem k0_off18_inb : ∀ (v608 : BitVec 32) (k0_hw20 : k0_chk20 v608), ∀ a, (k0_off18 v608) a + S128x128.size a ≤ S4096x128.size a := fun v608 k0_hw20 => k0_hw20

def k0_dev33 (v1 : BitVec 32) : Nat :=
  let c0_i32_661 : BitVec 32 := 0#32
  let c1_i32_660 : BitVec 32 := 1#32
  let v638 : BitVec 32 := Scalar.muli v1 c1_i32_660
  let v639 : BitVec 32 := Scalar.addi c0_i32_661 v638
  v639.toNat
def k0_dev34 (v0 : BitVec 32) : Nat :=
  let c0_i32_664 : BitVec 32 := 0#32
  let c1_i32_663 : BitVec 32 := 1#32
  let v640 : BitVec 32 := Scalar.muli v0 c1_i32_663
  let v641 : BitVec 32 := Scalar.addi c0_i32_664 v640
  v641.toNat
def k0_dev35 (v0 : BitVec 32) : Nat :=
  let c0_i32_695 : BitVec 32 := 0#32
  let c1_i32_694 : BitVec 32 := 1#32
  let v657 : BitVec 32 := Scalar.muli v0 c1_i32_694
  let v658 : BitVec 32 := Scalar.addi c0_i32_695 v657
  v658.toNat
def k0_dev36 (v1 : BitVec 32) : Nat :=
  let c0_i32_708 : BitVec 32 := 0#32
  let c1_i32_707 : BitVec 32 := 1#32
  let v670 : BitVec 32 := Scalar.muli v1 c1_i32_707
  let v671 : BitVec 32 := Scalar.addi c0_i32_708 v670
  v671.toNat
def k0_off19 (v680 : BitVec 32) : Fin 2 → Nat :=
  let c128_i32_713 : BitVec 32 := 128#32
  let v681 : BitVec 32 := Scalar.muli v680 c128_i32_713
  let v682 : Index := Scalar.indexCast v681
  let c0_714 : Index := 0#32
  ![v682.toNat, 0]

def k0_chk21 (v680 : BitVec 32) : Prop :=
  (∀ a, (k0_off19 v680) a + S128x128.size a ≤ S4096x128.size a)
theorem k0_off19_inb : ∀ (v680 : BitVec 32) (k0_hw21 : k0_chk21 v680), ∀ a, (k0_off19 v680) a + S128x128.size a ≤ S4096x128.size a := fun v680 k0_hw21 => k0_hw21

def k0_off20 (v688 : BitVec 32) : Fin 2 → Nat :=
  let c128_i32_717 : BitVec 32 := 128#32
  let v689 : BitVec 32 := Scalar.muli v688 c128_i32_717
  let v690 : Index := Scalar.indexCast v689
  let c0_718 : Index := 0#32
  ![v690.toNat, 0]

def k0_chk22 (v688 : BitVec 32) : Prop :=
  (∀ a, (k0_off20 v688) a + S128x128.size a ≤ S4096x128.size a)
theorem k0_off20_inb : ∀ (v688 : BitVec 32) (k0_hw22 : k0_chk22 v688), ∀ a, (k0_off20 v688) a + S128x128.size a ≤ S4096x128.size a := fun v688 k0_hw22 => k0_hw22

def k0_dev37 (v1 : BitVec 32) : Nat :=
  let c0_i32_748 : BitVec 32 := 0#32
  let c1_i32_747 : BitVec 32 := 1#32
  let v718 : BitVec 32 := Scalar.muli v1 c1_i32_747
  let v719 : BitVec 32 := Scalar.addi c0_i32_748 v718
  v719.toNat
def k0_dev38 (v0 : BitVec 32) : Nat :=
  let c0_i32_751 : BitVec 32 := 0#32
  let c1_i32_750 : BitVec 32 := 1#32
  let v720 : BitVec 32 := Scalar.muli v0 c1_i32_750
  let v721 : BitVec 32 := Scalar.addi c0_i32_751 v720
  v721.toNat
def k0_dev39 (v0 : BitVec 32) : Nat :=
  let c0_i32_782 : BitVec 32 := 0#32
  let c1_i32_781 : BitVec 32 := 1#32
  let v737 : BitVec 32 := Scalar.muli v0 c1_i32_781
  let v738 : BitVec 32 := Scalar.addi c0_i32_782 v737
  v738.toNat
def k0_dev40 (v1 : BitVec 32) : Nat :=
  let c0_i32_795 : BitVec 32 := 0#32
  let c1_i32_794 : BitVec 32 := 1#32
  let v750 : BitVec 32 := Scalar.muli v1 c1_i32_794
  let v751 : BitVec 32 := Scalar.addi c0_i32_795 v750
  v751.toNat
def k0_off21 (v760 : BitVec 32) : Fin 2 → Nat :=
  let c128_i32_800 : BitVec 32 := 128#32
  let v761 : BitVec 32 := Scalar.muli v760 c128_i32_800
  let v762 : Index := Scalar.indexCast v761
  let c0_801 : Index := 0#32
  ![v762.toNat, 0]

def k0_chk23 (v760 : BitVec 32) : Prop :=
  (∀ a, (k0_off21 v760) a + S128x128.size a ≤ S4096x128.size a)
theorem k0_off21_inb : ∀ (v760 : BitVec 32) (k0_hw23 : k0_chk23 v760), ∀ a, (k0_off21 v760) a + S128x128.size a ≤ S4096x128.size a := fun v760 k0_hw23 => k0_hw23

def k0_off22 (v768 : BitVec 32) : Fin 2 → Nat :=
  let c128_i32_804 : BitVec 32 := 128#32
  let v769 : BitVec 32 := Scalar.muli v768 c128_i32_804
  let v770 : Index := Scalar.indexCast v769
  let c0_805 : Index := 0#32
  ![v770.toNat, 0]

def k0_chk24 (v768 : BitVec 32) : Prop :=
  (∀ a, (k0_off22 v768) a + S128x128.size a ≤ S4096x128.size a)
theorem k0_off22_inb : ∀ (v768 : BitVec 32) (k0_hw24 : k0_chk24 v768), ∀ a, (k0_off22 v768) a + S128x128.size a ≤ S4096x128.size a := fun v768 k0_hw24 => k0_hw24

def k0_dev41 (v1 : BitVec 32) : Nat :=
  let c0_i32_835 : BitVec 32 := 0#32
  let c1_i32_834 : BitVec 32 := 1#32
  let v798 : BitVec 32 := Scalar.muli v1 c1_i32_834
  let v799 : BitVec 32 := Scalar.addi c0_i32_835 v798
  v799.toNat
def k0_dev42 (v0 : BitVec 32) : Nat :=
  let c0_i32_838 : BitVec 32 := 0#32
  let c1_i32_837 : BitVec 32 := 1#32
  let v800 : BitVec 32 := Scalar.muli v0 c1_i32_837
  let v801 : BitVec 32 := Scalar.addi c0_i32_838 v800
  v801.toNat
def k0_dev43 (v0 : BitVec 32) : Nat :=
  let c0_i32_869 : BitVec 32 := 0#32
  let c1_i32_868 : BitVec 32 := 1#32
  let v817 : BitVec 32 := Scalar.muli v0 c1_i32_868
  let v818 : BitVec 32 := Scalar.addi c0_i32_869 v817
  v818.toNat
def k0_dev44 (v1 : BitVec 32) : Nat :=
  let c0_i32_882 : BitVec 32 := 0#32
  let c1_i32_881 : BitVec 32 := 1#32
  let v830 : BitVec 32 := Scalar.muli v1 c1_i32_881
  let v831 : BitVec 32 := Scalar.addi c0_i32_882 v830
  v831.toNat
def k0_off23 (v840 : BitVec 32) : Fin 2 → Nat :=
  let c128_i32_887 : BitVec 32 := 128#32
  let v841 : BitVec 32 := Scalar.muli v840 c128_i32_887
  let v842 : Index := Scalar.indexCast v841
  let c0_888 : Index := 0#32
  ![v842.toNat, 0]

def k0_chk25 (v840 : BitVec 32) : Prop :=
  (∀ a, (k0_off23 v840) a + S128x128.size a ≤ S4096x128.size a)
theorem k0_off23_inb : ∀ (v840 : BitVec 32) (k0_hw25 : k0_chk25 v840), ∀ a, (k0_off23 v840) a + S128x128.size a ≤ S4096x128.size a := fun v840 k0_hw25 => k0_hw25

def k0_off24 (v848 : BitVec 32) : Fin 2 → Nat :=
  let c128_i32_891 : BitVec 32 := 128#32
  let v849 : BitVec 32 := Scalar.muli v848 c128_i32_891
  let v850 : Index := Scalar.indexCast v849
  let c0_892 : Index := 0#32
  ![v850.toNat, 0]

def k0_chk26 (v848 : BitVec 32) : Prop :=
  (∀ a, (k0_off24 v848) a + S128x128.size a ≤ S4096x128.size a)
theorem k0_off24_inb : ∀ (v848 : BitVec 32) (k0_hw26 : k0_chk26 v848), ∀ a, (k0_off24 v848) a + S128x128.size a ≤ S4096x128.size a := fun v848 k0_hw26 => k0_hw26

def k0_dev45 (v1 : BitVec 32) : Nat :=
  let c0_i32_922 : BitVec 32 := 0#32
  let c1_i32_921 : BitVec 32 := 1#32
  let v878 : BitVec 32 := Scalar.muli v1 c1_i32_921
  let v879 : BitVec 32 := Scalar.addi c0_i32_922 v878
  v879.toNat
def k0_dev46 (v0 : BitVec 32) : Nat :=
  let c0_i32_925 : BitVec 32 := 0#32
  let c1_i32_924 : BitVec 32 := 1#32
  let v880 : BitVec 32 := Scalar.muli v0 c1_i32_924
  let v881 : BitVec 32 := Scalar.addi c0_i32_925 v880
  v881.toNat
def k0_dev47 (v0 : BitVec 32) : Nat :=
  let c0_i32_956 : BitVec 32 := 0#32
  let c1_i32_955 : BitVec 32 := 1#32
  let v897 : BitVec 32 := Scalar.muli v0 c1_i32_955
  let v898 : BitVec 32 := Scalar.addi c0_i32_956 v897
  v898.toNat
def k0_dev48 (v1 : BitVec 32) : Nat :=
  let c0_i32_969 : BitVec 32 := 0#32
  let c1_i32_968 : BitVec 32 := 1#32
  let v910 : BitVec 32 := Scalar.muli v1 c1_i32_968
  let v911 : BitVec 32 := Scalar.addi c0_i32_969 v910
  v911.toNat
def k0_off25 (v920 : BitVec 32) : Fin 2 → Nat :=
  let c128_i32_974 : BitVec 32 := 128#32
  let v921 : BitVec 32 := Scalar.muli v920 c128_i32_974
  let v922 : Index := Scalar.indexCast v921
  let c0_975 : Index := 0#32
  ![v922.toNat, 0]

def k0_chk27 (v920 : BitVec 32) : Prop :=
  (∀ a, (k0_off25 v920) a + S128x128.size a ≤ S4096x128.size a)
theorem k0_off25_inb : ∀ (v920 : BitVec 32) (k0_hw27 : k0_chk27 v920), ∀ a, (k0_off25 v920) a + S128x128.size a ≤ S4096x128.size a := fun v920 k0_hw27 => k0_hw27

def k0_off26 (v928 : BitVec 32) : Fin 2 → Nat :=
  let c128_i32_978 : BitVec 32 := 128#32
  let v929 : BitVec 32 := Scalar.muli v928 c128_i32_978
  let v930 : Index := Scalar.indexCast v929
  let c0_979 : Index := 0#32
  ![v930.toNat, 0]

def k0_chk28 (v928 : BitVec 32) : Prop :=
  (∀ a, (k0_off26 v928) a + S128x128.size a ≤ S4096x128.size a)
theorem k0_off26_inb : ∀ (v928 : BitVec 32) (k0_hw28 : k0_chk28 v928), ∀ a, (k0_off26 v928) a + S128x128.size a ≤ S4096x128.size a := fun v928 k0_hw28 => k0_hw28

def k0_dev49 (v1 : BitVec 32) : Nat :=
  let c0_i32_1009 : BitVec 32 := 0#32
  let c1_i32_1008 : BitVec 32 := 1#32
  let v958 : BitVec 32 := Scalar.muli v1 c1_i32_1008
  let v959 : BitVec 32 := Scalar.addi c0_i32_1009 v958
  v959.toNat
def k0_dev50 (v0 : BitVec 32) : Nat :=
  let c0_i32_1012 : BitVec 32 := 0#32
  let c1_i32_1011 : BitVec 32 := 1#32
  let v960 : BitVec 32 := Scalar.muli v0 c1_i32_1011
  let v961 : BitVec 32 := Scalar.addi c0_i32_1012 v960
  v961.toNat
def k0_dev51 (v0 : BitVec 32) : Nat :=
  let c0_i32_1043 : BitVec 32 := 0#32
  let c1_i32_1042 : BitVec 32 := 1#32
  let v977 : BitVec 32 := Scalar.muli v0 c1_i32_1042
  let v978 : BitVec 32 := Scalar.addi c0_i32_1043 v977
  v978.toNat
def k0_dev52 (v1 : BitVec 32) : Nat :=
  let c0_i32_1056 : BitVec 32 := 0#32
  let c1_i32_1055 : BitVec 32 := 1#32
  let v990 : BitVec 32 := Scalar.muli v1 c1_i32_1055
  let v991 : BitVec 32 := Scalar.addi c0_i32_1056 v990
  v991.toNat
def k0_off27 (v1000 : BitVec 32) : Fin 2 → Nat :=
  let c128_i32_1061 : BitVec 32 := 128#32
  let v1001 : BitVec 32 := Scalar.muli v1000 c128_i32_1061
  let v1002 : Index := Scalar.indexCast v1001
  let c0_1062 : Index := 0#32
  ![v1002.toNat, 0]

def k0_chk29 (v1000 : BitVec 32) : Prop :=
  (∀ a, (k0_off27 v1000) a + S128x128.size a ≤ S4096x128.size a)
theorem k0_off27_inb : ∀ (v1000 : BitVec 32) (k0_hw29 : k0_chk29 v1000), ∀ a, (k0_off27 v1000) a + S128x128.size a ≤ S4096x128.size a := fun v1000 k0_hw29 => k0_hw29

def k0_off28 (v1008 : BitVec 32) : Fin 2 → Nat :=
  let c128_i32_1065 : BitVec 32 := 128#32
  let v1009 : BitVec 32 := Scalar.muli v1008 c128_i32_1065
  let v1010 : Index := Scalar.indexCast v1009
  let c0_1066 : Index := 0#32
  ![v1010.toNat, 0]

def k0_chk30 (v1008 : BitVec 32) : Prop :=
  (∀ a, (k0_off28 v1008) a + S128x128.size a ≤ S4096x128.size a)
theorem k0_off28_inb : ∀ (v1008 : BitVec 32) (k0_hw30 : k0_chk30 v1008), ∀ a, (k0_off28 v1008) a + S128x128.size a ≤ S4096x128.size a := fun v1008 k0_hw30 => k0_hw30

def k0_dev53 (v1 : BitVec 32) : Nat :=
  let c0_i32_1096 : BitVec 32 := 0#32
  let c1_i32_1095 : BitVec 32 := 1#32
  let v1038 : BitVec 32 := Scalar.muli v1 c1_i32_1095
  let v1039 : BitVec 32 := Scalar.addi c0_i32_1096 v1038
  v1039.toNat
def k0_dev54 (v0 : BitVec 32) : Nat :=
  let c0_i32_1099 : BitVec 32 := 0#32
  let c1_i32_1098 : BitVec 32 := 1#32
  let v1040 : BitVec 32 := Scalar.muli v0 c1_i32_1098
  let v1041 : BitVec 32 := Scalar.addi c0_i32_1099 v1040
  v1041.toNat
def k0_dev55 (v0 : BitVec 32) : Nat :=
  let c0_i32_1130 : BitVec 32 := 0#32
  let c1_i32_1129 : BitVec 32 := 1#32
  let v1057 : BitVec 32 := Scalar.muli v0 c1_i32_1129
  let v1058 : BitVec 32 := Scalar.addi c0_i32_1130 v1057
  v1058.toNat
def k0_dev56 (v1 : BitVec 32) : Nat :=
  let c0_i32_1143 : BitVec 32 := 0#32
  let c1_i32_1142 : BitVec 32 := 1#32
  let v1070 : BitVec 32 := Scalar.muli v1 c1_i32_1142
  let v1071 : BitVec 32 := Scalar.addi c0_i32_1143 v1070
  v1071.toNat
def k0_off29 (v1080 : BitVec 32) : Fin 2 → Nat :=
  let c128_i32_1148 : BitVec 32 := 128#32
  let v1081 : BitVec 32 := Scalar.muli v1080 c128_i32_1148
  let v1082 : Index := Scalar.indexCast v1081
  let c0_1149 : Index := 0#32
  ![v1082.toNat, 0]

def k0_chk31 (v1080 : BitVec 32) : Prop :=
  (∀ a, (k0_off29 v1080) a + S128x128.size a ≤ S4096x128.size a)
theorem k0_off29_inb : ∀ (v1080 : BitVec 32) (k0_hw31 : k0_chk31 v1080), ∀ a, (k0_off29 v1080) a + S128x128.size a ≤ S4096x128.size a := fun v1080 k0_hw31 => k0_hw31

def k0_off30 (v1088 : BitVec 32) : Fin 2 → Nat :=
  let c128_i32_1152 : BitVec 32 := 128#32
  let v1089 : BitVec 32 := Scalar.muli v1088 c128_i32_1152
  let v1090 : Index := Scalar.indexCast v1089
  let c0_1153 : Index := 0#32
  ![v1090.toNat, 0]

def k0_chk32 (v1088 : BitVec 32) : Prop :=
  (∀ a, (k0_off30 v1088) a + S128x128.size a ≤ S4096x128.size a)
theorem k0_off30_inb : ∀ (v1088 : BitVec 32) (k0_hw32 : k0_chk32 v1088), ∀ a, (k0_off30 v1088) a + S128x128.size a ≤ S4096x128.size a := fun v1088 k0_hw32 => k0_hw32

def k0_dev57 (v1 : BitVec 32) : Nat :=
  let c0_i32_1183 : BitVec 32 := 0#32
  let c1_i32_1182 : BitVec 32 := 1#32
  let v1118 : BitVec 32 := Scalar.muli v1 c1_i32_1182
  let v1119 : BitVec 32 := Scalar.addi c0_i32_1183 v1118
  v1119.toNat
def k0_dev58 (v0 : BitVec 32) : Nat :=
  let c0_i32_1186 : BitVec 32 := 0#32
  let c1_i32_1185 : BitVec 32 := 1#32
  let v1120 : BitVec 32 := Scalar.muli v0 c1_i32_1185
  let v1121 : BitVec 32 := Scalar.addi c0_i32_1186 v1120
  v1121.toNat
def k0_dev59 (v0 : BitVec 32) : Nat :=
  let c0_i32_1217 : BitVec 32 := 0#32
  let c1_i32_1216 : BitVec 32 := 1#32
  let v1137 : BitVec 32 := Scalar.muli v0 c1_i32_1216
  let v1138 : BitVec 32 := Scalar.addi c0_i32_1217 v1137
  v1138.toNat
def k0_dev60 (v1 : BitVec 32) : Nat :=
  let c0_i32_1230 : BitVec 32 := 0#32
  let c1_i32_1229 : BitVec 32 := 1#32
  let v1150 : BitVec 32 := Scalar.muli v1 c1_i32_1229
  let v1151 : BitVec 32 := Scalar.addi c0_i32_1230 v1150
  v1151.toNat
def k0_off31 (v1160 : BitVec 32) : Fin 2 → Nat :=
  let c128_i32_1235 : BitVec 32 := 128#32
  let v1161 : BitVec 32 := Scalar.muli v1160 c128_i32_1235
  let v1162 : Index := Scalar.indexCast v1161
  let c0_1236 : Index := 0#32
  ![v1162.toNat, 0]

def k0_chk33 (v1160 : BitVec 32) : Prop :=
  (∀ a, (k0_off31 v1160) a + S128x128.size a ≤ S4096x128.size a)
theorem k0_off31_inb : ∀ (v1160 : BitVec 32) (k0_hw33 : k0_chk33 v1160), ∀ a, (k0_off31 v1160) a + S128x128.size a ≤ S4096x128.size a := fun v1160 k0_hw33 => k0_hw33

def k0_off32 (v1168 : BitVec 32) : Fin 2 → Nat :=
  let c128_i32_1239 : BitVec 32 := 128#32
  let v1169 : BitVec 32 := Scalar.muli v1168 c128_i32_1239
  let v1170 : Index := Scalar.indexCast v1169
  let c0_1240 : Index := 0#32
  ![v1170.toNat, 0]

def k0_chk34 (v1168 : BitVec 32) : Prop :=
  (∀ a, (k0_off32 v1168) a + S128x128.size a ≤ S4096x128.size a)
theorem k0_off32_inb : ∀ (v1168 : BitVec 32) (k0_hw34 : k0_chk34 v1168), ∀ a, (k0_off32 v1168) a + S128x128.size a ≤ S4096x128.size a := fun v1168 k0_hw34 => k0_hw34

def k0_dev61 (v1 : BitVec 32) : Nat :=
  let c0_i32_1270 : BitVec 32 := 0#32
  let c1_i32_1269 : BitVec 32 := 1#32
  let v1198 : BitVec 32 := Scalar.muli v1 c1_i32_1269
  let v1199 : BitVec 32 := Scalar.addi c0_i32_1270 v1198
  v1199.toNat
def k0_dev62 (v0 : BitVec 32) : Nat :=
  let c0_i32_1273 : BitVec 32 := 0#32
  let c1_i32_1272 : BitVec 32 := 1#32
  let v1200 : BitVec 32 := Scalar.muli v0 c1_i32_1272
  let v1201 : BitVec 32 := Scalar.addi c0_i32_1273 v1200
  v1201.toNat
def k0_dev63 (v0 : BitVec 32) : Nat :=
  let c0_i32_1304 : BitVec 32 := 0#32
  let c1_i32_1303 : BitVec 32 := 1#32
  let v1217 : BitVec 32 := Scalar.muli v0 c1_i32_1303
  let v1218 : BitVec 32 := Scalar.addi c0_i32_1304 v1217
  v1218.toNat
def k0_dev64 (v1 : BitVec 32) : Nat :=
  let c0_i32_1317 : BitVec 32 := 0#32
  let c1_i32_1316 : BitVec 32 := 1#32
  let v1230 : BitVec 32 := Scalar.muli v1 c1_i32_1316
  let v1231 : BitVec 32 := Scalar.addi c0_i32_1317 v1230
  v1231.toNat
def k0_off33 (v1240 : BitVec 32) : Fin 2 → Nat :=
  let c128_i32_1322 : BitVec 32 := 128#32
  let v1241 : BitVec 32 := Scalar.muli v1240 c128_i32_1322
  let v1242 : Index := Scalar.indexCast v1241
  let c0_1323 : Index := 0#32
  ![v1242.toNat, 0]

def k0_chk35 (v1240 : BitVec 32) : Prop :=
  (∀ a, (k0_off33 v1240) a + S128x128.size a ≤ S4096x128.size a)
theorem k0_off33_inb : ∀ (v1240 : BitVec 32) (k0_hw35 : k0_chk35 v1240), ∀ a, (k0_off33 v1240) a + S128x128.size a ≤ S4096x128.size a := fun v1240 k0_hw35 => k0_hw35

def k0_off34 (v1248 : BitVec 32) : Fin 2 → Nat :=
  let c128_i32_1326 : BitVec 32 := 128#32
  let v1249 : BitVec 32 := Scalar.muli v1248 c128_i32_1326
  let v1250 : Index := Scalar.indexCast v1249
  let c0_1327 : Index := 0#32
  ![v1250.toNat, 0]

def k0_chk36 (v1248 : BitVec 32) : Prop :=
  (∀ a, (k0_off34 v1248) a + S128x128.size a ≤ S4096x128.size a)
theorem k0_off34_inb : ∀ (v1248 : BitVec 32) (k0_hw36 : k0_chk36 v1248), ∀ a, (k0_off34 v1248) a + S128x128.size a ≤ S4096x128.size a := fun v1248 k0_hw36 => k0_hw36

def k0_dev65 (v1 : BitVec 32) : Nat :=
  let c0_i32_1357 : BitVec 32 := 0#32
  let c1_i32_1356 : BitVec 32 := 1#32
  let v1278 : BitVec 32 := Scalar.muli v1 c1_i32_1356
  let v1279 : BitVec 32 := Scalar.addi c0_i32_1357 v1278
  v1279.toNat
def k0_dev66 (v0 : BitVec 32) : Nat :=
  let c0_i32_1360 : BitVec 32 := 0#32
  let c1_i32_1359 : BitVec 32 := 1#32
  let v1280 : BitVec 32 := Scalar.muli v0 c1_i32_1359
  let v1281 : BitVec 32 := Scalar.addi c0_i32_1360 v1280
  v1281.toNat
def k0_dev67 (v0 : BitVec 32) : Nat :=
  let c0_i32_1391 : BitVec 32 := 0#32
  let c1_i32_1390 : BitVec 32 := 1#32
  let v1297 : BitVec 32 := Scalar.muli v0 c1_i32_1390
  let v1298 : BitVec 32 := Scalar.addi c0_i32_1391 v1297
  v1298.toNat
def k0_dev68 (v1 : BitVec 32) : Nat :=
  let c0_i32_1404 : BitVec 32 := 0#32
  let c1_i32_1403 : BitVec 32 := 1#32
  let v1310 : BitVec 32 := Scalar.muli v1 c1_i32_1403
  let v1311 : BitVec 32 := Scalar.addi c0_i32_1404 v1310
  v1311.toNat
def k0_off35 (v1320 : BitVec 32) : Fin 2 → Nat :=
  let c128_i32_1409 : BitVec 32 := 128#32
  let v1321 : BitVec 32 := Scalar.muli v1320 c128_i32_1409
  let v1322 : Index := Scalar.indexCast v1321
  let c0_1410 : Index := 0#32
  ![v1322.toNat, 0]

def k0_chk37 (v1320 : BitVec 32) : Prop :=
  (∀ a, (k0_off35 v1320) a + S128x128.size a ≤ S4096x128.size a)
theorem k0_off35_inb : ∀ (v1320 : BitVec 32) (k0_hw37 : k0_chk37 v1320), ∀ a, (k0_off35 v1320) a + S128x128.size a ≤ S4096x128.size a := fun v1320 k0_hw37 => k0_hw37

def k0_off36 (v1328 : BitVec 32) : Fin 2 → Nat :=
  let c128_i32_1413 : BitVec 32 := 128#32
  let v1329 : BitVec 32 := Scalar.muli v1328 c128_i32_1413
  let v1330 : Index := Scalar.indexCast v1329
  let c0_1414 : Index := 0#32
  ![v1330.toNat, 0]

def k0_chk38 (v1328 : BitVec 32) : Prop :=
  (∀ a, (k0_off36 v1328) a + S128x128.size a ≤ S4096x128.size a)
theorem k0_off36_inb : ∀ (v1328 : BitVec 32) (k0_hw38 : k0_chk38 v1328), ∀ a, (k0_off36 v1328) a + S128x128.size a ≤ S4096x128.size a := fun v1328 k0_hw38 => k0_hw38

def k0_dev69 (v1 : BitVec 32) : Nat :=
  let c0_i32_1444 : BitVec 32 := 0#32
  let c1_i32_1443 : BitVec 32 := 1#32
  let v1358 : BitVec 32 := Scalar.muli v1 c1_i32_1443
  let v1359 : BitVec 32 := Scalar.addi c0_i32_1444 v1358
  v1359.toNat
def k0_dev70 (v0 : BitVec 32) : Nat :=
  let c0_i32_1447 : BitVec 32 := 0#32
  let c1_i32_1446 : BitVec 32 := 1#32
  let v1360 : BitVec 32 := Scalar.muli v0 c1_i32_1446
  let v1361 : BitVec 32 := Scalar.addi c0_i32_1447 v1360
  v1361.toNat
def k0_dev71 (v0 : BitVec 32) : Nat :=
  let c0_i32_1478 : BitVec 32 := 0#32
  let c1_i32_1477 : BitVec 32 := 1#32
  let v1377 : BitVec 32 := Scalar.muli v0 c1_i32_1477
  let v1378 : BitVec 32 := Scalar.addi c0_i32_1478 v1377
  v1378.toNat
def k0_dev72 (v1 : BitVec 32) : Nat :=
  let c0_i32_1491 : BitVec 32 := 0#32
  let c1_i32_1490 : BitVec 32 := 1#32
  let v1390 : BitVec 32 := Scalar.muli v1 c1_i32_1490
  let v1391 : BitVec 32 := Scalar.addi c0_i32_1491 v1390
  v1391.toNat
def k0_off37 (v1400 : BitVec 32) : Fin 2 → Nat :=
  let c128_i32_1496 : BitVec 32 := 128#32
  let v1401 : BitVec 32 := Scalar.muli v1400 c128_i32_1496
  let v1402 : Index := Scalar.indexCast v1401
  let c0_1497 : Index := 0#32
  ![v1402.toNat, 0]

def k0_chk39 (v1400 : BitVec 32) : Prop :=
  (∀ a, (k0_off37 v1400) a + S128x128.size a ≤ S4096x128.size a)
theorem k0_off37_inb : ∀ (v1400 : BitVec 32) (k0_hw39 : k0_chk39 v1400), ∀ a, (k0_off37 v1400) a + S128x128.size a ≤ S4096x128.size a := fun v1400 k0_hw39 => k0_hw39

def k0_off38 (v1408 : BitVec 32) : Fin 2 → Nat :=
  let c128_i32_1500 : BitVec 32 := 128#32
  let v1409 : BitVec 32 := Scalar.muli v1408 c128_i32_1500
  let v1410 : Index := Scalar.indexCast v1409
  let c0_1501 : Index := 0#32
  ![v1410.toNat, 0]

def k0_chk40 (v1408 : BitVec 32) : Prop :=
  (∀ a, (k0_off38 v1408) a + S128x128.size a ≤ S4096x128.size a)
theorem k0_off38_inb : ∀ (v1408 : BitVec 32) (k0_hw40 : k0_chk40 v1408), ∀ a, (k0_off38 v1408) a + S128x128.size a ≤ S4096x128.size a := fun v1408 k0_hw40 => k0_hw40

def k0_dev73 (v1 : BitVec 32) : Nat :=
  let c0_i32_1531 : BitVec 32 := 0#32
  let c1_i32_1530 : BitVec 32 := 1#32
  let v1438 : BitVec 32 := Scalar.muli v1 c1_i32_1530
  let v1439 : BitVec 32 := Scalar.addi c0_i32_1531 v1438
  v1439.toNat
def k0_dev74 (v0 : BitVec 32) : Nat :=
  let c0_i32_1534 : BitVec 32 := 0#32
  let c1_i32_1533 : BitVec 32 := 1#32
  let v1440 : BitVec 32 := Scalar.muli v0 c1_i32_1533
  let v1441 : BitVec 32 := Scalar.addi c0_i32_1534 v1440
  v1441.toNat
def k0_dev75 (v0 : BitVec 32) : Nat :=
  let c0_i32_1565 : BitVec 32 := 0#32
  let c1_i32_1564 : BitVec 32 := 1#32
  let v1457 : BitVec 32 := Scalar.muli v0 c1_i32_1564
  let v1458 : BitVec 32 := Scalar.addi c0_i32_1565 v1457
  v1458.toNat
def k0_dev76 (v1 : BitVec 32) : Nat :=
  let c0_i32_1578 : BitVec 32 := 0#32
  let c1_i32_1577 : BitVec 32 := 1#32
  let v1470 : BitVec 32 := Scalar.muli v1 c1_i32_1577
  let v1471 : BitVec 32 := Scalar.addi c0_i32_1578 v1470
  v1471.toNat
def k0_off39 (v1480 : BitVec 32) : Fin 2 → Nat :=
  let c128_i32_1583 : BitVec 32 := 128#32
  let v1481 : BitVec 32 := Scalar.muli v1480 c128_i32_1583
  let v1482 : Index := Scalar.indexCast v1481
  let c0_1584 : Index := 0#32
  ![v1482.toNat, 0]

def k0_chk41 (v1480 : BitVec 32) : Prop :=
  (∀ a, (k0_off39 v1480) a + S128x128.size a ≤ S4096x128.size a)
theorem k0_off39_inb : ∀ (v1480 : BitVec 32) (k0_hw41 : k0_chk41 v1480), ∀ a, (k0_off39 v1480) a + S128x128.size a ≤ S4096x128.size a := fun v1480 k0_hw41 => k0_hw41

def k0_off40 (v1488 : BitVec 32) : Fin 2 → Nat :=
  let c128_i32_1587 : BitVec 32 := 128#32
  let v1489 : BitVec 32 := Scalar.muli v1488 c128_i32_1587
  let v1490 : Index := Scalar.indexCast v1489
  let c0_1588 : Index := 0#32
  ![v1490.toNat, 0]

def k0_chk42 (v1488 : BitVec 32) : Prop :=
  (∀ a, (k0_off40 v1488) a + S128x128.size a ≤ S4096x128.size a)
theorem k0_off40_inb : ∀ (v1488 : BitVec 32) (k0_hw42 : k0_chk42 v1488), ∀ a, (k0_off40 v1488) a + S128x128.size a ≤ S4096x128.size a := fun v1488 k0_hw42 => k0_hw42

def k0_dev77 (v1 : BitVec 32) : Nat :=
  let c0_i32_1618 : BitVec 32 := 0#32
  let c1_i32_1617 : BitVec 32 := 1#32
  let v1518 : BitVec 32 := Scalar.muli v1 c1_i32_1617
  let v1519 : BitVec 32 := Scalar.addi c0_i32_1618 v1518
  v1519.toNat
def k0_dev78 (v0 : BitVec 32) : Nat :=
  let c0_i32_1621 : BitVec 32 := 0#32
  let c1_i32_1620 : BitVec 32 := 1#32
  let v1520 : BitVec 32 := Scalar.muli v0 c1_i32_1620
  let v1521 : BitVec 32 := Scalar.addi c0_i32_1621 v1520
  v1521.toNat
def k0_dev79 (v0 : BitVec 32) : Nat :=
  let c0_i32_1652 : BitVec 32 := 0#32
  let c1_i32_1651 : BitVec 32 := 1#32
  let v1537 : BitVec 32 := Scalar.muli v0 c1_i32_1651
  let v1538 : BitVec 32 := Scalar.addi c0_i32_1652 v1537
  v1538.toNat
def k0_dev80 (v1 : BitVec 32) : Nat :=
  let c0_i32_1665 : BitVec 32 := 0#32
  let c1_i32_1664 : BitVec 32 := 1#32
  let v1550 : BitVec 32 := Scalar.muli v1 c1_i32_1664
  let v1551 : BitVec 32 := Scalar.addi c0_i32_1665 v1550
  v1551.toNat
def k0_off41 (v1560 : BitVec 32) : Fin 2 → Nat :=
  let c128_i32_1670 : BitVec 32 := 128#32
  let v1561 : BitVec 32 := Scalar.muli v1560 c128_i32_1670
  let v1562 : Index := Scalar.indexCast v1561
  let c0_1671 : Index := 0#32
  ![v1562.toNat, 0]

def k0_chk43 (v1560 : BitVec 32) : Prop :=
  (∀ a, (k0_off41 v1560) a + S128x128.size a ≤ S4096x128.size a)
theorem k0_off41_inb : ∀ (v1560 : BitVec 32) (k0_hw43 : k0_chk43 v1560), ∀ a, (k0_off41 v1560) a + S128x128.size a ≤ S4096x128.size a := fun v1560 k0_hw43 => k0_hw43

def k0_off42 (v1568 : BitVec 32) : Fin 2 → Nat :=
  let c128_i32_1674 : BitVec 32 := 128#32
  let v1569 : BitVec 32 := Scalar.muli v1568 c128_i32_1674
  let v1570 : Index := Scalar.indexCast v1569
  let c0_1675 : Index := 0#32
  ![v1570.toNat, 0]

def k0_chk44 (v1568 : BitVec 32) : Prop :=
  (∀ a, (k0_off42 v1568) a + S128x128.size a ≤ S4096x128.size a)
theorem k0_off42_inb : ∀ (v1568 : BitVec 32) (k0_hw44 : k0_chk44 v1568), ∀ a, (k0_off42 v1568) a + S128x128.size a ≤ S4096x128.size a := fun v1568 k0_hw44 => k0_hw44

def k0_dev81 (v1 : BitVec 32) : Nat :=
  let c0_i32_1705 : BitVec 32 := 0#32
  let c1_i32_1704 : BitVec 32 := 1#32
  let v1598 : BitVec 32 := Scalar.muli v1 c1_i32_1704
  let v1599 : BitVec 32 := Scalar.addi c0_i32_1705 v1598
  v1599.toNat
def k0_dev82 (v0 : BitVec 32) : Nat :=
  let c0_i32_1708 : BitVec 32 := 0#32
  let c1_i32_1707 : BitVec 32 := 1#32
  let v1600 : BitVec 32 := Scalar.muli v0 c1_i32_1707
  let v1601 : BitVec 32 := Scalar.addi c0_i32_1708 v1600
  v1601.toNat
def k0_dev83 (v0 : BitVec 32) : Nat :=
  let c0_i32_1739 : BitVec 32 := 0#32
  let c1_i32_1738 : BitVec 32 := 1#32
  let v1617 : BitVec 32 := Scalar.muli v0 c1_i32_1738
  let v1618 : BitVec 32 := Scalar.addi c0_i32_1739 v1617
  v1618.toNat
def k0_dev84 (v1 : BitVec 32) : Nat :=
  let c0_i32_1752 : BitVec 32 := 0#32
  let c1_i32_1751 : BitVec 32 := 1#32
  let v1630 : BitVec 32 := Scalar.muli v1 c1_i32_1751
  let v1631 : BitVec 32 := Scalar.addi c0_i32_1752 v1630
  v1631.toNat
def k0_off43 (v1640 : BitVec 32) : Fin 2 → Nat :=
  let c128_i32_1757 : BitVec 32 := 128#32
  let v1641 : BitVec 32 := Scalar.muli v1640 c128_i32_1757
  let v1642 : Index := Scalar.indexCast v1641
  let c0_1758 : Index := 0#32
  ![v1642.toNat, 0]

def k0_chk45 (v1640 : BitVec 32) : Prop :=
  (∀ a, (k0_off43 v1640) a + S128x128.size a ≤ S4096x128.size a)
theorem k0_off43_inb : ∀ (v1640 : BitVec 32) (k0_hw45 : k0_chk45 v1640), ∀ a, (k0_off43 v1640) a + S128x128.size a ≤ S4096x128.size a := fun v1640 k0_hw45 => k0_hw45

def k0_off44 (v1648 : BitVec 32) : Fin 2 → Nat :=
  let c128_i32_1761 : BitVec 32 := 128#32
  let v1649 : BitVec 32 := Scalar.muli v1648 c128_i32_1761
  let v1650 : Index := Scalar.indexCast v1649
  let c0_1762 : Index := 0#32
  ![v1650.toNat, 0]

def k0_chk46 (v1648 : BitVec 32) : Prop :=
  (∀ a, (k0_off44 v1648) a + S128x128.size a ≤ S4096x128.size a)
theorem k0_off44_inb : ∀ (v1648 : BitVec 32) (k0_hw46 : k0_chk46 v1648), ∀ a, (k0_off44 v1648) a + S128x128.size a ≤ S4096x128.size a := fun v1648 k0_hw46 => k0_hw46

def k0_dev85 (v1 : BitVec 32) : Nat :=
  let c0_i32_1792 : BitVec 32 := 0#32
  let c1_i32_1791 : BitVec 32 := 1#32
  let v1678 : BitVec 32 := Scalar.muli v1 c1_i32_1791
  let v1679 : BitVec 32 := Scalar.addi c0_i32_1792 v1678
  v1679.toNat
def k0_dev86 (v0 : BitVec 32) : Nat :=
  let c0_i32_1795 : BitVec 32 := 0#32
  let c1_i32_1794 : BitVec 32 := 1#32
  let v1680 : BitVec 32 := Scalar.muli v0 c1_i32_1794
  let v1681 : BitVec 32 := Scalar.addi c0_i32_1795 v1680
  v1681.toNat
def k0_dev87 (v0 : BitVec 32) : Nat :=
  let c0_i32_1826 : BitVec 32 := 0#32
  let c1_i32_1825 : BitVec 32 := 1#32
  let v1697 : BitVec 32 := Scalar.muli v0 c1_i32_1825
  let v1698 : BitVec 32 := Scalar.addi c0_i32_1826 v1697
  v1698.toNat
def k0_dev88 (v1 : BitVec 32) : Nat :=
  let c0_i32_1839 : BitVec 32 := 0#32
  let c1_i32_1838 : BitVec 32 := 1#32
  let v1710 : BitVec 32 := Scalar.muli v1 c1_i32_1838
  let v1711 : BitVec 32 := Scalar.addi c0_i32_1839 v1710
  v1711.toNat
def k0_off45 (v1720 : BitVec 32) : Fin 2 → Nat :=
  let c128_i32_1844 : BitVec 32 := 128#32
  let v1721 : BitVec 32 := Scalar.muli v1720 c128_i32_1844
  let v1722 : Index := Scalar.indexCast v1721
  let c0_1845 : Index := 0#32
  ![v1722.toNat, 0]

def k0_chk47 (v1720 : BitVec 32) : Prop :=
  (∀ a, (k0_off45 v1720) a + S128x128.size a ≤ S4096x128.size a)
theorem k0_off45_inb : ∀ (v1720 : BitVec 32) (k0_hw47 : k0_chk47 v1720), ∀ a, (k0_off45 v1720) a + S128x128.size a ≤ S4096x128.size a := fun v1720 k0_hw47 => k0_hw47

def k0_off46 (v1728 : BitVec 32) : Fin 2 → Nat :=
  let c128_i32_1848 : BitVec 32 := 128#32
  let v1729 : BitVec 32 := Scalar.muli v1728 c128_i32_1848
  let v1730 : Index := Scalar.indexCast v1729
  let c0_1849 : Index := 0#32
  ![v1730.toNat, 0]

def k0_chk48 (v1728 : BitVec 32) : Prop :=
  (∀ a, (k0_off46 v1728) a + S128x128.size a ≤ S4096x128.size a)
theorem k0_off46_inb : ∀ (v1728 : BitVec 32) (k0_hw48 : k0_chk48 v1728), ∀ a, (k0_off46 v1728) a + S128x128.size a ≤ S4096x128.size a := fun v1728 k0_hw48 => k0_hw48

def k0_dev89 (v1 : BitVec 32) : Nat :=
  let c0_i32_1879 : BitVec 32 := 0#32
  let c1_i32_1878 : BitVec 32 := 1#32
  let v1758 : BitVec 32 := Scalar.muli v1 c1_i32_1878
  let v1759 : BitVec 32 := Scalar.addi c0_i32_1879 v1758
  v1759.toNat
def k0_dev90 (v0 : BitVec 32) : Nat :=
  let c0_i32_1882 : BitVec 32 := 0#32
  let c1_i32_1881 : BitVec 32 := 1#32
  let v1760 : BitVec 32 := Scalar.muli v0 c1_i32_1881
  let v1761 : BitVec 32 := Scalar.addi c0_i32_1882 v1760
  v1761.toNat
def k0_dev91 (v0 : BitVec 32) : Nat :=
  let c0_i32_1913 : BitVec 32 := 0#32
  let c1_i32_1912 : BitVec 32 := 1#32
  let v1777 : BitVec 32 := Scalar.muli v0 c1_i32_1912
  let v1778 : BitVec 32 := Scalar.addi c0_i32_1913 v1777
  v1778.toNat
def k0_dev92 (v1 : BitVec 32) : Nat :=
  let c0_i32_1926 : BitVec 32 := 0#32
  let c1_i32_1925 : BitVec 32 := 1#32
  let v1790 : BitVec 32 := Scalar.muli v1 c1_i32_1925
  let v1791 : BitVec 32 := Scalar.addi c0_i32_1926 v1790
  v1791.toNat
def k0_off47 (v1800 : BitVec 32) : Fin 2 → Nat :=
  let c128_i32_1931 : BitVec 32 := 128#32
  let v1801 : BitVec 32 := Scalar.muli v1800 c128_i32_1931
  let v1802 : Index := Scalar.indexCast v1801
  let c0_1932 : Index := 0#32
  ![v1802.toNat, 0]

def k0_chk49 (v1800 : BitVec 32) : Prop :=
  (∀ a, (k0_off47 v1800) a + S128x128.size a ≤ S4096x128.size a)
theorem k0_off47_inb : ∀ (v1800 : BitVec 32) (k0_hw49 : k0_chk49 v1800), ∀ a, (k0_off47 v1800) a + S128x128.size a ≤ S4096x128.size a := fun v1800 k0_hw49 => k0_hw49

def k0_off48 (v1808 : BitVec 32) : Fin 2 → Nat :=
  let c128_i32_1935 : BitVec 32 := 128#32
  let v1809 : BitVec 32 := Scalar.muli v1808 c128_i32_1935
  let v1810 : Index := Scalar.indexCast v1809
  let c0_1936 : Index := 0#32
  ![v1810.toNat, 0]

def k0_chk50 (v1808 : BitVec 32) : Prop :=
  (∀ a, (k0_off48 v1808) a + S128x128.size a ≤ S4096x128.size a)
theorem k0_off48_inb : ∀ (v1808 : BitVec 32) (k0_hw50 : k0_chk50 v1808), ∀ a, (k0_off48 v1808) a + S128x128.size a ≤ S4096x128.size a := fun v1808 k0_hw50 => k0_hw50

def k0_dev93 (v1 : BitVec 32) : Nat :=
  let c0_i32_1966 : BitVec 32 := 0#32
  let c1_i32_1965 : BitVec 32 := 1#32
  let v1838 : BitVec 32 := Scalar.muli v1 c1_i32_1965
  let v1839 : BitVec 32 := Scalar.addi c0_i32_1966 v1838
  v1839.toNat
def k0_dev94 (v0 : BitVec 32) : Nat :=
  let c0_i32_1969 : BitVec 32 := 0#32
  let c1_i32_1968 : BitVec 32 := 1#32
  let v1840 : BitVec 32 := Scalar.muli v0 c1_i32_1968
  let v1841 : BitVec 32 := Scalar.addi c0_i32_1969 v1840
  v1841.toNat
def k0_dev95 (v0 : BitVec 32) : Nat :=
  let c0_i32_2000 : BitVec 32 := 0#32
  let c1_i32_1999 : BitVec 32 := 1#32
  let v1857 : BitVec 32 := Scalar.muli v0 c1_i32_1999
  let v1858 : BitVec 32 := Scalar.addi c0_i32_2000 v1857
  v1858.toNat
def k0_dev96 (v1 : BitVec 32) : Nat :=
  let c0_i32_2013 : BitVec 32 := 0#32
  let c1_i32_2012 : BitVec 32 := 1#32
  let v1870 : BitVec 32 := Scalar.muli v1 c1_i32_2012
  let v1871 : BitVec 32 := Scalar.addi c0_i32_2013 v1870
  v1871.toNat
def k0_off49 (v1880 : BitVec 32) : Fin 2 → Nat :=
  let c128_i32_2018 : BitVec 32 := 128#32
  let v1881 : BitVec 32 := Scalar.muli v1880 c128_i32_2018
  let v1882 : Index := Scalar.indexCast v1881
  let c0_2019 : Index := 0#32
  ![v1882.toNat, 0]

def k0_chk51 (v1880 : BitVec 32) : Prop :=
  (∀ a, (k0_off49 v1880) a + S128x128.size a ≤ S4096x128.size a)
theorem k0_off49_inb : ∀ (v1880 : BitVec 32) (k0_hw51 : k0_chk51 v1880), ∀ a, (k0_off49 v1880) a + S128x128.size a ≤ S4096x128.size a := fun v1880 k0_hw51 => k0_hw51

def k0_off50 (v1888 : BitVec 32) : Fin 2 → Nat :=
  let c128_i32_2022 : BitVec 32 := 128#32
  let v1889 : BitVec 32 := Scalar.muli v1888 c128_i32_2022
  let v1890 : Index := Scalar.indexCast v1889
  let c0_2023 : Index := 0#32
  ![v1890.toNat, 0]

def k0_chk52 (v1888 : BitVec 32) : Prop :=
  (∀ a, (k0_off50 v1888) a + S128x128.size a ≤ S4096x128.size a)
theorem k0_off50_inb : ∀ (v1888 : BitVec 32) (k0_hw52 : k0_chk52 v1888), ∀ a, (k0_off50 v1888) a + S128x128.size a ≤ S4096x128.size a := fun v1888 k0_hw52 => k0_hw52

def k0_dev97 (v1 : BitVec 32) : Nat :=
  let c0_i32_2053 : BitVec 32 := 0#32
  let c1_i32_2052 : BitVec 32 := 1#32
  let v1918 : BitVec 32 := Scalar.muli v1 c1_i32_2052
  let v1919 : BitVec 32 := Scalar.addi c0_i32_2053 v1918
  v1919.toNat
def k0_dev98 (v0 : BitVec 32) : Nat :=
  let c0_i32_2056 : BitVec 32 := 0#32
  let c1_i32_2055 : BitVec 32 := 1#32
  let v1920 : BitVec 32 := Scalar.muli v0 c1_i32_2055
  let v1921 : BitVec 32 := Scalar.addi c0_i32_2056 v1920
  v1921.toNat
def k0_dev99 (v0 : BitVec 32) : Nat :=
  let c0_i32_2087 : BitVec 32 := 0#32
  let c1_i32_2086 : BitVec 32 := 1#32
  let v1937 : BitVec 32 := Scalar.muli v0 c1_i32_2086
  let v1938 : BitVec 32 := Scalar.addi c0_i32_2087 v1937
  v1938.toNat
def k0_dev100 (v1 : BitVec 32) : Nat :=
  let c0_i32_2100 : BitVec 32 := 0#32
  let c1_i32_2099 : BitVec 32 := 1#32
  let v1950 : BitVec 32 := Scalar.muli v1 c1_i32_2099
  let v1951 : BitVec 32 := Scalar.addi c0_i32_2100 v1950
  v1951.toNat
def k0_off51 (v1960 : BitVec 32) : Fin 2 → Nat :=
  let c128_i32_2105 : BitVec 32 := 128#32
  let v1961 : BitVec 32 := Scalar.muli v1960 c128_i32_2105
  let v1962 : Index := Scalar.indexCast v1961
  let c0_2106 : Index := 0#32
  ![v1962.toNat, 0]

def k0_chk53 (v1960 : BitVec 32) : Prop :=
  (∀ a, (k0_off51 v1960) a + S128x128.size a ≤ S4096x128.size a)
theorem k0_off51_inb : ∀ (v1960 : BitVec 32) (k0_hw53 : k0_chk53 v1960), ∀ a, (k0_off51 v1960) a + S128x128.size a ≤ S4096x128.size a := fun v1960 k0_hw53 => k0_hw53

def k0_off52 (v1968 : BitVec 32) : Fin 2 → Nat :=
  let c128_i32_2109 : BitVec 32 := 128#32
  let v1969 : BitVec 32 := Scalar.muli v1968 c128_i32_2109
  let v1970 : Index := Scalar.indexCast v1969
  let c0_2110 : Index := 0#32
  ![v1970.toNat, 0]

def k0_chk54 (v1968 : BitVec 32) : Prop :=
  (∀ a, (k0_off52 v1968) a + S128x128.size a ≤ S4096x128.size a)
theorem k0_off52_inb : ∀ (v1968 : BitVec 32) (k0_hw54 : k0_chk54 v1968), ∀ a, (k0_off52 v1968) a + S128x128.size a ≤ S4096x128.size a := fun v1968 k0_hw54 => k0_hw54

def k0_dev101 (v1 : BitVec 32) : Nat :=
  let c0_i32_2140 : BitVec 32 := 0#32
  let c1_i32_2139 : BitVec 32 := 1#32
  let v1998 : BitVec 32 := Scalar.muli v1 c1_i32_2139
  let v1999 : BitVec 32 := Scalar.addi c0_i32_2140 v1998
  v1999.toNat
def k0_dev102 (v0 : BitVec 32) : Nat :=
  let c0_i32_2143 : BitVec 32 := 0#32
  let c1_i32_2142 : BitVec 32 := 1#32
  let v2000 : BitVec 32 := Scalar.muli v0 c1_i32_2142
  let v2001 : BitVec 32 := Scalar.addi c0_i32_2143 v2000
  v2001.toNat
def k0_dev103 (v0 : BitVec 32) : Nat :=
  let c0_i32_2174 : BitVec 32 := 0#32
  let c1_i32_2173 : BitVec 32 := 1#32
  let v2017 : BitVec 32 := Scalar.muli v0 c1_i32_2173
  let v2018 : BitVec 32 := Scalar.addi c0_i32_2174 v2017
  v2018.toNat
def k0_dev104 (v1 : BitVec 32) : Nat :=
  let c0_i32_2187 : BitVec 32 := 0#32
  let c1_i32_2186 : BitVec 32 := 1#32
  let v2030 : BitVec 32 := Scalar.muli v1 c1_i32_2186
  let v2031 : BitVec 32 := Scalar.addi c0_i32_2187 v2030
  v2031.toNat
def k0_off53 (v2040 : BitVec 32) : Fin 2 → Nat :=
  let c128_i32_2192 : BitVec 32 := 128#32
  let v2041 : BitVec 32 := Scalar.muli v2040 c128_i32_2192
  let v2042 : Index := Scalar.indexCast v2041
  let c0_2193 : Index := 0#32
  ![v2042.toNat, 0]

def k0_chk55 (v2040 : BitVec 32) : Prop :=
  (∀ a, (k0_off53 v2040) a + S128x128.size a ≤ S4096x128.size a)
theorem k0_off53_inb : ∀ (v2040 : BitVec 32) (k0_hw55 : k0_chk55 v2040), ∀ a, (k0_off53 v2040) a + S128x128.size a ≤ S4096x128.size a := fun v2040 k0_hw55 => k0_hw55

def k0_off54 (v2048 : BitVec 32) : Fin 2 → Nat :=
  let c128_i32_2196 : BitVec 32 := 128#32
  let v2049 : BitVec 32 := Scalar.muli v2048 c128_i32_2196
  let v2050 : Index := Scalar.indexCast v2049
  let c0_2197 : Index := 0#32
  ![v2050.toNat, 0]

def k0_chk56 (v2048 : BitVec 32) : Prop :=
  (∀ a, (k0_off54 v2048) a + S128x128.size a ≤ S4096x128.size a)
theorem k0_off54_inb : ∀ (v2048 : BitVec 32) (k0_hw56 : k0_chk56 v2048), ∀ a, (k0_off54 v2048) a + S128x128.size a ≤ S4096x128.size a := fun v2048 k0_hw56 => k0_hw56

def k0_dev105 (v1 : BitVec 32) : Nat :=
  let c0_i32_2227 : BitVec 32 := 0#32
  let c1_i32_2226 : BitVec 32 := 1#32
  let v2078 : BitVec 32 := Scalar.muli v1 c1_i32_2226
  let v2079 : BitVec 32 := Scalar.addi c0_i32_2227 v2078
  v2079.toNat
def k0_dev106 (v0 : BitVec 32) : Nat :=
  let c0_i32_2230 : BitVec 32 := 0#32
  let c1_i32_2229 : BitVec 32 := 1#32
  let v2080 : BitVec 32 := Scalar.muli v0 c1_i32_2229
  let v2081 : BitVec 32 := Scalar.addi c0_i32_2230 v2080
  v2081.toNat
def k0_dev107 (v0 : BitVec 32) : Nat :=
  let c0_i32_2261 : BitVec 32 := 0#32
  let c1_i32_2260 : BitVec 32 := 1#32
  let v2097 : BitVec 32 := Scalar.muli v0 c1_i32_2260
  let v2098 : BitVec 32 := Scalar.addi c0_i32_2261 v2097
  v2098.toNat
def k0_dev108 (v1 : BitVec 32) : Nat :=
  let c0_i32_2274 : BitVec 32 := 0#32
  let c1_i32_2273 : BitVec 32 := 1#32
  let v2110 : BitVec 32 := Scalar.muli v1 c1_i32_2273
  let v2111 : BitVec 32 := Scalar.addi c0_i32_2274 v2110
  v2111.toNat
def k0_off55 (v2120 : BitVec 32) : Fin 2 → Nat :=
  let c128_i32_2279 : BitVec 32 := 128#32
  let v2121 : BitVec 32 := Scalar.muli v2120 c128_i32_2279
  let v2122 : Index := Scalar.indexCast v2121
  let c0_2280 : Index := 0#32
  ![v2122.toNat, 0]

def k0_chk57 (v2120 : BitVec 32) : Prop :=
  (∀ a, (k0_off55 v2120) a + S128x128.size a ≤ S4096x128.size a)
theorem k0_off55_inb : ∀ (v2120 : BitVec 32) (k0_hw57 : k0_chk57 v2120), ∀ a, (k0_off55 v2120) a + S128x128.size a ≤ S4096x128.size a := fun v2120 k0_hw57 => k0_hw57

def k0_off56 (v2128 : BitVec 32) : Fin 2 → Nat :=
  let c128_i32_2283 : BitVec 32 := 128#32
  let v2129 : BitVec 32 := Scalar.muli v2128 c128_i32_2283
  let v2130 : Index := Scalar.indexCast v2129
  let c0_2284 : Index := 0#32
  ![v2130.toNat, 0]

def k0_chk58 (v2128 : BitVec 32) : Prop :=
  (∀ a, (k0_off56 v2128) a + S128x128.size a ≤ S4096x128.size a)
theorem k0_off56_inb : ∀ (v2128 : BitVec 32) (k0_hw58 : k0_chk58 v2128), ∀ a, (k0_off56 v2128) a + S128x128.size a ≤ S4096x128.size a := fun v2128 k0_hw58 => k0_hw58

def k0_dev109 (v1 : BitVec 32) : Nat :=
  let c0_i32_2314 : BitVec 32 := 0#32
  let c1_i32_2313 : BitVec 32 := 1#32
  let v2158 : BitVec 32 := Scalar.muli v1 c1_i32_2313
  let v2159 : BitVec 32 := Scalar.addi c0_i32_2314 v2158
  v2159.toNat
def k0_dev110 (v0 : BitVec 32) : Nat :=
  let c0_i32_2317 : BitVec 32 := 0#32
  let c1_i32_2316 : BitVec 32 := 1#32
  let v2160 : BitVec 32 := Scalar.muli v0 c1_i32_2316
  let v2161 : BitVec 32 := Scalar.addi c0_i32_2317 v2160
  v2161.toNat
def k0_dev111 (v0 : BitVec 32) : Nat :=
  let c0_i32_2348 : BitVec 32 := 0#32
  let c1_i32_2347 : BitVec 32 := 1#32
  let v2177 : BitVec 32 := Scalar.muli v0 c1_i32_2347
  let v2178 : BitVec 32 := Scalar.addi c0_i32_2348 v2177
  v2178.toNat
def k0_dev112 (v1 : BitVec 32) : Nat :=
  let c0_i32_2361 : BitVec 32 := 0#32
  let c1_i32_2360 : BitVec 32 := 1#32
  let v2190 : BitVec 32 := Scalar.muli v1 c1_i32_2360
  let v2191 : BitVec 32 := Scalar.addi c0_i32_2361 v2190
  v2191.toNat
def k0_off57 (v2200 : BitVec 32) : Fin 2 → Nat :=
  let c128_i32_2366 : BitVec 32 := 128#32
  let v2201 : BitVec 32 := Scalar.muli v2200 c128_i32_2366
  let v2202 : Index := Scalar.indexCast v2201
  let c0_2367 : Index := 0#32
  ![v2202.toNat, 0]

def k0_chk59 (v2200 : BitVec 32) : Prop :=
  (∀ a, (k0_off57 v2200) a + S128x128.size a ≤ S4096x128.size a)
theorem k0_off57_inb : ∀ (v2200 : BitVec 32) (k0_hw59 : k0_chk59 v2200), ∀ a, (k0_off57 v2200) a + S128x128.size a ≤ S4096x128.size a := fun v2200 k0_hw59 => k0_hw59

def k0_off58 (v2208 : BitVec 32) : Fin 2 → Nat :=
  let c128_i32_2370 : BitVec 32 := 128#32
  let v2209 : BitVec 32 := Scalar.muli v2208 c128_i32_2370
  let v2210 : Index := Scalar.indexCast v2209
  let c0_2371 : Index := 0#32
  ![v2210.toNat, 0]

def k0_chk60 (v2208 : BitVec 32) : Prop :=
  (∀ a, (k0_off58 v2208) a + S128x128.size a ≤ S4096x128.size a)
theorem k0_off58_inb : ∀ (v2208 : BitVec 32) (k0_hw60 : k0_chk60 v2208), ∀ a, (k0_off58 v2208) a + S128x128.size a ≤ S4096x128.size a := fun v2208 k0_hw60 => k0_hw60

def k0_dev113 (v1 : BitVec 32) : Nat :=
  let c0_i32_2401 : BitVec 32 := 0#32
  let c1_i32_2400 : BitVec 32 := 1#32
  let v2238 : BitVec 32 := Scalar.muli v1 c1_i32_2400
  let v2239 : BitVec 32 := Scalar.addi c0_i32_2401 v2238
  v2239.toNat
def k0_dev114 (v0 : BitVec 32) : Nat :=
  let c0_i32_2404 : BitVec 32 := 0#32
  let c1_i32_2403 : BitVec 32 := 1#32
  let v2240 : BitVec 32 := Scalar.muli v0 c1_i32_2403
  let v2241 : BitVec 32 := Scalar.addi c0_i32_2404 v2240
  v2241.toNat
def k0_dev115 (v0 : BitVec 32) : Nat :=
  let c0_i32_2435 : BitVec 32 := 0#32
  let c1_i32_2434 : BitVec 32 := 1#32
  let v2257 : BitVec 32 := Scalar.muli v0 c1_i32_2434
  let v2258 : BitVec 32 := Scalar.addi c0_i32_2435 v2257
  v2258.toNat
def k0_dev116 (v1 : BitVec 32) : Nat :=
  let c0_i32_2448 : BitVec 32 := 0#32
  let c1_i32_2447 : BitVec 32 := 1#32
  let v2270 : BitVec 32 := Scalar.muli v1 c1_i32_2447
  let v2271 : BitVec 32 := Scalar.addi c0_i32_2448 v2270
  v2271.toNat
def k0_off59 (v2280 : BitVec 32) : Fin 2 → Nat :=
  let c128_i32_2453 : BitVec 32 := 128#32
  let v2281 : BitVec 32 := Scalar.muli v2280 c128_i32_2453
  let v2282 : Index := Scalar.indexCast v2281
  let c0_2454 : Index := 0#32
  ![v2282.toNat, 0]

def k0_chk61 (v2280 : BitVec 32) : Prop :=
  (∀ a, (k0_off59 v2280) a + S128x128.size a ≤ S4096x128.size a)
theorem k0_off59_inb : ∀ (v2280 : BitVec 32) (k0_hw61 : k0_chk61 v2280), ∀ a, (k0_off59 v2280) a + S128x128.size a ≤ S4096x128.size a := fun v2280 k0_hw61 => k0_hw61

def k0_off60 (v2288 : BitVec 32) : Fin 2 → Nat :=
  let c128_i32_2457 : BitVec 32 := 128#32
  let v2289 : BitVec 32 := Scalar.muli v2288 c128_i32_2457
  let v2290 : Index := Scalar.indexCast v2289
  let c0_2458 : Index := 0#32
  ![v2290.toNat, 0]

def k0_chk62 (v2288 : BitVec 32) : Prop :=
  (∀ a, (k0_off60 v2288) a + S128x128.size a ≤ S4096x128.size a)
theorem k0_off60_inb : ∀ (v2288 : BitVec 32) (k0_hw62 : k0_chk62 v2288), ∀ a, (k0_off60 v2288) a + S128x128.size a ≤ S4096x128.size a := fun v2288 k0_hw62 => k0_hw62

def k0_dev117 (v1 : BitVec 32) : Nat :=
  let c0_i32_2488 : BitVec 32 := 0#32
  let c1_i32_2487 : BitVec 32 := 1#32
  let v2318 : BitVec 32 := Scalar.muli v1 c1_i32_2487
  let v2319 : BitVec 32 := Scalar.addi c0_i32_2488 v2318
  v2319.toNat
def k0_dev118 (v0 : BitVec 32) : Nat :=
  let c0_i32_2491 : BitVec 32 := 0#32
  let c1_i32_2490 : BitVec 32 := 1#32
  let v2320 : BitVec 32 := Scalar.muli v0 c1_i32_2490
  let v2321 : BitVec 32 := Scalar.addi c0_i32_2491 v2320
  v2321.toNat
def k0_dev119 (v0 : BitVec 32) : Nat :=
  let c0_i32_2522 : BitVec 32 := 0#32
  let c1_i32_2521 : BitVec 32 := 1#32
  let v2337 : BitVec 32 := Scalar.muli v0 c1_i32_2521
  let v2338 : BitVec 32 := Scalar.addi c0_i32_2522 v2337
  v2338.toNat
def k0_dev120 (v1 : BitVec 32) : Nat :=
  let c0_i32_2535 : BitVec 32 := 0#32
  let c1_i32_2534 : BitVec 32 := 1#32
  let v2350 : BitVec 32 := Scalar.muli v1 c1_i32_2534
  let v2351 : BitVec 32 := Scalar.addi c0_i32_2535 v2350
  v2351.toNat
def k0_off61 (v2360 : BitVec 32) : Fin 2 → Nat :=
  let c128_i32_2540 : BitVec 32 := 128#32
  let v2361 : BitVec 32 := Scalar.muli v2360 c128_i32_2540
  let v2362 : Index := Scalar.indexCast v2361
  let c0_2541 : Index := 0#32
  ![v2362.toNat, 0]

def k0_chk63 (v2360 : BitVec 32) : Prop :=
  (∀ a, (k0_off61 v2360) a + S128x128.size a ≤ S4096x128.size a)
theorem k0_off61_inb : ∀ (v2360 : BitVec 32) (k0_hw63 : k0_chk63 v2360), ∀ a, (k0_off61 v2360) a + S128x128.size a ≤ S4096x128.size a := fun v2360 k0_hw63 => k0_hw63

def k0_off62 (v2368 : BitVec 32) : Fin 2 → Nat :=
  let c128_i32_2544 : BitVec 32 := 128#32
  let v2369 : BitVec 32 := Scalar.muli v2368 c128_i32_2544
  let v2370 : Index := Scalar.indexCast v2369
  let c0_2545 : Index := 0#32
  ![v2370.toNat, 0]

def k0_chk64 (v2368 : BitVec 32) : Prop :=
  (∀ a, (k0_off62 v2368) a + S128x128.size a ≤ S4096x128.size a)
theorem k0_off62_inb : ∀ (v2368 : BitVec 32) (k0_hw64 : k0_chk64 v2368), ∀ a, (k0_off62 v2368) a + S128x128.size a ≤ S4096x128.size a := fun v2368 k0_hw64 => k0_hw64

def k0_dev121 (v0 : BitVec 32) : Nat :=
  let c0_i32_2603 : BitVec 32 := 0#32
  let c1_i32_2602 : BitVec 32 := 1#32
  let v2413 : BitVec 32 := Scalar.muli v0 c1_i32_2602
  let v2414 : BitVec 32 := Scalar.addi c0_i32_2603 v2413
  v2414.toNat

def k0_chk1_0 (v0 : BitVec 32) : Prop :=
  ((k0_dev1 v0) < nD) ∧
  ((k0_dev3 v0) < nD) ∧
  ((k0_dev6 v0) < nD) ∧
  ((k0_dev7 v0) < nD) ∧
  ((k0_dev10 v0) < nD) ∧
  ((k0_dev11 v0) < nD) ∧
  ((k0_dev14 v0) < nD) ∧
  ((k0_dev15 v0) < nD) ∧
  ((k0_dev18 v0) < nD) ∧
  ((k0_dev19 v0) < nD) ∧
  ((k0_dev22 v0) < nD) ∧
  ((k0_dev23 v0) < nD) ∧
  ((k0_dev26 v0) < nD) ∧
  ((k0_dev27 v0) < nD) ∧
  ((k0_dev30 v0) < nD) ∧
  ((k0_dev31 v0) < nD) ∧
  ((k0_dev34 v0) < nD) ∧
  ((k0_dev35 v0) < nD) ∧
  ((k0_dev38 v0) < nD) ∧
  ((k0_dev39 v0) < nD) ∧
  ((k0_dev42 v0) < nD) ∧
  ((k0_dev43 v0) < nD) ∧
  ((k0_dev46 v0) < nD) ∧
  ((k0_dev47 v0) < nD) ∧
  ((k0_dev50 v0) < nD) ∧
  ((k0_dev51 v0) < nD) ∧
  ((k0_dev54 v0) < nD) ∧
  ((k0_dev55 v0) < nD) ∧
  ((k0_dev58 v0) < nD) ∧
  ((k0_dev59 v0) < nD) ∧
  ((k0_dev62 v0) < nD) ∧
  ((k0_dev63 v0) < nD)
def k0_chk1_1 (v0 : BitVec 32) : Prop :=
  ((k0_dev66 v0) < nD) ∧
  ((k0_dev67 v0) < nD) ∧
  ((k0_dev70 v0) < nD) ∧
  ((k0_dev71 v0) < nD) ∧
  ((k0_dev74 v0) < nD) ∧
  ((k0_dev75 v0) < nD) ∧
  ((k0_dev78 v0) < nD) ∧
  ((k0_dev79 v0) < nD) ∧
  ((k0_dev82 v0) < nD) ∧
  ((k0_dev83 v0) < nD) ∧
  ((k0_dev86 v0) < nD) ∧
  ((k0_dev87 v0) < nD) ∧
  ((k0_dev90 v0) < nD) ∧
  ((k0_dev91 v0) < nD) ∧
  ((k0_dev94 v0) < nD) ∧
  ((k0_dev95 v0) < nD) ∧
  ((k0_dev98 v0) < nD) ∧
  ((k0_dev99 v0) < nD) ∧
  ((k0_dev102 v0) < nD) ∧
  ((k0_dev103 v0) < nD) ∧
  ((k0_dev106 v0) < nD) ∧
  ((k0_dev107 v0) < nD) ∧
  ((k0_dev110 v0) < nD) ∧
  ((k0_dev111 v0) < nD) ∧
  ((k0_dev114 v0) < nD) ∧
  ((k0_dev115 v0) < nD) ∧
  ((k0_dev118 v0) < nD) ∧
  ((k0_dev119 v0) < nD) ∧
  ((k0_dev121 v0) < nD)
def k0_chk1 (v0 : BitVec 32) : Prop :=
  k0_chk1_0 v0 ∧
  k0_chk1_1 v0
theorem k0_dev1_lt : ∀ (v0 : BitVec 32) (k0_hw1 : k0_chk1 v0), (k0_dev1 v0) < nD := fun v0 k0_hw1 => k0_hw1.1.1
theorem k0_dev3_lt : ∀ (v0 : BitVec 32) (k0_hw1 : k0_chk1 v0), (k0_dev3 v0) < nD := fun v0 k0_hw1 => k0_hw1.1.2.1
theorem k0_dev6_lt : ∀ (v0 : BitVec 32) (k0_hw1 : k0_chk1 v0), (k0_dev6 v0) < nD := fun v0 k0_hw1 => k0_hw1.1.2.2.1
theorem k0_dev7_lt : ∀ (v0 : BitVec 32) (k0_hw1 : k0_chk1 v0), (k0_dev7 v0) < nD := fun v0 k0_hw1 => k0_hw1.1.2.2.2.1
theorem k0_dev10_lt : ∀ (v0 : BitVec 32) (k0_hw1 : k0_chk1 v0), (k0_dev10 v0) < nD := fun v0 k0_hw1 => k0_hw1.1.2.2.2.2.1
theorem k0_dev11_lt : ∀ (v0 : BitVec 32) (k0_hw1 : k0_chk1 v0), (k0_dev11 v0) < nD := fun v0 k0_hw1 => k0_hw1.1.2.2.2.2.2.1
theorem k0_dev14_lt : ∀ (v0 : BitVec 32) (k0_hw1 : k0_chk1 v0), (k0_dev14 v0) < nD := fun v0 k0_hw1 => k0_hw1.1.2.2.2.2.2.2.1
theorem k0_dev15_lt : ∀ (v0 : BitVec 32) (k0_hw1 : k0_chk1 v0), (k0_dev15 v0) < nD := fun v0 k0_hw1 => k0_hw1.1.2.2.2.2.2.2.2.1
theorem k0_dev18_lt : ∀ (v0 : BitVec 32) (k0_hw1 : k0_chk1 v0), (k0_dev18 v0) < nD := fun v0 k0_hw1 => k0_hw1.1.2.2.2.2.2.2.2.2.1
theorem k0_dev19_lt : ∀ (v0 : BitVec 32) (k0_hw1 : k0_chk1 v0), (k0_dev19 v0) < nD := fun v0 k0_hw1 => k0_hw1.1.2.2.2.2.2.2.2.2.2.1
theorem k0_dev22_lt : ∀ (v0 : BitVec 32) (k0_hw1 : k0_chk1 v0), (k0_dev22 v0) < nD := fun v0 k0_hw1 => k0_hw1.1.2.2.2.2.2.2.2.2.2.2.1
theorem k0_dev23_lt : ∀ (v0 : BitVec 32) (k0_hw1 : k0_chk1 v0), (k0_dev23 v0) < nD := fun v0 k0_hw1 => k0_hw1.1.2.2.2.2.2.2.2.2.2.2.2.1
theorem k0_dev26_lt : ∀ (v0 : BitVec 32) (k0_hw1 : k0_chk1 v0), (k0_dev26 v0) < nD := fun v0 k0_hw1 => k0_hw1.1.2.2.2.2.2.2.2.2.2.2.2.2.1
theorem k0_dev27_lt : ∀ (v0 : BitVec 32) (k0_hw1 : k0_chk1 v0), (k0_dev27 v0) < nD := fun v0 k0_hw1 => k0_hw1.1.2.2.2.2.2.2.2.2.2.2.2.2.2.1
theorem k0_dev30_lt : ∀ (v0 : BitVec 32) (k0_hw1 : k0_chk1 v0), (k0_dev30 v0) < nD := fun v0 k0_hw1 => k0_hw1.1.2.2.2.2.2.2.2.2.2.2.2.2.2.2.1
theorem k0_dev31_lt : ∀ (v0 : BitVec 32) (k0_hw1 : k0_chk1 v0), (k0_dev31 v0) < nD := fun v0 k0_hw1 => k0_hw1.1.2.2.2.2.2.2.2.2.2.2.2.2.2.2.2.1
theorem k0_dev34_lt : ∀ (v0 : BitVec 32) (k0_hw1 : k0_chk1 v0), (k0_dev34 v0) < nD := fun v0 k0_hw1 => k0_hw1.1.2.2.2.2.2.2.2.2.2.2.2.2.2.2.2.2.1
theorem k0_dev35_lt : ∀ (v0 : BitVec 32) (k0_hw1 : k0_chk1 v0), (k0_dev35 v0) < nD := fun v0 k0_hw1 => k0_hw1.1.2.2.2.2.2.2.2.2.2.2.2.2.2.2.2.2.2.1
theorem k0_dev38_lt : ∀ (v0 : BitVec 32) (k0_hw1 : k0_chk1 v0), (k0_dev38 v0) < nD := fun v0 k0_hw1 => k0_hw1.1.2.2.2.2.2.2.2.2.2.2.2.2.2.2.2.2.2.2.1
theorem k0_dev39_lt : ∀ (v0 : BitVec 32) (k0_hw1 : k0_chk1 v0), (k0_dev39 v0) < nD := fun v0 k0_hw1 => k0_hw1.1.2.2.2.2.2.2.2.2.2.2.2.2.2.2.2.2.2.2.2.1
theorem k0_dev42_lt : ∀ (v0 : BitVec 32) (k0_hw1 : k0_chk1 v0), (k0_dev42 v0) < nD := fun v0 k0_hw1 => k0_hw1.1.2.2.2.2.2.2.2.2.2.2.2.2.2.2.2.2.2.2.2.2.1
theorem k0_dev43_lt : ∀ (v0 : BitVec 32) (k0_hw1 : k0_chk1 v0), (k0_dev43 v0) < nD := fun v0 k0_hw1 => k0_hw1.1.2.2.2.2.2.2.2.2.2.2.2.2.2.2.2.2.2.2.2.2.2.1
theorem k0_dev46_lt : ∀ (v0 : BitVec 32) (k0_hw1 : k0_chk1 v0), (k0_dev46 v0) < nD := fun v0 k0_hw1 => k0_hw1.1.2.2.2.2.2.2.2.2.2.2.2.2.2.2.2.2.2.2.2.2.2.2.1
theorem k0_dev47_lt : ∀ (v0 : BitVec 32) (k0_hw1 : k0_chk1 v0), (k0_dev47 v0) < nD := fun v0 k0_hw1 => k0_hw1.1.2.2.2.2.2.2.2.2.2.2.2.2.2.2.2.2.2.2.2.2.2.2.2.1
theorem k0_dev50_lt : ∀ (v0 : BitVec 32) (k0_hw1 : k0_chk1 v0), (k0_dev50 v0) < nD := fun v0 k0_hw1 => k0_hw1.1.2.2.2.2.2.2.2.2.2.2.2.2.2.2.2.2.2.2.2.2.2.2.2.2.1
theorem k0_dev51_lt : ∀ (v0 : BitVec 32) (k0_hw1 : k0_chk1 v0), (k0_dev51 v0) < nD := fun v0 k0_hw1 => k0_hw1.1.2.2.2.2.2.2.2.2.2.2.2.2.2.2.2.2.2.2.2.2.2.2.2.2.2.1
theorem k0_dev54_lt : ∀ (v0 : BitVec 32) (k0_hw1 : k0_chk1 v0), (k0_dev54 v0) < nD := fun v0 k0_hw1 => k0_hw1.1.2.2.2.2.2.2.2.2.2.2.2.2.2.2.2.2.2.2.2.2.2.2.2.2.2.2.1
theorem k0_dev55_lt : ∀ (v0 : BitVec 32) (k0_hw1 : k0_chk1 v0), (k0_dev55 v0) < nD := fun v0 k0_hw1 => k0_hw1.1.2.2.2.2.2.2.2.2.2.2.2.2.2.2.2.2.2.2.2.2.2.2.2.2.2.2.2.1
theorem k0_dev58_lt : ∀ (v0 : BitVec 32) (k0_hw1 : k0_chk1 v0), (k0_dev58 v0) < nD := fun v0 k0_hw1 => k0_hw1.1.2.2.2.2.2.2.2.2.2.2.2.2.2.2.2.2.2.2.2.2.2.2.2.2.2.2.2.2.1
theorem k0_dev59_lt : ∀ (v0 : BitVec 32) (k0_hw1 : k0_chk1 v0), (k0_dev59 v0) < nD := fun v0 k0_hw1 => k0_hw1.1.2.2.2.2.2.2.2.2.2.2.2.2.2.2.2.2.2.2.2.2.2.2.2.2.2.2.2.2.2.1
theorem k0_dev62_lt : ∀ (v0 : BitVec 32) (k0_hw1 : k0_chk1 v0), (k0_dev62 v0) < nD := fun v0 k0_hw1 => k0_hw1.1.2.2.2.2.2.2.2.2.2.2.2.2.2.2.2.2.2.2.2.2.2.2.2.2.2.2.2.2.2.2.1
theorem k0_dev63_lt : ∀ (v0 : BitVec 32) (k0_hw1 : k0_chk1 v0), (k0_dev63 v0) < nD := fun v0 k0_hw1 => k0_hw1.1.2.2.2.2.2.2.2.2.2.2.2.2.2.2.2.2.2.2.2.2.2.2.2.2.2.2.2.2.2.2.2
theorem k0_dev66_lt : ∀ (v0 : BitVec 32) (k0_hw1 : k0_chk1 v0), (k0_dev66 v0) < nD := fun v0 k0_hw1 => k0_hw1.2.1
theorem k0_dev67_lt : ∀ (v0 : BitVec 32) (k0_hw1 : k0_chk1 v0), (k0_dev67 v0) < nD := fun v0 k0_hw1 => k0_hw1.2.2.1
theorem k0_dev70_lt : ∀ (v0 : BitVec 32) (k0_hw1 : k0_chk1 v0), (k0_dev70 v0) < nD := fun v0 k0_hw1 => k0_hw1.2.2.2.1
theorem k0_dev71_lt : ∀ (v0 : BitVec 32) (k0_hw1 : k0_chk1 v0), (k0_dev71 v0) < nD := fun v0 k0_hw1 => k0_hw1.2.2.2.2.1
theorem k0_dev74_lt : ∀ (v0 : BitVec 32) (k0_hw1 : k0_chk1 v0), (k0_dev74 v0) < nD := fun v0 k0_hw1 => k0_hw1.2.2.2.2.2.1
theorem k0_dev75_lt : ∀ (v0 : BitVec 32) (k0_hw1 : k0_chk1 v0), (k0_dev75 v0) < nD := fun v0 k0_hw1 => k0_hw1.2.2.2.2.2.2.1
theorem k0_dev78_lt : ∀ (v0 : BitVec 32) (k0_hw1 : k0_chk1 v0), (k0_dev78 v0) < nD := fun v0 k0_hw1 => k0_hw1.2.2.2.2.2.2.2.1
theorem k0_dev79_lt : ∀ (v0 : BitVec 32) (k0_hw1 : k0_chk1 v0), (k0_dev79 v0) < nD := fun v0 k0_hw1 => k0_hw1.2.2.2.2.2.2.2.2.1
theorem k0_dev82_lt : ∀ (v0 : BitVec 32) (k0_hw1 : k0_chk1 v0), (k0_dev82 v0) < nD := fun v0 k0_hw1 => k0_hw1.2.2.2.2.2.2.2.2.2.1
theorem k0_dev83_lt : ∀ (v0 : BitVec 32) (k0_hw1 : k0_chk1 v0), (k0_dev83 v0) < nD := fun v0 k0_hw1 => k0_hw1.2.2.2.2.2.2.2.2.2.2.1
theorem k0_dev86_lt : ∀ (v0 : BitVec 32) (k0_hw1 : k0_chk1 v0), (k0_dev86 v0) < nD := fun v0 k0_hw1 => k0_hw1.2.2.2.2.2.2.2.2.2.2.2.1
theorem k0_dev87_lt : ∀ (v0 : BitVec 32) (k0_hw1 : k0_chk1 v0), (k0_dev87 v0) < nD := fun v0 k0_hw1 => k0_hw1.2.2.2.2.2.2.2.2.2.2.2.2.1
theorem k0_dev90_lt : ∀ (v0 : BitVec 32) (k0_hw1 : k0_chk1 v0), (k0_dev90 v0) < nD := fun v0 k0_hw1 => k0_hw1.2.2.2.2.2.2.2.2.2.2.2.2.2.1
theorem k0_dev91_lt : ∀ (v0 : BitVec 32) (k0_hw1 : k0_chk1 v0), (k0_dev91 v0) < nD := fun v0 k0_hw1 => k0_hw1.2.2.2.2.2.2.2.2.2.2.2.2.2.2.1
theorem k0_dev94_lt : ∀ (v0 : BitVec 32) (k0_hw1 : k0_chk1 v0), (k0_dev94 v0) < nD := fun v0 k0_hw1 => k0_hw1.2.2.2.2.2.2.2.2.2.2.2.2.2.2.2.1
theorem k0_dev95_lt : ∀ (v0 : BitVec 32) (k0_hw1 : k0_chk1 v0), (k0_dev95 v0) < nD := fun v0 k0_hw1 => k0_hw1.2.2.2.2.2.2.2.2.2.2.2.2.2.2.2.2.1
theorem k0_dev98_lt : ∀ (v0 : BitVec 32) (k0_hw1 : k0_chk1 v0), (k0_dev98 v0) < nD := fun v0 k0_hw1 => k0_hw1.2.2.2.2.2.2.2.2.2.2.2.2.2.2.2.2.2.1
theorem k0_dev99_lt : ∀ (v0 : BitVec 32) (k0_hw1 : k0_chk1 v0), (k0_dev99 v0) < nD := fun v0 k0_hw1 => k0_hw1.2.2.2.2.2.2.2.2.2.2.2.2.2.2.2.2.2.2.1
theorem k0_dev102_lt : ∀ (v0 : BitVec 32) (k0_hw1 : k0_chk1 v0), (k0_dev102 v0) < nD := fun v0 k0_hw1 => k0_hw1.2.2.2.2.2.2.2.2.2.2.2.2.2.2.2.2.2.2.2.1
theorem k0_dev103_lt : ∀ (v0 : BitVec 32) (k0_hw1 : k0_chk1 v0), (k0_dev103 v0) < nD := fun v0 k0_hw1 => k0_hw1.2.2.2.2.2.2.2.2.2.2.2.2.2.2.2.2.2.2.2.2.1
theorem k0_dev106_lt : ∀ (v0 : BitVec 32) (k0_hw1 : k0_chk1 v0), (k0_dev106 v0) < nD := fun v0 k0_hw1 => k0_hw1.2.2.2.2.2.2.2.2.2.2.2.2.2.2.2.2.2.2.2.2.2.1
theorem k0_dev107_lt : ∀ (v0 : BitVec 32) (k0_hw1 : k0_chk1 v0), (k0_dev107 v0) < nD := fun v0 k0_hw1 => k0_hw1.2.2.2.2.2.2.2.2.2.2.2.2.2.2.2.2.2.2.2.2.2.2.1
theorem k0_dev110_lt : ∀ (v0 : BitVec 32) (k0_hw1 : k0_chk1 v0), (k0_dev110 v0) < nD := fun v0 k0_hw1 => k0_hw1.2.2.2.2.2.2.2.2.2.2.2.2.2.2.2.2.2.2.2.2.2.2.2.1
theorem k0_dev111_lt : ∀ (v0 : BitVec 32) (k0_hw1 : k0_chk1 v0), (k0_dev111 v0) < nD := fun v0 k0_hw1 => k0_hw1.2.2.2.2.2.2.2.2.2.2.2.2.2.2.2.2.2.2.2.2.2.2.2.2.1
theorem k0_dev114_lt : ∀ (v0 : BitVec 32) (k0_hw1 : k0_chk1 v0), (k0_dev114 v0) < nD := fun v0 k0_hw1 => k0_hw1.2.2.2.2.2.2.2.2.2.2.2.2.2.2.2.2.2.2.2.2.2.2.2.2.2.1
theorem k0_dev115_lt : ∀ (v0 : BitVec 32) (k0_hw1 : k0_chk1 v0), (k0_dev115 v0) < nD := fun v0 k0_hw1 => k0_hw1.2.2.2.2.2.2.2.2.2.2.2.2.2.2.2.2.2.2.2.2.2.2.2.2.2.2.1
theorem k0_dev118_lt : ∀ (v0 : BitVec 32) (k0_hw1 : k0_chk1 v0), (k0_dev118 v0) < nD := fun v0 k0_hw1 => k0_hw1.2.2.2.2.2.2.2.2.2.2.2.2.2.2.2.2.2.2.2.2.2.2.2.2.2.2.2.1
theorem k0_dev119_lt : ∀ (v0 : BitVec 32) (k0_hw1 : k0_chk1 v0), (k0_dev119 v0) < nD := fun v0 k0_hw1 => k0_hw1.2.2.2.2.2.2.2.2.2.2.2.2.2.2.2.2.2.2.2.2.2.2.2.2.2.2.2.2.1
theorem k0_dev121_lt : ∀ (v0 : BitVec 32) (k0_hw1 : k0_chk1 v0), (k0_dev121 v0) < nD := fun v0 k0_hw1 => k0_hw1.2.2.2.2.2.2.2.2.2.2.2.2.2.2.2.2.2.2.2.2.2.2.2.2.2.2.2.2.2

def k0_dev122 (v1 : BitVec 32) : Nat :=
  let c0_i32_2616 : BitVec 32 := 0#32
  let c1_i32_2615 : BitVec 32 := 1#32
  let v2426 : BitVec 32 := Scalar.muli v1 c1_i32_2615
  let v2427 : BitVec 32 := Scalar.addi c0_i32_2616 v2426
  v2427.toNat

def k0_chk2_0 (v1 : BitVec 32) : Prop :=
  ((k0_dev2 v1) < nD) ∧
  ((k0_dev4 v1) < nD) ∧
  ((k0_dev5 v1) < nD) ∧
  ((k0_dev8 v1) < nD) ∧
  ((k0_dev9 v1) < nD) ∧
  ((k0_dev12 v1) < nD) ∧
  ((k0_dev13 v1) < nD) ∧
  ((k0_dev16 v1) < nD) ∧
  ((k0_dev17 v1) < nD) ∧
  ((k0_dev20 v1) < nD) ∧
  ((k0_dev21 v1) < nD) ∧
  ((k0_dev24 v1) < nD) ∧
  ((k0_dev25 v1) < nD) ∧
  ((k0_dev28 v1) < nD) ∧
  ((k0_dev29 v1) < nD) ∧
  ((k0_dev32 v1) < nD) ∧
  ((k0_dev33 v1) < nD) ∧
  ((k0_dev36 v1) < nD) ∧
  ((k0_dev37 v1) < nD) ∧
  ((k0_dev40 v1) < nD) ∧
  ((k0_dev41 v1) < nD) ∧
  ((k0_dev44 v1) < nD) ∧
  ((k0_dev45 v1) < nD) ∧
  ((k0_dev48 v1) < nD) ∧
  ((k0_dev49 v1) < nD) ∧
  ((k0_dev52 v1) < nD) ∧
  ((k0_dev53 v1) < nD) ∧
  ((k0_dev56 v1) < nD) ∧
  ((k0_dev57 v1) < nD) ∧
  ((k0_dev60 v1) < nD) ∧
  ((k0_dev61 v1) < nD) ∧
  ((k0_dev64 v1) < nD)
def k0_chk2_1 (v1 : BitVec 32) : Prop :=
  ((k0_dev65 v1) < nD) ∧
  ((k0_dev68 v1) < nD) ∧
  ((k0_dev69 v1) < nD) ∧
  ((k0_dev72 v1) < nD) ∧
  ((k0_dev73 v1) < nD) ∧
  ((k0_dev76 v1) < nD) ∧
  ((k0_dev77 v1) < nD) ∧
  ((k0_dev80 v1) < nD) ∧
  ((k0_dev81 v1) < nD) ∧
  ((k0_dev84 v1) < nD) ∧
  ((k0_dev85 v1) < nD) ∧
  ((k0_dev88 v1) < nD) ∧
  ((k0_dev89 v1) < nD) ∧
  ((k0_dev92 v1) < nD) ∧
  ((k0_dev93 v1) < nD) ∧
  ((k0_dev96 v1) < nD) ∧
  ((k0_dev97 v1) < nD) ∧
  ((k0_dev100 v1) < nD) ∧
  ((k0_dev101 v1) < nD) ∧
  ((k0_dev104 v1) < nD) ∧
  ((k0_dev105 v1) < nD) ∧
  ((k0_dev108 v1) < nD) ∧
  ((k0_dev109 v1) < nD) ∧
  ((k0_dev112 v1) < nD) ∧
  ((k0_dev113 v1) < nD) ∧
  ((k0_dev116 v1) < nD) ∧
  ((k0_dev117 v1) < nD) ∧
  ((k0_dev120 v1) < nD) ∧
  ((k0_dev122 v1) < nD)
def k0_chk2 (v1 : BitVec 32) : Prop :=
  k0_chk2_0 v1 ∧
  k0_chk2_1 v1
theorem k0_dev2_lt : ∀ (v1 : BitVec 32) (k0_hw2 : k0_chk2 v1), (k0_dev2 v1) < nD := fun v1 k0_hw2 => k0_hw2.1.1
theorem k0_dev4_lt : ∀ (v1 : BitVec 32) (k0_hw2 : k0_chk2 v1), (k0_dev4 v1) < nD := fun v1 k0_hw2 => k0_hw2.1.2.1
theorem k0_dev5_lt : ∀ (v1 : BitVec 32) (k0_hw2 : k0_chk2 v1), (k0_dev5 v1) < nD := fun v1 k0_hw2 => k0_hw2.1.2.2.1
theorem k0_dev8_lt : ∀ (v1 : BitVec 32) (k0_hw2 : k0_chk2 v1), (k0_dev8 v1) < nD := fun v1 k0_hw2 => k0_hw2.1.2.2.2.1
theorem k0_dev9_lt : ∀ (v1 : BitVec 32) (k0_hw2 : k0_chk2 v1), (k0_dev9 v1) < nD := fun v1 k0_hw2 => k0_hw2.1.2.2.2.2.1
theorem k0_dev12_lt : ∀ (v1 : BitVec 32) (k0_hw2 : k0_chk2 v1), (k0_dev12 v1) < nD := fun v1 k0_hw2 => k0_hw2.1.2.2.2.2.2.1
theorem k0_dev13_lt : ∀ (v1 : BitVec 32) (k0_hw2 : k0_chk2 v1), (k0_dev13 v1) < nD := fun v1 k0_hw2 => k0_hw2.1.2.2.2.2.2.2.1
theorem k0_dev16_lt : ∀ (v1 : BitVec 32) (k0_hw2 : k0_chk2 v1), (k0_dev16 v1) < nD := fun v1 k0_hw2 => k0_hw2.1.2.2.2.2.2.2.2.1
theorem k0_dev17_lt : ∀ (v1 : BitVec 32) (k0_hw2 : k0_chk2 v1), (k0_dev17 v1) < nD := fun v1 k0_hw2 => k0_hw2.1.2.2.2.2.2.2.2.2.1
theorem k0_dev20_lt : ∀ (v1 : BitVec 32) (k0_hw2 : k0_chk2 v1), (k0_dev20 v1) < nD := fun v1 k0_hw2 => k0_hw2.1.2.2.2.2.2.2.2.2.2.1
theorem k0_dev21_lt : ∀ (v1 : BitVec 32) (k0_hw2 : k0_chk2 v1), (k0_dev21 v1) < nD := fun v1 k0_hw2 => k0_hw2.1.2.2.2.2.2.2.2.2.2.2.1
theorem k0_dev24_lt : ∀ (v1 : BitVec 32) (k0_hw2 : k0_chk2 v1), (k0_dev24 v1) < nD := fun v1 k0_hw2 => k0_hw2.1.2.2.2.2.2.2.2.2.2.2.2.1
theorem k0_dev25_lt : ∀ (v1 : BitVec 32) (k0_hw2 : k0_chk2 v1), (k0_dev25 v1) < nD := fun v1 k0_hw2 => k0_hw2.1.2.2.2.2.2.2.2.2.2.2.2.2.1
theorem k0_dev28_lt : ∀ (v1 : BitVec 32) (k0_hw2 : k0_chk2 v1), (k0_dev28 v1) < nD := fun v1 k0_hw2 => k0_hw2.1.2.2.2.2.2.2.2.2.2.2.2.2.2.1
theorem k0_dev29_lt : ∀ (v1 : BitVec 32) (k0_hw2 : k0_chk2 v1), (k0_dev29 v1) < nD := fun v1 k0_hw2 => k0_hw2.1.2.2.2.2.2.2.2.2.2.2.2.2.2.2.1
theorem k0_dev32_lt : ∀ (v1 : BitVec 32) (k0_hw2 : k0_chk2 v1), (k0_dev32 v1) < nD := fun v1 k0_hw2 => k0_hw2.1.2.2.2.2.2.2.2.2.2.2.2.2.2.2.2.1
theorem k0_dev33_lt : ∀ (v1 : BitVec 32) (k0_hw2 : k0_chk2 v1), (k0_dev33 v1) < nD := fun v1 k0_hw2 => k0_hw2.1.2.2.2.2.2.2.2.2.2.2.2.2.2.2.2.2.1
theorem k0_dev36_lt : ∀ (v1 : BitVec 32) (k0_hw2 : k0_chk2 v1), (k0_dev36 v1) < nD := fun v1 k0_hw2 => k0_hw2.1.2.2.2.2.2.2.2.2.2.2.2.2.2.2.2.2.2.1
theorem k0_dev37_lt : ∀ (v1 : BitVec 32) (k0_hw2 : k0_chk2 v1), (k0_dev37 v1) < nD := fun v1 k0_hw2 => k0_hw2.1.2.2.2.2.2.2.2.2.2.2.2.2.2.2.2.2.2.2.1
theorem k0_dev40_lt : ∀ (v1 : BitVec 32) (k0_hw2 : k0_chk2 v1), (k0_dev40 v1) < nD := fun v1 k0_hw2 => k0_hw2.1.2.2.2.2.2.2.2.2.2.2.2.2.2.2.2.2.2.2.2.1
theorem k0_dev41_lt : ∀ (v1 : BitVec 32) (k0_hw2 : k0_chk2 v1), (k0_dev41 v1) < nD := fun v1 k0_hw2 => k0_hw2.1.2.2.2.2.2.2.2.2.2.2.2.2.2.2.2.2.2.2.2.2.1
theorem k0_dev44_lt : ∀ (v1 : BitVec 32) (k0_hw2 : k0_chk2 v1), (k0_dev44 v1) < nD := fun v1 k0_hw2 => k0_hw2.1.2.2.2.2.2.2.2.2.2.2.2.2.2.2.2.2.2.2.2.2.2.1
theorem k0_dev45_lt : ∀ (v1 : BitVec 32) (k0_hw2 : k0_chk2 v1), (k0_dev45 v1) < nD := fun v1 k0_hw2 => k0_hw2.1.2.2.2.2.2.2.2.2.2.2.2.2.2.2.2.2.2.2.2.2.2.2.1
theorem k0_dev48_lt : ∀ (v1 : BitVec 32) (k0_hw2 : k0_chk2 v1), (k0_dev48 v1) < nD := fun v1 k0_hw2 => k0_hw2.1.2.2.2.2.2.2.2.2.2.2.2.2.2.2.2.2.2.2.2.2.2.2.2.1
theorem k0_dev49_lt : ∀ (v1 : BitVec 32) (k0_hw2 : k0_chk2 v1), (k0_dev49 v1) < nD := fun v1 k0_hw2 => k0_hw2.1.2.2.2.2.2.2.2.2.2.2.2.2.2.2.2.2.2.2.2.2.2.2.2.2.1
theorem k0_dev52_lt : ∀ (v1 : BitVec 32) (k0_hw2 : k0_chk2 v1), (k0_dev52 v1) < nD := fun v1 k0_hw2 => k0_hw2.1.2.2.2.2.2.2.2.2.2.2.2.2.2.2.2.2.2.2.2.2.2.2.2.2.2.1
theorem k0_dev53_lt : ∀ (v1 : BitVec 32) (k0_hw2 : k0_chk2 v1), (k0_dev53 v1) < nD := fun v1 k0_hw2 => k0_hw2.1.2.2.2.2.2.2.2.2.2.2.2.2.2.2.2.2.2.2.2.2.2.2.2.2.2.2.1
theorem k0_dev56_lt : ∀ (v1 : BitVec 32) (k0_hw2 : k0_chk2 v1), (k0_dev56 v1) < nD := fun v1 k0_hw2 => k0_hw2.1.2.2.2.2.2.2.2.2.2.2.2.2.2.2.2.2.2.2.2.2.2.2.2.2.2.2.2.1
theorem k0_dev57_lt : ∀ (v1 : BitVec 32) (k0_hw2 : k0_chk2 v1), (k0_dev57 v1) < nD := fun v1 k0_hw2 => k0_hw2.1.2.2.2.2.2.2.2.2.2.2.2.2.2.2.2.2.2.2.2.2.2.2.2.2.2.2.2.2.1
theorem k0_dev60_lt : ∀ (v1 : BitVec 32) (k0_hw2 : k0_chk2 v1), (k0_dev60 v1) < nD := fun v1 k0_hw2 => k0_hw2.1.2.2.2.2.2.2.2.2.2.2.2.2.2.2.2.2.2.2.2.2.2.2.2.2.2.2.2.2.2.1
theorem k0_dev61_lt : ∀ (v1 : BitVec 32) (k0_hw2 : k0_chk2 v1), (k0_dev61 v1) < nD := fun v1 k0_hw2 => k0_hw2.1.2.2.2.2.2.2.2.2.2.2.2.2.2.2.2.2.2.2.2.2.2.2.2.2.2.2.2.2.2.2.1
theorem k0_dev64_lt : ∀ (v1 : BitVec 32) (k0_hw2 : k0_chk2 v1), (k0_dev64 v1) < nD := fun v1 k0_hw2 => k0_hw2.1.2.2.2.2.2.2.2.2.2.2.2.2.2.2.2.2.2.2.2.2.2.2.2.2.2.2.2.2.2.2.2
theorem k0_dev65_lt : ∀ (v1 : BitVec 32) (k0_hw2 : k0_chk2 v1), (k0_dev65 v1) < nD := fun v1 k0_hw2 => k0_hw2.2.1
theorem k0_dev68_lt : ∀ (v1 : BitVec 32) (k0_hw2 : k0_chk2 v1), (k0_dev68 v1) < nD := fun v1 k0_hw2 => k0_hw2.2.2.1
theorem k0_dev69_lt : ∀ (v1 : BitVec 32) (k0_hw2 : k0_chk2 v1), (k0_dev69 v1) < nD := fun v1 k0_hw2 => k0_hw2.2.2.2.1
theorem k0_dev72_lt : ∀ (v1 : BitVec 32) (k0_hw2 : k0_chk2 v1), (k0_dev72 v1) < nD := fun v1 k0_hw2 => k0_hw2.2.2.2.2.1
theorem k0_dev73_lt : ∀ (v1 : BitVec 32) (k0_hw2 : k0_chk2 v1), (k0_dev73 v1) < nD := fun v1 k0_hw2 => k0_hw2.2.2.2.2.2.1
theorem k0_dev76_lt : ∀ (v1 : BitVec 32) (k0_hw2 : k0_chk2 v1), (k0_dev76 v1) < nD := fun v1 k0_hw2 => k0_hw2.2.2.2.2.2.2.1
theorem k0_dev77_lt : ∀ (v1 : BitVec 32) (k0_hw2 : k0_chk2 v1), (k0_dev77 v1) < nD := fun v1 k0_hw2 => k0_hw2.2.2.2.2.2.2.2.1
theorem k0_dev80_lt : ∀ (v1 : BitVec 32) (k0_hw2 : k0_chk2 v1), (k0_dev80 v1) < nD := fun v1 k0_hw2 => k0_hw2.2.2.2.2.2.2.2.2.1
theorem k0_dev81_lt : ∀ (v1 : BitVec 32) (k0_hw2 : k0_chk2 v1), (k0_dev81 v1) < nD := fun v1 k0_hw2 => k0_hw2.2.2.2.2.2.2.2.2.2.1
theorem k0_dev84_lt : ∀ (v1 : BitVec 32) (k0_hw2 : k0_chk2 v1), (k0_dev84 v1) < nD := fun v1 k0_hw2 => k0_hw2.2.2.2.2.2.2.2.2.2.2.1
theorem k0_dev85_lt : ∀ (v1 : BitVec 32) (k0_hw2 : k0_chk2 v1), (k0_dev85 v1) < nD := fun v1 k0_hw2 => k0_hw2.2.2.2.2.2.2.2.2.2.2.2.1
theorem k0_dev88_lt : ∀ (v1 : BitVec 32) (k0_hw2 : k0_chk2 v1), (k0_dev88 v1) < nD := fun v1 k0_hw2 => k0_hw2.2.2.2.2.2.2.2.2.2.2.2.2.1
theorem k0_dev89_lt : ∀ (v1 : BitVec 32) (k0_hw2 : k0_chk2 v1), (k0_dev89 v1) < nD := fun v1 k0_hw2 => k0_hw2.2.2.2.2.2.2.2.2.2.2.2.2.2.1
theorem k0_dev92_lt : ∀ (v1 : BitVec 32) (k0_hw2 : k0_chk2 v1), (k0_dev92 v1) < nD := fun v1 k0_hw2 => k0_hw2.2.2.2.2.2.2.2.2.2.2.2.2.2.2.1
theorem k0_dev93_lt : ∀ (v1 : BitVec 32) (k0_hw2 : k0_chk2 v1), (k0_dev93 v1) < nD := fun v1 k0_hw2 => k0_hw2.2.2.2.2.2.2.2.2.2.2.2.2.2.2.2.1
theorem k0_dev96_lt : ∀ (v1 : BitVec 32) (k0_hw2 : k0_chk2 v1), (k0_dev96 v1) < nD := fun v1 k0_hw2 => k0_hw2.2.2.2.2.2.2.2.2.2.2.2.2.2.2.2.2.1
theorem k0_dev97_lt : ∀ (v1 : BitVec 32) (k0_hw2 : k0_chk2 v1), (k0_dev97 v1) < nD := fun v1 k0_hw2 => k0_hw2.2.2.2.2.2.2.2.2.2.2.2.2.2.2.2.2.2.1
theorem k0_dev100_lt : ∀ (v1 : BitVec 32) (k0_hw2 : k0_chk2 v1), (k0_dev100 v1) < nD := fun v1 k0_hw2 => k0_hw2.2.2.2.2.2.2.2.2.2.2.2.2.2.2.2.2.2.2.1
theorem k0_dev101_lt : ∀ (v1 : BitVec 32) (k0_hw2 : k0_chk2 v1), (k0_dev101 v1) < nD := fun v1 k0_hw2 => k0_hw2.2.2.2.2.2.2.2.2.2.2.2.2.2.2.2.2.2.2.2.1
theorem k0_dev104_lt : ∀ (v1 : BitVec 32) (k0_hw2 : k0_chk2 v1), (k0_dev104 v1) < nD := fun v1 k0_hw2 => k0_hw2.2.2.2.2.2.2.2.2.2.2.2.2.2.2.2.2.2.2.2.2.1
theorem k0_dev105_lt : ∀ (v1 : BitVec 32) (k0_hw2 : k0_chk2 v1), (k0_dev105 v1) < nD := fun v1 k0_hw2 => k0_hw2.2.2.2.2.2.2.2.2.2.2.2.2.2.2.2.2.2.2.2.2.2.1
theorem k0_dev108_lt : ∀ (v1 : BitVec 32) (k0_hw2 : k0_chk2 v1), (k0_dev108 v1) < nD := fun v1 k0_hw2 => k0_hw2.2.2.2.2.2.2.2.2.2.2.2.2.2.2.2.2.2.2.2.2.2.2.1
theorem k0_dev109_lt : ∀ (v1 : BitVec 32) (k0_hw2 : k0_chk2 v1), (k0_dev109 v1) < nD := fun v1 k0_hw2 => k0_hw2.2.2.2.2.2.2.2.2.2.2.2.2.2.2.2.2.2.2.2.2.2.2.2.1
theorem k0_dev112_lt : ∀ (v1 : BitVec 32) (k0_hw2 : k0_chk2 v1), (k0_dev112 v1) < nD := fun v1 k0_hw2 => k0_hw2.2.2.2.2.2.2.2.2.2.2.2.2.2.2.2.2.2.2.2.2.2.2.2.2.1
theorem k0_dev113_lt : ∀ (v1 : BitVec 32) (k0_hw2 : k0_chk2 v1), (k0_dev113 v1) < nD := fun v1 k0_hw2 => k0_hw2.2.2.2.2.2.2.2.2.2.2.2.2.2.2.2.2.2.2.2.2.2.2.2.2.2.1
theorem k0_dev116_lt : ∀ (v1 : BitVec 32) (k0_hw2 : k0_chk2 v1), (k0_dev116 v1) < nD := fun v1 k0_hw2 => k0_hw2.2.2.2.2.2.2.2.2.2.2.2.2.2.2.2.2.2.2.2.2.2.2.2.2.2.2.1
theorem k0_dev117_lt : ∀ (v1 : BitVec 32) (k0_hw2 : k0_chk2 v1), (k0_dev117 v1) < nD := fun v1 k0_hw2 => k0_hw2.2.2.2.2.2.2.2.2.2.2.2.2.2.2.2.2.2.2.2.2.2.2.2.2.2.2.2.1
theorem k0_dev120_lt : ∀ (v1 : BitVec 32) (k0_hw2 : k0_chk2 v1), (k0_dev120 v1) < nD := fun v1 k0_hw2 => k0_hw2.2.2.2.2.2.2.2.2.2.2.2.2.2.2.2.2.2.2.2.2.2.2.2.2.2.2.2.2.1
theorem k0_dev122_lt : ∀ (v1 : BitVec 32) (k0_hw2 : k0_chk2 v1), (k0_dev122 v1) < nD := fun v1 k0_hw2 => k0_hw2.2.2.2.2.2.2.2.2.2.2.2.2.2.2.2.2.2.2.2.2.2.2.2.2.2.2.2.2.2

def k0_off63 (v2436 : BitVec 32) : Fin 2 → Nat :=
  let c128_i32_2621 : BitVec 32 := 128#32
  let v2437 : BitVec 32 := Scalar.muli v2436 c128_i32_2621
  let v2438 : Index := Scalar.indexCast v2437
  let c0_2622 : Index := 0#32
  ![v2438.toNat, 0]

def k0_chk65 (v2436 : BitVec 32) : Prop :=
  (∀ a, (k0_off63 v2436) a + S128x128.size a ≤ S4096x128.size a)
theorem k0_off63_inb : ∀ (v2436 : BitVec 32) (k0_hw65 : k0_chk65 v2436), ∀ a, (k0_off63 v2436) a + S128x128.size a ≤ S4096x128.size a := fun v2436 k0_hw65 => k0_hw65

def k0_off64 (v2444 : BitVec 32) : Fin 2 → Nat :=
  let c128_i32_2625 : BitVec 32 := 128#32
  let v2445 : BitVec 32 := Scalar.muli v2444 c128_i32_2625
  let v2446 : Index := Scalar.indexCast v2445
  let c0_2626 : Index := 0#32
  ![v2446.toNat, 0]

def k0_chk66 (v2444 : BitVec 32) : Prop :=
  (∀ a, (k0_off64 v2444) a + S128x128.size a ≤ S4096x128.size a)
theorem k0_off64_inb : ∀ (v2444 : BitVec 32) (k0_hw66 : k0_chk66 v2444), ∀ a, (k0_off64 v2444) a + S128x128.size a ≤ S4096x128.size a := fun v2444 k0_hw66 => k0_hw66

abbrev stage0_0 : Fin 1 → Memref sig .tc .smem S32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S32 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x8192 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e4m3⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Steps.lean ====
/-
  The kernel's body as a loop over the ring steps: the printed body is the same operations in the same order, cut into
  windows of sixty statements that do not line up with the steps. Everything later is proved about the loop.
-/
module

public import proofs.«01_k».proof.Proof.Gen.KernelIdeal.Skeleton
public import proofs.«01_k».proof.Proof.Gen.KernelIdeal.Points

@[expose] public section

noncomputable section

namespace Cert.Proof

open Cert.KernelIdeal Cert.KernelIdeal.Gen
open Idealize.ShloMosaic Idealize.SL.Sem

variable {F : FTy → Type} [FloatOps F]

/-- The two directions round the ring: `false` carries columns 0:4096 to the next device, `true` columns 4096:8192 to the
    previous one. -/
abbrev Dir : Type := Bool

/-! ## The kernel's operands, by direction -/

abbrev tabM : Dir → Memref sig .tc .smem S32 .i32
  | false => Memref.whole cc0_stg0_0
  | true => Memref.whole cc0_stg1_0
abbrev nbrM : Memref sig .tc .smem S2 .i32 := Memref.whole cc0_stg2_0
abbrev xM : Memref sig .tc .vmem S4096x128 .fp8e4m3 := Memref.whole cc0_stg3_0
abbrev wM : Memref sig .tc .vmem S128x8192 .fp8e5m2 := Memref.whole cc0_stg4_0
abbrev sxM : Memref sig .tc .smem S1 .f32 := Memref.whole cc0_stg5_0
abbrev swM : Memref sig .tc .smem S1 .f32 := Memref.whole cc0_stg6_0
abbrev oM : Memref sig .tc .vmem S128x8192 .f32 := Memref.whole cc0_stg7_0
/-- The send buffer, two slots. -/
abbrev sbM : Dir → Memref sig .tc .vmem S2x128x4096 .f32
  | false => Memref.whole cc0_scratch0
  | true => Memref.whole cc0_scratch2
/-- The landing buffer, two slots. -/
abbrev rbM : Dir → Memref sig .tc .vmem S2x128x4096 .f32
  | false => Memref.whole cc0_scratch1
  | true => Memref.whole cc0_scratch3
abbrev ssA : Dir → DmaSems sig S2
  | false => cc0_scratch4
  | true => cc0_scratch6
abbrev rsA : Dir → DmaSems sig S2
  | false => cc0_scratch5
  | true => cc0_scratch7
abbrev crS : Dir → Sem sig
  | false => cc0_scratch8.sem
  | true => cc0_scratch9.sem
abbrev barS : Sem sig := (SemArray.scalar (sig.barrier 0 rfl) : Sems sig S_).sem

/-- One slot of a two-slot buffer, as a rectangle. -/
theorem slot_inb (b : Fin 2) : ∀ a, (![b.val, 0, 0] : Fin 3 → Nat) a + S1x128x4096.size a ≤ S2x128x4096.size a := by
  revert b; decide
abbrev slotR (b : Fin 2) : Rect S2x128x4096 := Rect.unit (s := S2x128x4096) ![b.val, 0, 0] S1x128x4096.size (slot_inb b)
/-- One slot of a two-slot buffer, as the rank-2 memref the copies go between. -/
abbrev slotM (M : Memref sig .tc .vmem S2x128x4096 .f32) (b : Fin 2) : Memref sig .tc .vmem S128x4096 .f32 :=
  (M.slice (slotR b) (fun _ => rfl)).squeeze S128x4096 squeezes_S1x128x4096_S128x4096
theorem sem_inb (b : Fin 2) : ∀ a, (![b.val] : Fin 1 → Nat) a + S1.size a ≤ S2.size a := by revert b; decide
/-- One semaphore of a pair. -/
abbrev semAt (A : DmaSems sig S2) (b : Fin 2) : DmaSem sig :=
  ((A.slice (Rect.unit (s := S2) ![b.val] S1.size (sem_inb b))).squeeze S_ squeezes_S1_S_).sem

theorem tab_inb (s : Fin 32) : ∀ a, (![s.val] : Fin 1 → Nat) a + S1.size a ≤ S32.size a := by revert s; decide

/-! ## The values -/

/-- The weights in the width the products are taken in. -/
abbrev wide (w : Vec F S128x8192 .fp8e5m2) : FVec F S128x8192 .bf16 := k0_pay1 w

/-- One block of rows of x times this device's rows of the direction's half of the weights. -/
def blockProd (d : Dir) (w : FVec F S128x8192 .bf16) (x : Vec F S128x128 .fp8e4m3) : FVec F S128x4096 .f32 :=
  matmul dot_S128x128_S128x4096_S128x4096_1_0_0_1_n_n none
    (extf .bf16 (shapeCast S128x128 x shapeCasts_S128x128_S128x128) bitsLt_fp8e4m3_bf16)
    (match d with
      | false => extractStridedSlice S128x4096 ![0, 0] w slices_S128x8192_o0_0_S128x4096
      | true => extractStridedSlice S128x4096 ![0, 4096] w slices_S128x8192_o0_4096_S128x4096)
    (constant S128x4096 .f32 0x00000000#32)

/-- A landed slot plus this device's product. -/
def addTo (y : Vec F S1x128x4096 .f32) (p : FVec F S128x4096 .f32) : FVec F S128x4096 .f32 :=
  addf (shapeCast S128x4096 y shapeCasts_S1x128x4096_S128x4096) p

/-- What a step stores in its send slot. -/
def asSlot (a : FVec F S128x4096 .f32) : Vec F S1x128x4096 .f32 := shapeCast S1x128x4096 a shapeCasts_S128x4096_S1x128x4096

/-- A finished accumulator times the two scales. -/
def scaled (a : FVec F S128x4096 .f32) (sx sw : Elt F .f32) : FVec F S128x4096 .f32 :=
  mulf a (broadcast S128x4096 (Scalar.mulf sx sw))

/-! ## The operations of a step -/

abbrev P (α : Type) : Type 1 := Prog (TpuEff nD τ sig (Elt F) Λ₀ .tc) α

/-- Read the step's block number from the direction's table and load that block of rows. -/
def loadBlock (d : Dir) (s : Fin 32) : Prog (TpuEff nD τ sig (Elt F) Λ₀ .tc) (Vec F S128x128 .fp8e4m3) := do
  let v : Elt F .i32 ← smemLoad (tabM d) (Rect.unit (s := S32) ![s.val] S1.size (tab_inb s)) numel1_S1 rfl
  have hw : k0_chk3 v := (← Prog.lift (TpuEff.assume (k0_chk3 v) (k0_chk3.dec v))).down
  Prog.lift (.load xM (Rect.unit (s := S4096x128) (k0_off1 v) S128x128.size (k0_off1_inb v hw)).toLoadRect (View.loadsAt_vmem h_S128x128))

/-- Wait for the landing in slot `b`, and read it. -/
def recvSlot (d : Dir) (b : Fin 2) : Prog (TpuEff nD τ sig (Elt F) Λ₀ .tc) (Vec F S1x128x4096 .f32) := do
  Prog.lift (.waitDma2 (semAt (rsA d) b) (slotM (sbM d) b) (slotM (rbM d) b) ((View.wordExact_bits rfl).reshape _ _) ((View.wordExact_bits rfl).reshape _ _))
  Prog.lift (.load (rbM d) (slotR b).toLoadRect (View.loadsAt_vmem h_S1x128x4096))

/-- Wait until the send slot's last copy has left it. -/
def sentSlot (d : Dir) (b : Fin 2) : Prog (TpuEff nD τ sig (Elt F) Λ₀ .tc) PUnit :=
  Prog.lift (.waitDma2 (semAt (ssA d) b) (slotM (rbM d) b) (slotM (sbM d) b) ((View.wordExact_bits rfl).reshape _ _) ((View.wordExact_bits rfl).reshape _ _))

/-- Wait for a credit. -/
def takeCredit (d : Dir) : Prog (TpuEff nD τ sig (Elt F) Λ₀ .tc) PUnit := semWaitWord (crS d) 1#32

/-- Give the device that sends to this one a credit. -/
def giveCredit (d : Dir) (peer : Dev nD) : Prog (TpuEff nD τ sig (Elt F) Λ₀ .tc) PUnit := semSignalWord peer (crS d) 1#32

/-- Store the accumulator in the send slot and start its copy to the device `to`. -/
def sendSlot (d : Dir) (peer : Dev nD) (b : Fin 2) (a : FVec F S128x4096 .f32) : Prog (TpuEff nD τ sig (Elt F) Λ₀ .tc) PUnit := do
  let _v : Vec F S1x128x4096 .f32 ← Prog.lift (.load (sbM d) (slotR b).toLoadRect (View.loadsAt_vmem h_S1x128x4096))
  Prog.lift (.store (sbM d) (slotR b) (asSlot a) Finset.univ (View.stores_vmem_bits_univ h_S1x128x4096 rfl) (.inl rfl))
  Prog.lift (.enqueueDma (slotM (sbM d) b) (.remote (Dev.tc peer) (slotM (rbM d) b) (.dma (semAt (ssA d) b))) (.dma (semAt (rsA d) b)) ((View.wordExact_bits rfl).reshape _ _) ((View.wordExact_bits rfl).reshape _ _) ⟨⟨rfl, Or.inl rfl⟩, trivial⟩)

/-- The slot a step sends from and lands in. -/
abbrev par (s : ℕ) : Fin 2 := ⟨s % 2, Nat.mod_lt _ (by decide)⟩

/-! ## The steps: `nx` is the next device on the ring, `pv` the previous one -/

/-- Step 0: this device's own product goes out on both sides. -/
def step0 (nx pv : Dev nD) (w : FVec F S128x8192 .bf16) : Prog (TpuEff nD τ sig (Elt F) Λ₀ .tc) PUnit := do
  let xa ← loadBlock false 0
  let xb ← loadBlock true 0
  sendSlot false nx 0 (blockProd false w xa)
  sendSlot true pv 0 (blockProd true w xb)

/-- Wait for both landings of step `s - 1`, which stand in slot `b`, and add this device's products to them. -/
def gather (w : FVec F S128x8192 .bf16) (s : Fin 32) (b : Fin 2) :
    Prog (TpuEff nD τ sig (Elt F) Λ₀ .tc) (FVec F S128x4096 .f32 × FVec F S128x4096 .f32) := do
  let xa ← loadBlock false s
  let xb ← loadBlock true s
  let ya ← recvSlot false b
  let yb ← recvSlot true b
  pure (addTo ya (blockProd false w xa), addTo yb (blockProd true w xb))

/-- Give both senders their credit. -/
def giveBoth (nx pv : Dev nD) : Prog (TpuEff nD τ sig (Elt F) Λ₀ .tc) PUnit := do
  giveCredit false pv
  giveCredit true nx

/-- Wait until the send slots are free on this side and the landing slots on the other. -/
def awaitBoth (b : Fin 2) : Prog (TpuEff nD τ sig (Elt F) Λ₀ .tc) PUnit := do
  sentSlot false b
  takeCredit false
  sentSlot true b
  takeCredit true

/-- Send both accumulators. -/
def sendBoth (nx pv : Dev nD) (b : Fin 2) (a : FVec F S128x4096 .f32 × FVec F S128x4096 .f32) :
    Prog (TpuEff nD τ sig (Elt F) Λ₀ .tc) PUnit := do
  sendSlot false nx b a.1
  sendSlot true pv b a.2

def step1 (nx pv : Dev nD) (w : FVec F S128x8192 .bf16) : Prog (TpuEff nD τ sig (Elt F) Λ₀ .tc) PUnit := do
  let a ← gather w 1 0
  giveBoth nx pv
  sendBoth nx pv 1 a

/-- A step in the steady state, 2 ≤ s ≤ 29. -/
def stepMid (nx pv : Dev nD) (w : FVec F S128x8192 .bf16) (s : ℕ) (hs : s < 32) : Prog (TpuEff nD τ sig (Elt F) Λ₀ .tc) PUnit := do
  let a ← gather w ⟨s, hs⟩ (par (s + 1))
  giveBoth nx pv
  awaitBoth (par s)
  sendBoth nx pv (par s) a

def step30 (nx pv : Dev nD) (w : FVec F S128x8192 .bf16) : Prog (TpuEff nD τ sig (Elt F) Λ₀ .tc) PUnit := do
  let a ← gather w 30 1
  awaitBoth 0
  sendBoth nx pv 0 a

/-- The last step: both accumulators are complete, and their scaled values are the result. -/
def step31 (w : FVec F S128x8192 .bf16) : Prog (TpuEff nD τ sig (Elt F) Λ₀ .tc) PUnit := do
  let a ← gather w 31 0
  let sx : Elt F .f32 ← smemLoad sxM (Rect.unit (s := S1) ![0] S1.size inb_S1_S1_0) numel1_S1 rfl
  let sw : Elt F .f32 ← smemLoad swM (Rect.unit (s := S1) ![0] S1.size inb_S1_S1_0) numel1_S1 rfl
  let _ : Vec F S128x4096 .f32 ← Prog.lift (.load oM (Rect.unit (s := S128x8192) ![0, 0] S128x4096.size inb_S128x8192_S128x4096_0_0).toLoadRect (View.loadsAt_vmem h_S128x4096))
  Prog.lift (.store oM (Rect.unit (s := S128x8192) ![0, 0] S128x4096.size inb_S128x8192_S128x4096_0_0) (scaled a.1 sx sw) Finset.univ (View.stores_vmem_bits_univ h_S128x4096 rfl) (.inl rfl))
  let _ : Vec F S128x4096 .f32 ← Prog.lift (.load oM (Rect.unit (s := S128x8192) ![0, 4096] S128x4096.size inb_S128x8192_S128x4096_0_4096).toLoadRect (View.loadsAt_vmem h_S128x4096))
  Prog.lift (.store oM (Rect.unit (s := S128x8192) ![0, 4096] S128x4096.size inb_S128x8192_S128x4096_0_4096) (scaled a.2 sx sw) Finset.univ (View.stores_vmem_bits_univ h_S128x4096 rfl) (.inl rfl))

/-- The last copies have left their slots. -/
def drain : Prog (TpuEff nD τ sig (Elt F) Λ₀ .tc) PUnit := do
  sentSlot false 1
  sentSlot false 0
  sentSlot true 1
  sentSlot true 0

/-- The steady steps: `n` of them, the last being step 29. -/
def mids (nx pv : Dev nD) (w : FVec F S128x8192 .bf16) : (n : ℕ) → Prog (TpuEff nD τ sig (Elt F) Λ₀ .tc) PUnit
  | 0 => pure ⟨⟩
  | n + 1 => do
    stepMid nx pv w (29 - n) (Nat.lt_of_le_of_lt (Nat.sub_le _ _) (by decide))
    mids nx pv w n

/-- All steps. -/
def steps (nx pv : Dev nD) (w : FVec F S128x8192 .bf16) : Prog (TpuEff nD τ sig (Elt F) Λ₀ .tc) PUnit := do
  step0 nx pv w
  step1 nx pv w
  mids nx pv w 28
  step30 nx pv w
  step31 w
  drain

/-- The whole body: read the neighbours, shake hands with both, load the weights, run the steps. -/
def ringBody : Prog (TpuEff nD τ sig (Elt F) Λ₀ .tc) PUnit := do
  let v0 : Elt F .i32 ← smemLoad nbrM (Rect.unit (s := S2) ![0] S1.size inb_S2_S1_0) numel1_S1 rfl
  have hw1 : k0_chk1 v0 := (← Prog.lift (TpuEff.assume (k0_chk1 v0) (k0_chk1.dec v0))).down
  let v1 : Elt F .i32 ← smemLoad nbrM (Rect.unit (s := S2) ![1] S1.size inb_S2_S1_1) numel1_S1 rfl
  have hw2 : k0_chk2 v1 := (← Prog.lift (TpuEff.assume (k0_chk2 v1) (k0_chk2.dec v1))).down
  semSignalWord (⟨k0_dev1 v0, k0_dev1_lt v0 hw1⟩ : Dev nD) barS 1#32
  semSignalWord (⟨k0_dev2 v1, k0_dev2_lt v1 hw2⟩ : Dev nD) barS 1#32
  semWaitWord barS 2#32
  let w : Vec F S128x8192 .fp8e5m2 ← Prog.lift (.load wM (Rect.unit (s := S128x8192) ![0, 0] S128x8192.size inb_S128x8192_S128x8192_0_0).toLoadRect (View.loadsAt_vmem h_S128x8192))
  steps ⟨k0_dev1 v0, k0_dev1_lt v0 hw1⟩ ⟨k0_dev2 v1, k0_dev2_lt v1 hw2⟩ (wide w)

end Cert.Proof

end
-- ==== Proof.StepsEq.lean ====
module
public import proofs.«01_k».proof.Proof.Steps
public import proofs.«01_k».proof.Proof.Gen.KernelIdeal.Launch
@[expose] public section
noncomputable section
namespace Cert.Proof
open Cert.KernelIdeal Cert.KernelIdeal.Gen
open Idealize.ShloMosaic Idealize.SL.Sem
variable {F : FTy → Type} [FloatOps F]
/-- Two programs are equal when their first operations are and they go on alike. -/
theorem op_congr.{v} {E : Type → Type v} {α β : Type} {e e' : E β} {k k' : β → Prog E α} (he : e = e') (hk : ∀ x, k x = k' x) :
    Prog.op e k = Prog.op e' k' := by rw [he, funext hk]
set_option maxRecDepth 65536 in
set_option maxHeartbeats 4000000 in
/-- The printed body is the loop over the ring steps: they are compared operation by operation. -/
theorem body_eq : bodyAt0 (F := F) t0_0 = ringBody (F := F) := by
  repeat
    (conv_lhs => whnf)
    (conv_rhs => whnf)
    refine op_congr rfl (fun _ => ?_)
  rfl
end Cert.Proof
end
-- ==== Proof.Ring.lean ====
/-
  The ring that the kernel walks: its order, each device's two neighbours, and which block of rows a device adds at which
  step. `false` is the direction of columns 0:4096 (to the next device), `true` that of columns 4096:8192.
-/
module

public import proofs.«01_k».proof.Proof.StepsEq

@[expose] public section

noncomputable section

namespace Cert.Proof

open Cert.KernelIdeal Cert.KernelIdeal.Gen
open Idealize.ShloMosaic Idealize.SL.Sem

/-- The device at a place of the ring. -/
def ringL : Fin 32 → Dev nD := ![0,3,4,7,15,12,11,8,16,19,20,23,31,28,27,24,25,26,29,30,22,21,18,17,9,10,13,14,6,5,2,1]
/-- A device's place. -/
def posOf : Dev nD → Fin 32 := ![0,31,30,1,2,29,28,3,7,24,25,6,5,26,27,4,8,23,22,9,10,21,20,11,15,16,17,14,13,18,19,12]

theorem ringL_posOf (c : Dev nD) : ringL (posOf c) = c := by revert c; decide
theorem posOf_ringL (v : Fin 32) : posOf (ringL v) = v := by revert v; decide

/-- The next device on the ring, and the previous one. -/
def nxt (c : Dev nD) : Dev nD := ringL (posOf c + 1)
def prv (c : Dev nD) : Dev nD := ringL (posOf c - 1)

/-- Where a direction's blocks go from a device, and where they come from. -/
def dstD : Dir → Dev nD → Dev nD
  | false => nxt
  | true => prv
def srcD : Dir → Dev nD → Dev nD
  | false => prv
  | true => nxt

theorem dst_src (d : Dir) (c : Dev nD) : dstD d (srcD d c) = c := by revert d c; decide
theorem src_dst (d : Dir) (c : Dev nD) : srcD d (dstD d c) = c := by revert d c; decide

/-- The places of a direction's blocks, and the block of rows that a device adds at a step: the device that its own finished block is, at step 31. -/
def blkPos (d : Dir) (p : Fin 32) (s : ℕ) : Fin 32 :=
  match d with
  | false => p - 1 - Fin.ofNat 32 s
  | true => p + 1 + Fin.ofNat 32 s
def blk (d : Dir) (c : Dev nD) (s : ℕ) : Fin 32 := ringL (blkPos d (posOf c) s)

theorem blk_src (d : Dir) (c : Dev nD) (s : ℕ) : blk d (srcD d c) s = blk d c (s + 1) := by
  unfold blk
  have h1 : Fin.ofNat 32 (s + 1) = Fin.ofNat 32 s + 1 := by
    apply Fin.ext; simp [Fin.ofNat, Fin.val_add]
  cases d
  · show ringL (posOf (ringL (posOf c - 1)) - 1 - _) = ringL (posOf c - 1 - _)
    rw [posOf_ringL, h1]; congr 1
    generalize posOf c = p; generalize Fin.ofNat 32 s = q; revert p q; decide
  · show ringL (posOf (ringL (posOf c + 1)) + 1 + _) = ringL (posOf c + 1 + _)
    rw [posOf_ringL, h1]; congr 1
    generalize posOf c = p; generalize Fin.ofNat 32 s = q; revert p q; decide

/-- At the last step each device adds to the block of its own number. -/
theorem blk_last (d : Dir) (c : Dev nD) : blk d c 31 = c := by revert d c; decide

end Cert.Proof

end
-- ==== Proof.Protocol.lean ====
/-
  The protocol of the ring, device by device: the semaphores' cells, what each landing and each signal hands over and with
  which contents, what a device owes, and the levels that make every wait allowed.

  - the barrier: a device tells each neighbour that sends to it that both its landing slots are free;
  - a landing cell (direction d, slot b): round r is the landing of step 2r + b, and hands over the slot at the
    accumulator that the sending device had at that step;
  - a sending cell: the same rounds; hands the send slot back;
  - a credit cell: one round of 29 units, number k given by the receiver at step k. A unit says how often the receiver has
    released each slot by then. Units may be taken in any order: after n of them, at least one has number n or more.
-/
module

public import proofs.«01_k».proof.Proof.Ring
public import Idealize.ShloMosaic.Lib.Pipeline.Regions
public import Idealize.ShloMosaic.Lib.Pipeline.Kit
public import Idealize.ShloMosaic.Lib.Pipeline.RegionTalk
public import Idealize.ShloMosaic.Lib.Pipeline.TalkSites
public import Idealize.ShloMosaic.Lib.Release
public import Idealize.ShloMosaic.Lib.Rounds
public import Idealize.ShloMosaic.Lib.Tactic
public import Idealize.ShloMosaic.Lib.ViewIndex
public import Idealize.SL.BI.BigOpNat

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.TalkSites (Fam)

variable {F : FTy → Type} [FloatOps F]

/-! ## The resource algebra: the pipeline library's part, the rounds, the landing slots -/

/-- A landing slot: the device, the direction, the slot. -/
abbrev Key : Type := Dev nD × Dir × Fin 2
abbrev UU : Type := UR sig nD τ × (URounds (GSem nD τ sig) ℕ × USlots Key)

local notation "𝕄" => MT nD τ sig ℕ (Elt F) ℕ UU ℕ

abbrev EP : Emb (UR sig nD τ) (MT nD τ sig ℕ (Elt F) ℕ UU ℕ) := embL
abbrev ET : Emb (URounds (GSem nD τ sig) ℕ × USlots Key) (MT nD τ sig ℕ (Elt F) ℕ UU ℕ) := embR
abbrev ER : Emb (URounds (GSem nD τ sig) ℕ) (MT nD τ sig ℕ (Elt F) ℕ UU ℕ) := (Emb.inl : Emb _ (URounds (GSem nD τ sig) ℕ × USlots Key)).trans ET
abbrev ES : Emb (USlots Key) (MT nD τ sig ℕ (Elt F) ℕ UU ℕ) := (Emb.inr : Emb _ (URounds (GSem nD τ sig) ℕ × USlots Key)).trans ET

/-! ## The cells -/

/-- The kinds of semaphore: the barrier, and per direction the credit, and per slot the landing's and the sending's. -/
inductive CK : Type
  | bar
  | cr (d : Dir)
  | rs (d : Dir) (b : Fin 2)
  | ss (d : Dir) (b : Fin 2)
  deriving DecidableEq

def semOf : CK → SemLoc sig
  | .bar => .reg barS
  | .cr d => .reg (crS d)
  | .rs d b => .dma (semAt (rsA d) b)
  | .ss d b => .dma (semAt (ssA d) b)

def kindOf : SemLoc sig → Option CK
  | .reg i => match i.val with
    | 0 => some (.cr false)
    | 1 => some (.cr true)
    | 2 => some .bar
    | _ => none
  | .dma i => match i.val with
    | 8 => some (.ss false 0)
    | 9 => some (.ss false 1)
    | 10 => some (.rs false 0)
    | 11 => some (.rs false 1)
    | 12 => some (.ss true 0)
    | 13 => some (.ss true 1)
    | 14 => some (.rs true 0)
    | 15 => some (.rs true 1)
    | _ => none

theorem kindOf_semOf (k : CK) : kindOf (semOf k) = some k := by
  rcases k with _ | d | ⟨d, b⟩ | ⟨d, b⟩
  · rfl
  · revert d; decide
  · revert d b; decide
  · revert d b; decide

theorem semOf_inj {k k' : CK} (h : semOf k = semOf k') : k = k' := by
  have := congrArg kindOf h; rw [kindOf_semOf, kindOf_semOf] at this; exact Option.some.inj this

/-- A device's cell of a kind. -/
abbrev cellK (c : Dev nD) (k : CK) : GSem nD τ sig := ((c : Thread nD τ), semOf k)

/-- What a copy into a slot credits. -/
def NB : ℕ := (slotM (rbM false) 0).view.dmaCredit
theorem NB_pos : 0 < NB := View.dmaCredit_pos _ (by decide)
theorem credit_rb (d : Dir) (b : Fin 2) : (slotM (rbM d) b).view.dmaCredit = NB := by cases d <;> rfl
theorem credit_sb (d : Dir) (b : Fin 2) : (slotM (sbM d) b).view.dmaCredit = NB := by cases d <;> rfl

/-! ## Slots -/

section Slots

variable (M M' : Memref sig .tc .vmem S2x128x4096 .f32) (b : Fin 2)

theorem slot_set : (slotM M b).view.set = (M.access (slotR b)).set := View.set_reshape _ _

/-- A slot's elements, held at contents `f` of the buffer. -/
abbrev slotPts (c : Dev nD) (f : Buf (Elt F) ((slotM M b).view.loc (c : Thread nD τ))) : sProp 𝕄 :=
  (slotM M b).view.loc (c : Thread nD τ) ↦[(slotM M b).view.set]{fullShare} f

/-- What a slot of a buffer reads. -/
abbrev slotRd (f : M.view.ty.Contents (Elt F)) : Vec F S1x128x4096 .f32 := (M.access (slotR b)).read (Elt F) f

omit [FloatOps F] in
/-- A copy of one slot into another slot makes it read what the first reads. -/
theorem slotRd_copy (fd : M'.view.ty.Contents (Elt F)) (fs : M.view.ty.Contents (Elt F)) :
    slotRd M' b ((slotM M' b).view.write (Elt F) fd ((slotM M b).view.read (Elt F) fs) Finset.univ) = slotRd M b fs := by
  funext y
  obtain ⟨x, rfl⟩ := (Shape.reshapeEquiv squeezes_S1x128x4096_S128x4096.numel_eq).surjective y
  exact View.read_write_reshape (M'.access (slotR b)) squeezes_S1x128x4096_S128x4096.numel_eq fd _ x

omit [FloatOps F] in
/-- After a store of the slot, it reads what was stored. -/
theorem slotRd_store (f : M.view.ty.Contents (Elt F)) (w : Vec F S1x128x4096 .f32) :
    slotRd M b ((M.access (slotR b)).write (Elt F) f w Finset.univ) = w :=
  funext fun x => View.read_write_of_mem (v := M.access (slotR b)) f w (Finset.mem_univ x)

end Slots

/-- A landing slot at any contents. -/
abbrev rbSlot (x : Key) : sProp 𝕄 := slot ((slotM (rbM x.2.1) x.2.2).view.loc (x.1 : Thread nD τ)) (slotM (rbM x.2.1) x.2.2).view.set
/-- A send slot at any contents. -/
abbrev sbSlot (x : Key) : sProp 𝕄 := slot ((slotM (sbM x.2.1) x.2.2).view.loc (x.1 : Thread nD τ)) (slotM (sbM x.2.1) x.2.2).view.set

theorem slot_nonempty (M : Memref sig .tc .vmem S2x128x4096 .f32) (b : Fin 2) : (slotM M b).view.set.Nonempty := by
  unfold View.set
  rw [Finset.map_nonempty]
  exact ⟨fun _ => ⟨0, by rename_i a; revert a; decide⟩, Finset.mem_univ _⟩

/-! ## Contents -/

/-- What every device is given: its columns of x and its rows of the weights. -/
structure Ins (F : FTy → Type) where
  x : Dev nD → Vec F S4096x128 .fp8e4m3
  w : Dev nD → Vec F S128x8192 .fp8e5m2

theorem rows_inb (b : Fin 32) : ∀ a, (![b.val * 128, 0] : Fin 2 → Nat) a + S128x128.size a ≤ S4096x128.size a := by revert b; decide
/-- One block of 128 rows of x. -/
abbrev rowsR (b : Fin 32) : Rect S4096x128 := Rect.unit (s := S4096x128) ![b.val * 128, 0] S128x128.size (rows_inb b)
def rowsAt (f : Vec F S4096x128 .fp8e4m3) (b : Fin 32) : Vec F S128x128 .fp8e4m3 := (xM.access (rowsR b)).read (Elt F) f

variable (I : Ins F)

/-- The product that device `c` adds at step `s`. -/
def part (d : Dir) (c : Dev nD) (s : ℕ) : FVec F S128x4096 .f32 := blockProd d (wide (I.w c)) (rowsAt (I.x c) (blk d c s))

/-- The accumulator that device `c` has at step `s`: at step 0 its own product, later what arrived from its source plus its
    own product. -/
def acc (d : Dir) : ℕ → Dev nD → FVec F S128x4096 .f32
  | 0, c => part I d c 0
  | s + 1, c => addf (acc d s (srcD d c)) (part I d c (s + 1))

theorem shapeCast_asSlot (a : FVec F S128x4096 .f32) : shapeCast S128x4096 (asSlot a) shapeCasts_S1x128x4096_S128x4096 = a := by
  unfold asSlot
  funext i
  show a (Shape.reshapeEquiv _ (Shape.reshapeEquiv _ i)) = a i
  rw [Shape.reshapeEquiv_reshapeEquiv, Shape.reshapeEquiv_self]

theorem acc_succ (d : Dir) (s : ℕ) (c : Dev nD) : addTo (asSlot (acc I d s (srcD d c))) (part I d c (s + 1)) = acc I d (s + 1) c := by
  unfold addTo; rw [shapeCast_asSlot]; rfl

/-! ## The schedule -/

/-- How often slot `b` has been read after the landings of steps 0 … k-1. -/
def cnt (b : Fin 2) (k : ℕ) : ℕ := (k + 1 - b.val) / 2

/-- What the receiver says in credit number `k`: how far it has read and released each slot. -/
def crPay (d : Dir) (c' : Dev nD) (k : ℕ) : sProp 𝕄 :=
  bigSep Finset.univ fun b : Fin 2 => iprop(reached ER (cellK c' (.rs d b)) (cnt b k) ∗ released ES (c', d, b) (1 + cnt b k))

/-- What a receiver says in its signal before the first step: its landing slots are free, and its credit cell for the other
    direction, which the signalled device pays, stands at round 0. -/
def barPay (d : Dir) (c' : Dev nD) : sProp 𝕄 := iprop(crPay d c' 0 ∗ reached ER (cellK c' (.cr (!d))) 0)

/-- What a landing hands over. -/
def rsPay (d : Dir) (b : Fin 2) (c : Dev nD) (r : ℕ) : sProp 𝕄 :=
  iprop(∃ f, ⌜slotRd (rbM d) b f = asSlot (acc I d (2 * r + b.val) (srcD d c))⌝ ∗ slotPts (rbM d) b c f)

/-- The direction a barrier duty is about. -/
def dirOf (n : ℕ) : Dir := n == 1
def dn : Dir → ℕ
  | false => 0
  | true => 1
theorem dirOf_dn (d : Dir) : dirOf (dn d) = d := by cases d <;> rfl

/-- The rounds of the copies' cells. -/
abbrev oneIf (b : Fin 2) (r : ℕ) : Finset ℕ := if 2 * r + b.val ≤ 30 then {0} else ∅

def dutiesK : CK → ℕ → Finset ℕ
  | .bar, r => if r = 0 then {0, 1} else ∅
  | .cr _, r => if r = 0 then Finset.Icc 1 29 else ∅
  | .rs _ b, r => oneIf b r
  | .ss _ b, r => oneIf b r

def amountK : CK → ℕ
  | .bar => 1
  | .cr _ => 1
  | .rs _ _ => NB
  | .ss _ _ => NB

def payK (c : Dev nD) (r n : ℕ) : CK → sProp 𝕄
  | .bar => barPay (dirOf n) (dstD (dirOf n) c)
  | .cr d => crPay d (dstD d c) n
  | .rs d b => rsPay I d b c r
  | .ss d b => sbSlot (c, d, b)

theorem amountK_pos (k : CK) : 0 < amountK k := by
  cases k
  exacts [Nat.one_pos, Nat.one_pos, NB_pos, NB_pos]

/-- THE SCHEDULE. -/
def ringRd : Rounds.Schedule (GSem nD τ sig) ℕ 𝕄 where
  duties g r := if g.1.2 = .tc then (match kindOf g.2 with | some k => dutiesK k r | none => ∅) else ∅
  amount g _ _ := match kindOf g.2 with | some k => amountK k | none => 1
  payload g r n := match kindOf g.2 with | some k => payK I g.1.1 r n k | none => iprop(emp)
  amount_pos g _ _ _ := by
    split
    · exact amountK_pos _
    · exact Nat.one_pos

instance crPay_storable (d : Dir) (c' : Dev nD) (k : ℕ) : BI.Storable (upEmb : UEmb _ 𝕄) (crPay d c' k) := by
  unfold crPay; infer_instance
instance crPay_persistent (d : Dir) (c' : Dev nD) (k : ℕ) : BI.Persistent (crPay d c' k : sProp 𝕄) := by
  unfold crPay; infer_instance

instance barPay_storable (d : Dir) (c' : Dev nD) : BI.Storable (upEmb : UEmb _ 𝕄) (barPay d c') := by
  unfold barPay; infer_instance
instance barPay_persistent (d : Dir) (c' : Dev nD) : BI.Persistent (barPay d c' : sProp 𝕄) := by
  unfold barPay; infer_instance

instance payK_storable (c : Dev nD) (r n : ℕ) (k : CK) : BI.Storable (upEmb : UEmb _ 𝕄) (payK I c r n k) := by
  cases k <;> unfold payK <;> first | infer_instance | (unfold rsPay; infer_instance)

instance ringRd_storable (g : GSem nD τ sig) (r n : ℕ) : BI.Storable (upEmb : UEmb _ 𝕄) ((ringRd I).payload g r n) := by
  show BI.Storable upEmb (match kindOf g.2 with | some k => payK I g.1.1 r n k | none => iprop(emp))
  split <;> infer_instance

theorem duties_cell (c : Dev nD) (k : CK) (r : ℕ) : (ringRd I).duties (cellK c k) r = dutiesK k r := by
  dsimp only [ringRd]; rw [if_pos rfl, kindOf_semOf]
theorem amount_cell (c : Dev nD) (k : CK) (r n : ℕ) : (ringRd I).amount (cellK c k) r n = amountK k := by
  dsimp only [ringRd]; rw [kindOf_semOf]
theorem payload_cell (c : Dev nD) (k : CK) (r n : ℕ) : (ringRd I).payload (cellK c k) r n = payK I c r n k := by
  dsimp only [ringRd]; rw [kindOf_semOf]
theorem expect_cell (c : Dev nD) (k : CK) (r : ℕ) : (ringRd I).expect (cellK c k) r = (dutiesK k r).card * amountK k := by
  unfold Schedule.expect Schedule.amountOf
  rw [duties_cell, Finset.sum_congr rfl fun n _ => amount_cell I c k r n, Finset.sum_const, smul_eq_mul]

/-- No round after these. -/
def lastK : CK → ℕ
  | .bar => 1
  | .cr _ => 1
  | .rs _ b => cnt b 31
  | .ss _ b => cnt b 31
theorem duties_later (c : Dev nD) (k : CK) (r : ℕ) (h : lastK k ≤ r) : (ringRd I).duties (cellK c k) r = ∅ := by
  rw [duties_cell]
  cases k <;> simp only [lastK, dutiesK, cnt] at h ⊢ <;> exact if_neg (by omega)

end Cert.Proof

end
-- ==== Proof.Owed.lean ====
/-
  What a device owes as it goes along, and the levels: the barrier at level 1, what is made at step s at level s + 2. So a
  device waits only below what it still owes. The waits for its own sends are at level 0.
-/
module

public import proofs.«01_k».proof.Proof.Protocol

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv mem_L mem_L' mayWait_of)

variable {F : FTy → Type} [FloatOps F]

local notation "𝕄" => MT nD τ sig ℕ (Elt F) ℕ UU ℕ

/-- The landing that send number `s` of device `c` owes its destination. -/
abbrev sendTally (d : Dir) (c : Dev nD) (s : ℕ) : CellTallies nD τ sig ℕ := tallyAt (cellK (dstD d c) (.rs d (par s))) (s + 2) NB
/-- Credit number `k`, owed to the source. -/
abbrev credTally (d : Dir) (c : Dev nD) (k : ℕ) : CellTallies nD τ sig ℕ := tallyAt (cellK (srcD d c) (.cr d)) (k + 2) 1
/-- The barrier unit owed to the source. -/
abbrev barTally (d : Dir) (c : Dev nD) : CellTallies nD τ sig ℕ := tallyAt (cellK (srcD d c) .bar) 1 1

/-- The sends from number `n` on, and the credits from number `n` on. -/
def oweS (d : Dir) (c : Dev nD) (n : ℕ) : CellTallies nD τ sig ℕ := ∑ s ∈ Finset.Ico n 31, sendTally d c s
def oweC (d : Dir) (c : Dev nD) (n : ℕ) : CellTallies nD τ sig ℕ := ∑ k ∈ Finset.Ico n 30, credTally d c k

theorem Ico_bot {a b : ℕ} (h : a < b) : Finset.Ico a b = insert a (Finset.Ico (a + 1) b) := by
  ext x; simp only [Finset.mem_Ico, Finset.mem_insert]; omega
theorem oweS_split (d : Dir) (c : Dev nD) {n : ℕ} (h : n < 31) : oweS d c n = oweS d c (n + 1) + sendTally d c n := by
  unfold oweS; rw [Ico_bot h, Finset.sum_insert (by rw [Finset.mem_Ico]; omega), add_comm]
theorem oweC_split (d : Dir) (c : Dev nD) {n : ℕ} (h : n < 30) : oweC d c n = oweC d c (n + 1) + credTally d c n := by
  unfold oweC; rw [Ico_bot h, Finset.sum_insert (by rw [Finset.mem_Ico]; omega), add_comm]
theorem oweS_end (d : Dir) (c : Dev nD) {n : ℕ} (h : 31 ≤ n) : oweS d c n = 0 := by
  unfold oweS; rw [Finset.Ico_eq_empty_of_le h, Finset.sum_empty]
theorem oweC_end (d : Dir) (c : Dev nD) {n : ℕ} (h : 30 ≤ n) : oweC d c n = 0 := by
  unfold oweC; rw [Finset.Ico_eq_empty_of_le h, Finset.sum_empty]

/-- What is still owed: credits of each direction from `a` and `b` on, sends of each direction from `s` and `t` on. -/
def OW (c : Dev nD) (a b s t : ℕ) : CellTallies nD τ sig ℕ := oweC false c a + oweC true c b + oweS false c s + oweS true c t

section Split
variable (c : Dev nD) {n : ℕ} (a b s t : ℕ)
theorem OW_cA (h : n < 30) : OW c n b s t = OW c (n + 1) b s t + credTally false c n := by
  unfold OW; rw [oweC_split false c h, add_right_comm (oweC false c (n + 1)), add_right_comm (oweC false c (n + 1) + _), add_right_comm (oweC false c (n + 1) + _ + _)]
theorem OW_cB (h : n < 30) : OW c a n s t = OW c a (n + 1) s t + credTally true c n := by
  unfold OW; rw [oweC_split true c h, ← add_assoc, add_right_comm _ (credTally true c n), add_right_comm _ (credTally true c n)]
theorem OW_sA (h : n < 31) : OW c a b n t = OW c a b (n + 1) t + sendTally false c n := by
  unfold OW; rw [oweS_split false c h, ← add_assoc, add_right_comm _ (sendTally false c n)]
theorem OW_sB (h : n < 31) : OW c a b s n = OW c a b s (n + 1) + sendTally true c n := by
  unfold OW; rw [oweS_split true c h, ← add_assoc]
end Split

theorem OW_end (c : Dev nD) {a b s t : ℕ} (ha : 30 ≤ a) (hb : 30 ≤ b) (hs : 31 ≤ s) (ht : 31 ≤ t) : OW c a b s t = 0 := by
  unfold OW; rw [oweC_end _ _ ha, oweC_end _ _ hb, oweS_end _ _ hs, oweS_end _ _ ht]; simp only [add_zero]

/-- The number of levels. -/
abbrev NL : ℕ := 40

/-- Everything that `O` owes has a level, above `i`. -/
def Over (i : ℕ) (O : CellTallies nD τ sig ℕ) : Prop := ∀ g (k : ℕ), 0 < O g k → k ∈ L NL g ∧ i < k

theorem Over.add {i : ℕ} {O O' : CellTallies nD τ sig ℕ} (h : Over i O) (h' : Over i O') : Over i (O + O') := fun g k hk => by
  rw [Pi.add_apply, Finsupp.add_apply] at hk
  rcases Nat.add_pos_iff_pos_or_pos.mp hk with hk | hk
  exacts [h g k hk, h' g k hk]
theorem Over.zero (i : ℕ) : Over i 0 := fun _ _ h => absurd h (Nat.lt_irrefl 0)
theorem Over.sum {i : ℕ} {S : Finset ℕ} {f : ℕ → CellTallies nD τ sig ℕ} (h : ∀ s ∈ S, Over i (f s)) : Over i (∑ s ∈ S, f s) :=
  Finset.sum_induction f (Over i) (fun _ _ => Over.add) (Over.zero i) h
theorem Over.at {i k n : ℕ} (c : Dev nD) (x : CK) (h : i < k) (hk : k < NL) : Over i (tallyAt (cellK c x) k n) := fun g j hj => by
  obtain ⟨rfl, rfl⟩ := Pipeline.tallyAt_pos hj
  exact ⟨mem_L _ _ hk, h⟩

theorem over_OW (c : Dev nD) {i a b s t : ℕ} (ha : i < a + 2) (hb : i < b + 2) (hs : i < s + 2) (ht : i < t + 2) : Over i (OW c a b s t) := by
  unfold OW oweC oweS
  refine (((Over.sum fun k hk => ?_).add (Over.sum fun k hk => ?_)).add (Over.sum fun k hk => ?_)).add (Over.sum fun k hk => ?_)
  all_goals
    have := Finset.mem_Ico.mp hk
    exact Over.at _ _ (by omega) (by unfold NL; omega)

/-- A wait at level `i` while all that is owed lies above. -/
theorem mayWait {i : ℕ} (hi : i < NL) (c : Dev nD) (sm : SemLoc sig) {O : CellTallies nD τ sig ℕ} (h : Over i O) :
    (levAts (L NL) lv : sProp 𝕄) ⊢ MayWait (c : Thread nD τ) sm i O := mayWait_of hi c sm O h

end Cert.Proof

end
-- ==== Proof.Family.lean ====
/-
  The ring's cells and tokens as one family: the barrier cells are funded from their counters, the scoped ones dormant; and
  what every device may use throughout: all cells' and all landing slots' invariants, and the levels.
-/
module

public import proofs.«01_k».proof.Proof.Owed

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

/-- The kinds whose semaphores the kernel's scope allocates. -/
def scopedK : List CK := [.cr false, .cr true, .rs false 0, .rs false 1, .rs true 0, .rs true 1, .ss false 0, .ss false 1, .ss true 0, .ss true 1]
def scopedL : List (SemLoc sig) := scopedK.map semOf

theorem mem_scopedK (k : CK) (h : k ≠ .bar) : k ∈ scopedK := by
  rcases k with _ | d | ⟨d, b⟩ | ⟨d, b⟩
  · exact absurd rfl h
  · revert d; decide
  · revert d b; decide
  · revert d b; decide

/-- A device's tokens, by direction and use: 0 the barrier's, 1 the landings', 2 its own sends', 3 the credits'. -/
def tokOf (c : Dev nD) (x : Dir × Fin 4 × Fin 32) : GSem nD τ sig × ℕ × ℕ :=
  match x.2.1 with
  | 0 => (cellK (srcD x.1 c) .bar, x.2.2.val, dn x.1)
  | 1 => (cellK (dstD x.1 c) (.rs x.1 (par x.2.2.val)), x.2.2.val / 2, 0)
  | 2 => (cellK c (.ss x.1 (par x.2.2.val)), x.2.2.val / 2, 0)
  | 3 => (cellK (srcD x.1 c) (.cr x.1), 0, x.2.2.val)

/-- A token's use, read off it. -/
def useOf (x : GSem nD τ sig × ℕ × ℕ) : Dir × Fin 4 × ℕ :=
  match kindOf x.1.2 with
  | some .bar => (dirOf x.2.2, 0, x.2.1)
  | some (.rs d b) => (d, 1, 2 * x.2.1 + b.val)
  | some (.ss d b) => (d, 2, 2 * x.2.1 + b.val)
  | some (.cr d) => (d, 3, x.2.2)
  | none => (false, 0, 0)

/-- Who pays with a token. -/
def payerOf (x : GSem nD τ sig × ℕ × ℕ) : Dev nD :=
  match kindOf x.1.2 with
  | some .bar => dstD (dirOf x.2.2) x.1.1.1
  | some (.rs d _) => srcD d x.1.1.1
  | some (.ss _ _) => x.1.1.1
  | some (.cr d) => dstD d x.1.1.1
  | none => 0

theorem useOf_tokOf (c : Dev nD) (x : Dir × Fin 4 × Fin 32) : useOf (tokOf c x) = (x.1, x.2.1, x.2.2.val) := by
  obtain ⟨d, u, n⟩ := x
  unfold useOf tokOf
  match u with
  | 0 => simp only [kindOf_semOf, dirOf_dn]
  | 1 => simp only [kindOf_semOf]; rw [show 2 * (n.val / 2) + n.val % 2 = n.val by omega]
  | 2 => simp only [kindOf_semOf]; rw [show 2 * (n.val / 2) + n.val % 2 = n.val by omega]
  | 3 => simp only [kindOf_semOf]

theorem payerOf_tokOf (c : Dev nD) (x : Dir × Fin 4 × Fin 32) : payerOf (tokOf c x) = c := by
  obtain ⟨d, u, n⟩ := x
  unfold payerOf tokOf
  match u with
  | 0 => simp only [kindOf_semOf, dirOf_dn, dst_src]
  | 1 => simp only [kindOf_semOf, src_dst]
  | 2 => simp only [kindOf_semOf]
  | 3 => simp only [kindOf_semOf, dst_src]

def tokEmb (c : Dev nD) : Dir × Fin 4 × Fin 32 ↪ GSem nD τ sig × ℕ × ℕ :=
  ⟨tokOf c, fun x y h => by
    have := congrArg useOf h
    rw [useOf_tokOf, useOf_tokOf, Prod.mk.injEq, Prod.mk.injEq] at this
    exact Prod.ext this.1 (Prod.ext this.2.1 (Fin.ext this.2.2))⟩

/-- The family. -/
def fam : TalkSites.Fam nD τ sig ℕ 1 where
  bar := semOf .bar
  dorm _ := scopedL.toFinset
  toks c _ := Finset.univ.map (tokEmb c)
  semKey _ := 0
  hsem _ _ _ := Subsingleton.elim _ _
  hbar _ h := by
    obtain ⟨k, hk, e⟩ := List.mem_map.mp (List.mem_toFinset.mp h)
    rw [semOf_inj e] at hk
    revert hk; decide
  tokKey x := (payerOf x, 0)
  htok c j x h := by
    obtain ⟨y, -, rfl⟩ := Finset.mem_map.mp h
    exact Prod.ext (payerOf_tokOf c y) (Subsingleton.elim _ _)

variable (I : Ins F)

/-- What every device may use throughout. -/
def Inv (κ : GSem nD τ sig → ℕ) (ιs : Key → ℕ) : sProp 𝕄 :=
  iprop(fam.cellInvs ER (ringRd I) κ ∗ (bigSep Finset.univ fun x : Key => slotInv ES (ιs x) x (rbSlot x)) ∗ levAts (L NL) lv)

instance Inv_persistent (κ : GSem nD τ sig → ℕ) (ιs : Key → ℕ) : BI.Persistent (Inv I κ ιs) := by unfold Inv; infer_instance

variable (κ : GSem nD τ sig → ℕ) (ιs : Key → ℕ)

theorem Inv_cell (c : Dev nD) (k : CK) : Inv I κ ιs ⊢ (cellInv ER (ringRd I) (κ (cellK c k)) (cellK c k) : sProp 𝕄) := by
  unfold Inv
  iintro ⟨H, -, -⟩
  by_cases h : k = .bar
  · subst h; iapply (fam.cellInvs_bar ER (ringRd I) κ c) $$ H
  · iapply (fam.cellInvs_dorm ER (ringRd I) κ c (j := 0) (sm := semOf k) (List.mem_toFinset.mpr (List.mem_map.mpr ⟨k, mem_scopedK k h, rfl⟩))) $$ H

theorem Inv_slot (x : Key) : Inv I κ ιs ⊢ (slotInv ES (ιs x) x (rbSlot x) : sProp 𝕄) := by
  unfold Inv
  iintro ⟨-, H, -⟩
  iapply (show _ ⊢ _ from bigSep_elim (Finset.mem_univ x)) $$ H

theorem Inv_wait {i : ℕ} (hi : i < NL) (c : Dev nD) (sm : SemLoc sig) {O : CellTallies nD τ sig ℕ} (h : Over i O) :
    Inv I κ ιs ⊢ (MayWait (c : Thread nD τ) sm i O : sProp 𝕄) := by
  unfold Inv
  iintro ⟨-, -, H⟩
  iapply (mayWait hi c sm h) $$ H

end Cert.Proof

end
-- ==== Proof.Ops.lean ====
/-
  One rule per operation of a step, at a symbolic device and direction: what it takes, what it gives back.
-/
module

public import proofs.«01_k».proof.Proof.Family

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

/-- The kernels' variants: none. -/
abbrev 𝒱₀ : Variants := Variants.none

/-- A program's weakest precondition on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A whole buffer of a device. -/
abbrev pts (c : Dev nD) {sp : CoreSpace} {s : Shape} {e : EltTy} (M : Memref sig .tc sp s e) (f : Buf (Elt F) (M.view.loc (c : Thread nD τ))) : sProp 𝕄 :=
  M.view.loc (c : Thread nD τ) ↦{fullShare} f

/-- The word of a direction's table at a step. -/
def tabWord (d : Dir) (tab : (tabM d).view.ty.Contents (Elt F)) (s : Fin 32) : BitVec 32 :=
  ((tabM d).access (Rect.unit (s := S32) ![s.val] S1.size (tab_inb s))).read (Elt F) tab (Shape.Idx.first Nat.one_pos)
/-- A table lists the blocks that the device adds, step by step. -/
def TabOk (d : Dir) (c : Dev nD) (tab : (tabM d).view.ty.Contents (Elt F)) : Prop :=
  ∀ s : Fin 32, tabWord d tab s = BitVec.ofNat 32 (blk d c s.val).val

theorem off1_ofNat (b : Fin 32) : k0_off1 (BitVec.ofNat 32 b.val) = ![b.val * 128, 0] := by revert b; decide
theorem chk3_ofNat (b : Fin 32) : k0_chk3 (BitVec.ofNat 32 b.val) := by
  unfold k0_chk3; rw [off1_ofNat]; exact rows_inb b

omit [FloatOps F] in
theorem read_rows (f : Vec F S4096x128 .fp8e4m3) (b : Fin 32) (off : Fin 2 → Nat) (he : off = ![b.val * 128, 0])
    (h : ∀ a, off a + S128x128.size a ≤ S4096x128.size a) :
    (xM.access (Rect.unit (s := S4096x128) off S128x128.size h)).read (Elt F) f = rowsAt f b := by
  subst he; rfl

variable (I : Ins F) (κ : GSem nD τ sig → ℕ) (ιs : Key → ℕ) (c : Dev nD)

/-- The load of a block of rows. -/
theorem wp_loadRows (b : Fin 32) (v : BitVec 32) (hv : v = BitVec.ofNat 32 b.val)
    {h : ∀ a, k0_off1 v a + S128x128.size a ≤ S4096x128.size a}
    {hl : xM.view.LoadsAt (Rect.unit (s := S4096x128) (k0_off1 v) S128x128.size h).toLoadRect} {α : Type}
    (k : Vec F S128x128 .fp8e4m3 → Prog (TpuEff nD τ sig (Elt F) Λ₀ .tc) α) (Q : α → sProp 𝕄) :
    pts c xM (I.x c) ⊢ iprop((pts c xM (I.x c) -∗ wpc c (k (rowsAt (I.x c) b)) Q)
      -∗ wpc c (.op (.load xM (Rect.unit (s := S4096x128) (k0_off1 v) S128x128.size h).toLoadRect hl) k) Q) := by
  have he : k0_off1 v = ![b.val * 128, 0] := (congrArg k0_off1 hv).trans (off1_ofNat b)
  clear hv
  generalize k0_off1 v = off at he h hl ⊢
  subst he
  exact wp_load_rect 𝒱₀ (c : Thread nD τ) none Set.univ (m := xM) (r := rowsR b) (S := Finset.univ) (Finset.subset_univ _)

/-- Reading a step's block of rows. -/
theorem wp_loadBlock (d : Dir) (s : Fin 32) {tab : (tabM d).view.ty.Contents (Elt F)} (hT : TabOk d c tab) {α : Type}
    (k : Vec F S128x128 .fp8e4m3 → Prog (TpuEff nD τ sig (Elt F) Λ₀ .tc) α) (Q : α → sProp 𝕄) :
    iprop(pts c (tabM d) tab ∗ pts c xM (I.x c))
      ⊢ iprop(((pts c (tabM d) tab ∗ pts c xM (I.x c)) -∗ wpc c (k (rowsAt (I.x c) (blk d c s.val))) Q) -∗ wpc c (loadBlock d s >>= k) Q) := by
  iintro ⟨HT, HX⟩ Hk
  simp only [loadBlock, smemLoad, smemLoadElt, Prog.lift, Prog.bind_op, Prog.bind_ret, Prog.pure_eq_ret]
  iapply (wp_load_rect 𝒱₀ (c : Thread nD τ) none Set.univ (m := tabM d) (S := Finset.univ) (Finset.subset_univ _)) $$ [HT]
  · iexact HT
  iintro HT
  have hv := hT s
  have hchk : k0_chk3 (tabWord d tab s) := by rw [hv]; exact chk3_ofNat _
  unfold tabWord at hchk
  simp only [wp_assume_of _ _ _ _ (d := k0_chk3.dec _) hchk]
  iapply (wp_loadRows I c (blk d c s.val) _ hv) $$ [HX]
  · iexact HX
  iintro HX
  iapply Hk
  isplitl [HT] <;> iassumption

end Cert.Proof

end
-- ==== Proof.Moves.lean ====
/-
  The rules of the operations that talk: waits, credits, and the send of a slot.
-/
module

public import proofs.«01_k».proof.Proof.Ops

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

/-- What a device owes, whatever it has waited for so far. -/
abbrev ow (c : Dev nD) (O : CellTallies nD τ sig ℕ) : sProp 𝕄 := iprop(∃ W : Waits sig ℕ, owes (c : Thread nD τ) O W)

theorem src_not (d : Dir) (c : Dev nD) : srcD (!d) c = dstD d c := by cases d <;> rfl
theorem dst_not (d : Dir) (c : Dev nD) : dstD (!d) c = srcD d c := by cases d <;> rfl

variable (I : Ins F) (κ : GSem nD τ sig → ℕ) (ιs : Key → ℕ) (c : Dev nD)

theorem mem_oneIf {b : Fin 2} {r : ℕ} (h : 2 * r + b.val ≤ 30) : 0 ∈ oneIf b r := by
  rw [oneIf, if_pos h]; exact Finset.mem_singleton_self 0

/-- Waiting for a landing and reading it: the slot is the device's, and reads what was sent. -/
theorem wp_recvSlot (d : Dir) (b : Fin 2) {r i : ℕ} {O : CellTallies nD τ sig ℕ} (hr : 2 * r + b.val ≤ 30) (hi : i < NL) (hO : Over i O)
    {α : Type} (k : Vec F S1x128x4096 .f32 → Prog (TpuEff nD τ sig (Elt F) Λ₀ .tc) α) (Q : α → sProp 𝕄) :
    iprop(Inv I κ ιs ∗ cred (tallyAt (cellK c (.rs d b)) i NB) ∗ ow c O ∗ atPos ER (cellK c (.rs d b)) r ∅ 0)
      ⊢ iprop(((∃ f, slotPts (rbM d) b c f) ∗ ow c O ∗ atPos ER (cellK c (.rs d b)) (r + 1) ∅ 0 ∗ reached ER (cellK c (.rs d b)) (r + 1)
          -∗ wpc c (k (asSlot (acc I d (2 * r + b.val) (srcD d c)))) Q) -∗ wpc c (recvSlot d b >>= k) Q) := by
  iintro ⟨#HI, Hc, ⟨%W, HO⟩, Hat⟩ Hk
  simp only [recvSlot, Prog.lift, Prog.bind_op, Prog.bind_ret, Prog.pure_eq_ret]
  iapply (Rounds.wp_wait_rest_token 𝒱₀ ER (ringRd I) (c : Thread nD τ) none (κ := κ (cellK c (.rs d b)))
      (wpE_waitDma2_eq 𝒱₀ (c : Thread nD τ) none Set.univ) (Set.mem_univ _) i (O := O) (W := W) (R := r) (m := 0) (T := ∅)
      (by rw [show (ringRd I).expect ((c : Thread nD τ), SemLoc.dma (semAt (rsA d) b)) r = _ from expect_cell I c (.rs d b) r, credit_rb]
          simp only [dutiesK, oneIf, if_pos hr, Finset.card_singleton, amountK, Nat.one_mul, Nat.zero_add])) $$ [Hc HO Hat]
  · isplitr; · iapply (Inv_cell I κ ιs c (.rs d b)) $$ HI
    isplitl [Hc]; · rw [credit_rb]; iexact Hc
    isplitl [HO]; · iexact HO
    isplitr; · iapply (Inv_wait I κ ιs hi c (semOf (.rs d b)) hO) $$ HI
    iexact Hat
  rw [show (ringRd I).duties ((c : Thread nD τ), SemLoc.dma (semAt (rsA d) b)) r = _ from duties_cell I c (.rs d b) r]
  simp only [dutiesK, oneIf, if_pos hr, Finset.sdiff_empty, bigSep_singleton]
  rw [show (ringRd I).payload ((c : Thread nD τ), SemLoc.dma (semAt (rsA d) b)) r 0 = _ from payload_cell I c (.rs d b) r 0]
  simp only [payK, rsPay]
  iintro ⟨HO, Hat, Hr, ⟨%f, %hf, Hp⟩⟩
  iapply (wp_load_rect 𝒱₀ (c : Thread nD τ) none Set.univ (m := rbM d) (r := slotR b) (S := (slotM (rbM d) b).view.set) (by rw [slot_set])) $$ [Hp]
  · iexact Hp
  iintro Hp
  rw [show ((rbM d).access (slotR b)).read (Elt F) f = _ from hf]
  iapply Hk
  isplitl [Hp]; · iexists f; iexact Hp
  isplitl [HO]; · iexists _; iexact HO
  isplitl [Hat]; · iexact Hat
  iexact Hr

/-- Waiting until a send slot's copy has left it: the slot is the device's again. -/
theorem wp_sentSlot (d : Dir) (b : Fin 2) {r : ℕ} {O : CellTallies nD τ sig ℕ} (hr : 2 * r + b.val ≤ 30) (hO : Over 0 O)
    {α : Type} (k : PUnit → Prog (TpuEff nD τ sig (Elt F) Λ₀ .tc) α) (Q : α → sProp 𝕄) :
    iprop(Inv I κ ιs ∗ cred (tallyAt (cellK c (.ss d b)) 0 NB) ∗ ow c O ∗ atPos ER (cellK c (.ss d b)) r ∅ 0)
      ⊢ iprop((sbSlot (c, d, b) ∗ ow c O ∗ atPos ER (cellK c (.ss d b)) (r + 1) ∅ 0 ∗ reached ER (cellK c (.ss d b)) (r + 1)
          -∗ wpc c (k ⟨⟩) Q) -∗ wpc c (sentSlot d b >>= k) Q) := by
  iintro ⟨#HI, Hc, ⟨%W, HO⟩, Hat⟩ Hk
  simp only [sentSlot, Prog.lift, Prog.bind_op, Prog.bind_ret, Prog.pure_eq_ret]
  iapply (Rounds.wp_wait_rest_token 𝒱₀ ER (ringRd I) (c : Thread nD τ) none (κ := κ (cellK c (.ss d b)))
      (wpE_waitDma2_eq 𝒱₀ (c : Thread nD τ) none Set.univ) (Set.mem_univ _) 0 (O := O) (W := W) (R := r) (m := 0) (T := ∅)
      (by rw [show (ringRd I).expect ((c : Thread nD τ), SemLoc.dma (semAt (ssA d) b)) r = _ from expect_cell I c (.ss d b) r, credit_sb]
          simp only [dutiesK, oneIf, if_pos hr, Finset.card_singleton, amountK, Nat.one_mul, Nat.zero_add])) $$ [Hc HO Hat]
  · isplitr; · iapply (Inv_cell I κ ιs c (.ss d b)) $$ HI
    isplitl [Hc]; · rw [credit_sb]; iexact Hc
    isplitl [HO]; · iexact HO
    isplitr; · iapply (Inv_wait I κ ιs (by decide) c (semOf (.ss d b)) hO) $$ HI
    iexact Hat
  rw [show (ringRd I).duties ((c : Thread nD τ), SemLoc.dma (semAt (ssA d) b)) r = _ from duties_cell I c (.ss d b) r]
  simp only [dutiesK, oneIf, if_pos hr, Finset.sdiff_empty, bigSep_singleton]
  rw [show (ringRd I).payload ((c : Thread nD τ), SemLoc.dma (semAt (ssA d) b)) r 0 = _ from payload_cell I c (.ss d b) r 0]
  simp only [payK]
  iintro ⟨HO, Hat, Hr, Hp⟩
  iapply Hk
  isplitl [Hp]; · iexact Hp
  isplitl [HO]; · iexists _; iexact HO
  isplitl [Hat]; · iexact Hat
  iexact Hr

/-- Giving the sender of a direction a credit. -/
theorem wp_giveCredit (d : Dir) {g : ℕ} {O : CellTallies nD τ sig ℕ} (h1 : 1 ≤ g) (h2 : g ≤ 29)
    {α : Type} (k : PUnit → Prog (TpuEff nD τ sig (Elt F) Λ₀ .tc) α) (Q : α → sProp 𝕄) :
    iprop(Inv I κ ιs ∗ ow c (O + credTally d c g) ∗ dutyTok ER (cellK (srcD d c) (.cr d)) 0 g ∗ crPay d c g
        ∗ reached ER (cellK (srcD d c) (.cr d)) 0)
      ⊢ iprop((ow c O -∗ wpc c (k ⟨⟩) Q) -∗ wpc c (giveCredit d (srcD d c) >>= k) Q) := by
  iintro ⟨#HI, ⟨%W, HO⟩, Ht, Hp, Hr⟩ Hk
  simp only [giveCredit, semSignalWord, Prog.lift, Prog.bind_op, Prog.bind_ret, Prog.pure_eq_ret]
  iapply (Rounds.wp_signal 𝒱₀ ER (ringRd I) (c : Thread nD τ) none (dst := (srcD d c : Thread nD τ)) (sem := crS d) (r := 0) (d := g)
      (κ := κ (cellK (srcD d c) (.cr d)))
      (by rw [show (ringRd I).duties ((srcD d c : Thread nD τ), SemLoc.reg (crS d)) 0 = _ from duties_cell I (srcD d c) (.cr d) 0]
          simp only [dutiesK, if_pos]; exact Finset.mem_Icc.mpr ⟨h1, h2⟩)
      ((amount_cell I (srcD d c) (.cr d) 0 g).trans (by simp only [amountK]; decide)) (g + 2) O rfl) $$ [HO Ht Hp Hr]
  · isplitr; · iapply (Inv_cell I κ ιs (srcD d c) (.cr d)) $$ HI
    isplitl [HO]; · iexact HO
    isplitl [Ht]; · iexact Ht
    isplitl [Hp]
    · rw [show (ringRd I).payload ((srcD d c : Thread nD τ), SemLoc.reg (crS d)) 0 g = _ from payload_cell I (srcD d c) (.cr d) 0 g]
      simp only [payK]; rw [dst_src]; iexact Hp
    iexact Hr
  iintro HO
  iapply Hk
  iexists W; iexact HO

/-- Signalling the barrier cell of a direction's source. -/
theorem wp_barSignal (d : Dir) {O : CellTallies nD τ sig ℕ}
    {α : Type} (k : PUnit → Prog (TpuEff nD τ sig (Elt F) Λ₀ .tc) α) (Q : α → sProp 𝕄) :
    iprop(Inv I κ ιs ∗ ow c (O + barTally d c) ∗ dutyTok ER (cellK (srcD d c) .bar) 0 (dn d) ∗ barPay d c
        ∗ reached ER (cellK (srcD d c) .bar) 0)
      ⊢ iprop((ow c O -∗ wpc c (k ⟨⟩) Q) -∗ wpc c (semSignalWord (srcD d c) barS 1#32 >>= k) Q) := by
  iintro ⟨#HI, ⟨%W, HO⟩, Ht, Hp, Hr⟩ Hk
  simp only [semSignalWord, Prog.lift, Prog.bind_op, Prog.bind_ret, Prog.pure_eq_ret]
  iapply (Rounds.wp_signal 𝒱₀ ER (ringRd I) (c : Thread nD τ) none (dst := (srcD d c : Thread nD τ)) (sem := barS) (r := 0) (d := dn d)
      (κ := κ (cellK (srcD d c) .bar))
      (by rw [show (ringRd I).duties ((srcD d c : Thread nD τ), SemLoc.reg barS) 0 = _ from duties_cell I (srcD d c) .bar 0]
          simp only [dutiesK, if_pos]; revert d; decide)
      ((amount_cell I (srcD d c) .bar 0 (dn d)).trans (by decide)) 1 O rfl) $$ [HO Ht Hp Hr]
  · isplitr; · iapply (Inv_cell I κ ιs (srcD d c) .bar) $$ HI
    isplitl [HO]; · iexact HO
    isplitl [Ht]; · iexact Ht
    isplitl [Hp]
    · rw [show (ringRd I).payload ((srcD d c : Thread nD τ), SemLoc.reg barS) 0 (dn d) = _ from payload_cell I (srcD d c) .bar 0 (dn d)]
      simp only [payK]; rw [dirOf_dn, dst_src]; iexact Hp
    iexact Hr
  iintro HO
  iapply Hk
  iexists W; iexact HO

/-- Waiting for both neighbours. -/
theorem wp_barWait {O : CellTallies nD τ sig ℕ} (hO : Over 1 O)
    {α : Type} (k : PUnit → Prog (TpuEff nD τ sig (Elt F) Λ₀ .tc) α) (Q : α → sProp 𝕄) :
    iprop(Inv I κ ιs ∗ cred (tallyAt (cellK c .bar) 1 2) ∗ ow c O ∗ atPos ER (cellK c .bar) 0 ∅ 0)
      ⊢ iprop((ow c O ∗ atPos ER (cellK c .bar) 1 ∅ 0 ∗ barPay false (dstD false c) ∗ barPay true (dstD true c)
          -∗ wpc c (k ⟨⟩) Q) -∗ wpc c (semWaitWord barS 2#32 >>= k) Q) := by
  iintro ⟨#HI, Hc, ⟨%W, HO⟩, Hat⟩ Hk
  simp only [semWaitWord, Prog.lift, Prog.bind_op, Prog.bind_ret, Prog.pure_eq_ret]
  iapply (Rounds.wp_wait_rest_token 𝒱₀ ER (ringRd I) (c : Thread nD τ) none (κ := κ (cellK c .bar)) (k' := 2)
      (wpE_semWait_eq 𝒱₀ (c : Thread nD τ) none Set.univ) (Set.mem_univ _) 1 (O := O) (W := W) (R := 0) (m := 0) (T := ∅)
      (by rw [show (ringRd I).expect ((c : Thread nD τ), SemLoc.reg barS) 0 = _ from expect_cell I c .bar 0]; rfl)) $$ [Hc HO Hat]
  · isplitr; · iapply (Inv_cell I κ ιs c .bar) $$ HI
    isplitl [Hc]; · iexact Hc
    isplitl [HO]; · iexact HO
    isplitr; · iapply (Inv_wait I κ ιs (by decide) c (semOf .bar) hO) $$ HI
    iexact Hat
  rw [show (ringRd I).duties ((c : Thread nD τ), SemLoc.reg barS) 0 = _ from duties_cell I c .bar 0]
  simp only [dutiesK, if_pos, Finset.sdiff_empty]
  iintro ⟨HO, Hat, -, HB⟩
  ihave HB := (show (bigSep ({0, 1} : Finset ℕ) fun n => (ringRd I).payload ((c : Thread nD τ), SemLoc.reg barS) 0 n)
      ⊢ (iprop(barPay false (dstD false c) ∗ barPay true (dstD true c)) : sProp 𝕄) from Entails.of_eq (by
        rw [bigSep_insert (by decide), bigSep_singleton]
        rw [show (ringRd I).payload ((c : Thread nD τ), SemLoc.reg barS) 0 0 = _ from payload_cell I c .bar 0 0,
          show (ringRd I).payload ((c : Thread nD τ), SemLoc.reg barS) 0 1 = _ from payload_cell I c .bar 0 1]
        rfl)) $$ HB
  icases HB with ⟨H0, H1⟩
  iapply Hk
  isplitl [HO]; · iexists _; iexact HO
  isplitl [Hat]; · iexact Hat
  isplitl [H0]; · iexact H0
  iexact H1

end Cert.Proof

end
-- ==== Proof.Sends.lean ====
/-
  The rules of the credits a device takes, of a slot's release, and of the send of a slot.
-/
module

public import proofs.«01_k».proof.Proof.Moves

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

variable (I : Ins F) (κ : GSem nD τ sig → ℕ) (ιs : Key → ℕ) (c : Dev nD)

theorem cnt_mono (b : Fin 2) {m k : ℕ} (h : m ≤ k) : cnt b m ≤ cnt b k := by unfold cnt; omega

/-- A later credit says at least what an earlier one does. -/
theorem crPay_mono (d : Dir) (c' : Dev nD) {m k : ℕ} (h : m ≤ k) : (crPay d c' k : sProp 𝕄) ⊢ crPay d c' m := by
  unfold crPay
  exact bigSep_mono fun b _ => BI.sep_mono (reached_mono ER (cnt_mono b h)) (released_mono ES (Nat.add_le_add_left (cnt_mono b h) 1))

/-- One slot's part of a credit. -/
theorem crPay_at (d : Dir) (c' : Dev nD) (k : ℕ) (b : Fin 2) :
    (crPay d c' k : sProp 𝕄) ⊢ iprop(reached ER (cellK c' (.rs d b)) (cnt b k) ∗ released ES (c', d, b) (1 + cnt b k)) := by
  unfold crPay
  exact bigSep_elim (Finset.mem_univ b)

/-- Where a device stands at its credit cell: it has taken `m` credits, of the senders it holds. -/
def crSt (d : Dir) (m : ℕ) : sProp 𝕄 :=
  iprop(∃ T : Finset ℕ, ⌜T ⊆ Finset.Icc 1 29⌝ ∗ atPos ER (cellK c (.cr d)) 0 T m ∗ bigSep T (fun n => crPay d (dstD d c) n))

theorem credits (d : Dir) {S T : Finset ℕ} (h : T ⊆ S) :
    iprop((bigSep T fun n => crPay d (dstD d c) n) ∗ bigSep (S \ T) fun n => (ringRd I).payload ((c : Thread nD τ), SemLoc.reg (crS d)) 0 n)
      ⊢ (bigSep S fun n => crPay d (dstD d c) n : sProp 𝕄) := by
  rw [show (bigSep (S \ T) fun n => (ringRd I).payload ((c : Thread nD τ), SemLoc.reg (crS d)) 0 n)
      = bigSep (S \ T) fun n => crPay d (dstD d c) n from bigSep_congr fun n _ => payload_cell I c (.cr d) 0 n]
  conv_rhs => rw [← Finset.union_sdiff_of_subset h]
  rw [bigSep_union Finset.disjoint_sdiff]
  exact .rfl

/-- Taking a credit which is not the last: as many as have been taken are said to be free. -/
theorem wp_takeCredit (d : Dir) {m i : ℕ} {O : CellTallies nD τ sig ℕ} (hi : i < NL) (hO : Over i O)
    {α : Type} (k : PUnit → Prog (TpuEff nD τ sig (Elt F) Λ₀ .tc) α) (Q : α → sProp 𝕄) :
    iprop(Inv I κ ιs ∗ cred (tallyAt (cellK c (.cr d)) i 1) ∗ ow c O ∗ crSt c d m)
      ⊢ iprop((ow c O ∗ crSt c d (m + 1) ∗ crPay d (dstD d c) (m + 1) -∗ wpc c (k ⟨⟩) Q) -∗ wpc c (takeCredit d >>= k) Q) := by
  unfold crSt
  iintro ⟨#HI, Hc, ⟨%W, HO⟩, ⟨%T, %hT, Hat, #HT⟩⟩ Hk
  simp only [takeCredit, semWaitWord, Prog.lift, Prog.bind_op, Prog.bind_ret, Prog.pure_eq_ret]
  iapply (Rounds.wp_wait 𝒱₀ ER (ringRd I) (c : Thread nD τ) none (κ := κ (cellK c (.cr d))) (k' := 1)
      (wpE_semWait_eq 𝒱₀ (c : Thread nD τ) none Set.univ) (Set.mem_univ _) (cr := Finsupp.single i 1) (O := O) (W := W) {(semOf (.cr d), i)}
      (R := 0) (m := m) (T := T) (Util.total_single _ _) (image_single_subset (semOf (.cr d)) i 1)) $$ [Hc HO Hat]
  · isplitr; · iapply (Inv_cell I κ ιs c (.cr d)) $$ HI
    isplitl [Hc]; · iexact Hc
    isplitl [HO]; · iexact HO
    isplitr; · iapply (Inv_wait I κ ιs hi c (semOf (.cr d)) hO) $$ HI
    iexact Hat
  rw [show (ringRd I).duties ((c : Thread nD τ), SemLoc.reg (crS d)) 0 = _ from duties_cell I c (.cr d) 0,
    show (ringRd I).expect ((c : Thread nD τ), SemLoc.reg (crS d)) 0 = _ from expect_cell I c (.cr d) 0]
  simp only [dutiesK, if_pos, amountK]
  iintro %S ⟨%hS, HO, Hat, Hp⟩
  obtain ⟨hTS, hSI, hcard⟩ := hS
  have hb : m + 1 ≤ S.card := by
    have h1 := Finset.card_sdiff_add_card_eq_card hSI
    rw [Nat.card_Icc] at hcard h1
    omega
  obtain ⟨n, hn, hmn⟩ : ∃ n ∈ S, m + 1 ≤ n := by
    by_contra hno
    have hsub : S ⊆ Finset.Icc 1 m := fun n hn => by
      have := Finset.mem_Icc.mp (hSI hn)
      have : ¬ m + 1 ≤ n := fun h => hno ⟨n, hn, h⟩
      exact Finset.mem_Icc.mpr ⟨by omega, by omega⟩
    have := Finset.card_le_card hsub
    rw [Nat.card_Icc] at this
    omega
  ihave #HS := (credits I c d hTS) $$ [Hp]
  · isplitr; · iexact HT
    iexact Hp
  iapply Hk
  isplitl [HO]; · iexists _; iexact HO
  isplitl [Hat]
  · iexists S
    isplitr; · ipureintro; exact hSI
    isplitl [Hat]; · iexact Hat
    iexact HS
  iapply (crPay_mono d (dstD d c) hmn)
  iapply (show (bigSep S fun n => crPay d (dstD d c) n : sProp 𝕄) ⊢ crPay d (dstD d c) n from bigSep_elim hn) $$ HS

/-- Taking the last credit ends the round. -/
theorem wp_takeLast (d : Dir) {i : ℕ} {O : CellTallies nD τ sig ℕ} (hi : i < NL) (hO : Over i O)
    {α : Type} (k : PUnit → Prog (TpuEff nD τ sig (Elt F) Λ₀ .tc) α) (Q : α → sProp 𝕄) :
    iprop(Inv I κ ιs ∗ cred (tallyAt (cellK c (.cr d)) i 1) ∗ ow c O ∗ crSt c d 28)
      ⊢ iprop((ow c O ∗ atPos ER (cellK c (.cr d)) 1 ∅ 0 ∗ crPay d (dstD d c) 29 -∗ wpc c (k ⟨⟩) Q) -∗ wpc c (takeCredit d >>= k) Q) := by
  unfold crSt
  iintro ⟨#HI, Hc, ⟨%W, HO⟩, ⟨%T, %hT, Hat, #HT⟩⟩ Hk
  simp only [takeCredit, semWaitWord, Prog.lift, Prog.bind_op, Prog.bind_ret, Prog.pure_eq_ret]
  iapply (Rounds.wp_wait_rest_token 𝒱₀ ER (ringRd I) (c : Thread nD τ) none (κ := κ (cellK c (.cr d))) (k' := 1)
      (wpE_semWait_eq 𝒱₀ (c : Thread nD τ) none Set.univ) (Set.mem_univ _) i (O := O) (W := W) (R := 0) (m := 28) (T := T)
      (by rw [show (ringRd I).expect ((c : Thread nD τ), SemLoc.reg (crS d)) 0 = _ from expect_cell I c (.cr d) 0]; rfl)) $$ [Hc HO Hat]
  · isplitr; · iapply (Inv_cell I κ ιs c (.cr d)) $$ HI
    isplitl [Hc]; · iexact Hc
    isplitl [HO]; · iexact HO
    isplitr; · iapply (Inv_wait I κ ιs hi c (semOf (.cr d)) hO) $$ HI
    iexact Hat
  rw [show (ringRd I).duties ((c : Thread nD τ), SemLoc.reg (crS d)) 0 = _ from duties_cell I c (.cr d) 0]
  simp only [dutiesK, if_pos]
  iintro ⟨HO, Hat, -, Hp⟩
  ihave #HS := (credits I c d hT) $$ [Hp]
  · isplitr; · iexact HT
    iexact Hp
  iapply Hk
  isplitl [HO]; · iexists _; iexact HO
  isplitl [Hat]; · iexact Hat
  iapply (show (bigSep (Finset.Icc 1 29) fun n => crPay d (dstD d c) n : sProp 𝕄) ⊢ crPay d (dstD d c) 29 from bigSep_elim (by decide)) $$ HS

/-- Releasing a landing slot. -/
theorem release (d : Dir) (b : Fin 2) (n : ℕ) :
    iprop(Inv I κ ιs ∗ readerAt ES (c, d, b) n ∗ rbSlot (c, d, b))
      ⊢ (|={Set.univ}=> (readerAt ES (c, d, b) (n + 1) ∗ released ES (c, d, b) (n + 1)) : sProp 𝕄) := by
  iintro ⟨#HI, Hr, Hs⟩
  iapply (slot_release ES (ι := ιs (c, d, b)) (S := rbSlot (c, d, b)) (Set.mem_univ _) (slot_slot_false (slot_nonempty _ _)) n)
  isplitr; · iapply (Inv_slot I κ ιs (c, d, b)) $$ HI
  isplitl [Hr]; · iexact Hr
  iexact Hs

/-- What the send of step `s` needs besides what is owed and the slot. -/
def sendKit (d : Dir) (s : ℕ) : sProp 𝕄 :=
  iprop(dutyTok ER (cellK (dstD d c) (.rs d (par s))) (s / 2) 0 ∗ dutyTok ER (cellK c (.ss d (par s))) (s / 2) 0
    ∗ writeTok ES (dstD d c, d, par s) (1 + s / 2))

/-- What a landed copy of a slot is to its receiver. -/
theorem landed (d : Dir) {s : ℕ} (hs : s ≤ 30) (fd : Buf (Elt F) ((slotM (rbM d) (par s)).view.loc (dstD d c : Thread nD τ)))
    (fs : Buf (Elt F) ((slotM (sbM d) (par s)).view.loc (c : Thread nD τ))) (hf : slotRd (sbM d) (par s) fs = asSlot (acc I d s c)) :
    slotPts (rbM d) (par s) (dstD d c) ((slotM (rbM d) (par s)).view.write (Elt F) fd ((slotM (sbM d) (par s)).view.read (Elt F) fs) Finset.univ)
      ⊢ (rsPay I d (par s) (dstD d c) (s / 2) : sProp 𝕄) := by
  have he : 2 * (s / 2) + s % 2 = s := by omega
  unfold rsPay
  iintro H
  iexists _
  isplitr
  swap
  · iexact H
  ipureintro
  refine (slotRd_copy (sbM d) (rbM d) (par s) fd fs).trans ?_
  show _ = asSlot (acc I d (2 * (s / 2) + s % 2) (srcD d (dstD d c)))
  rw [he, src_dst]
  exact hf

/-- Storing the accumulator of step `s` and sending it. -/
theorem wp_sendSlot (d : Dir) {s : ℕ} {b : Fin 2} {a : FVec F S128x4096 .f32} {O : CellTallies nD τ sig ℕ} (hs : s ≤ 30) (hb : b = par s) (ha : a = acc I d s c)
    {α : Type} (k : PUnit → Prog (TpuEff nD τ sig (Elt F) Λ₀ .tc) α) (Q : α → sProp 𝕄) :
    iprop(Inv I κ ιs ∗ sbSlot (c, d, par s) ∗ sendKit c d s ∗ ow c (O + sendTally d c s) ∗ reached ER (cellK c (.ss d (par s))) (s / 2)
        ∗ reached ER (cellK (dstD d c) (.rs d (par s))) (s / 2) ∗ released ES (dstD d c, d, par s) (1 + s / 2))
      ⊢ iprop((ow c O ∗ cred (tallyAt (cellK c (.ss d (par s))) 0 NB) -∗ wpc c (k ⟨⟩) Q) -∗ wpc c (sendSlot d (dstD d c) b a >>= k) Q) := by
  subst hb ha
  have hr : 2 * (s / 2) + (par s).val ≤ 30 := by show 2 * (s / 2) + s % 2 ≤ 30; omega
  have he : 2 * (s / 2) + (par s).val = s := by show 2 * (s / 2) + s % 2 = s; omega
  unfold sbSlot slot sendKit
  iintro ⟨#HI, ⟨%f, Hf⟩, ⟨Ht, Hts, Hw⟩, ⟨%W, HO⟩, Hrs, Hrd, Hrel⟩ Hk
  simp only [sendSlot, Prog.lift, Prog.bind_op, Prog.bind_ret, Prog.pure_eq_ret]
  iapply (wp_load_rect 𝒱₀ (c : Thread nD τ) none Set.univ (m := sbM d) (r := slotR (par s)) (S := (slotM (sbM d) (par s)).view.set) (by rw [slot_set])) $$ [Hf]
  · iexact Hf
  iintro Hf
  iapply (wp_store 𝒱₀ (c : Thread nD τ) none Set.univ (m := sbM d) (r := slotR (par s)) (S := (slotM (sbM d) (par s)).view.set)
    (by rw [slot_set]; exact Finset.Subset.refl _)) $$ [Hf]
  · iexact Hf
  iintro Hf
  imod (slot_take ES (ι := ιs (dstD d c, d, par s)) (k := (dstD d c, d, par s)) (S := rbSlot (dstD d c, d, par s)) (Set.mem_univ _) (1 + s / 2)) $$ [Hrel Hw] with Hd
  · isplitr; · iapply (Inv_slot I κ ιs (dstD d c, d, par s)) $$ HI
    isplitl [Hrel]; · iexact Hrel
    iexact Hw
  ihave Hd := (show rbSlot (dstD d c, d, par s) ⊢ (iprop(∃ fd, slotPts (rbM d) (par s) (dstD d c) fd) : sProp 𝕄) from .rfl) $$ Hd
  icases Hd with ⟨%fd, Hd⟩
  iapply (Rounds.wp_send_pointsTo 𝒱₀ ER (ringRd I) (c : Thread nD τ) none (c' := (dstD d c : Thread nD τ))
      (src := slotM (sbM d) (par s)) (dst := slotM (rbM d) (par s)) (sS := semOf (.ss d (par s))) (sem := semOf (.rs d (par s)))
      (q := fullShare) (fs := ((sbM d).access (slotR (par s))).write (Elt F) f (asSlot (acc I d s c)) Finset.univ)
      (κ₁ := κ (cellK c (.ss d (par s)))) (κ₂ := κ (cellK (dstD d c) (.rs d (par s))))
      (r₁ := s / 2) (r₂ := s / 2) (d₁ := 0) (d₂ := 0) (fd := fd)
      (by rw [duties_cell]; exact mem_oneIf hr) (by rw [duties_cell]; exact mem_oneIf hr)
      (s + 2) 0 NB (credit_rb d (par s)) (amount_cell I c (.ss d (par s)) (s / 2) 0) (amount_cell I (dstD d c) (.rs d (par s)) (s / 2) 0) O rfl (W := W)
      (by rw [payload_cell]
          show _ ⊢ iprop(∃ g, slotPts (sbM d) (par s) c g)
          iintro H; iexists _; iexact H)
      (by rw [payload_cell]
          exact landed I c d hs fd _ (slotRd_store (sbM d) (par s) f _))) $$ [Hf Hd HO Hts Hrs Ht Hrd]
  · isplitr; · iapply (Inv_cell I κ ιs c (.ss d (par s))) $$ HI
    isplitr; · iapply (Inv_cell I κ ιs (dstD d c) (.rs d (par s))) $$ HI
    isplitl [Hf]; · iexact Hf
    isplitl [Hd]; · iexact Hd
    isplitl [HO]; · iexact HO
    isplitl [Hts]; · iexact Hts
    isplitl [Hrs]; · iexact Hrs
    isplitl [Ht]; · iexact Ht
    iexact Hrd
  iintro ⟨Hc, HO⟩
  iapply Hk
  isplitl [HO]; · iexists W; iexact HO
  iexact Hc

end Cert.Proof

end
-- ==== Proof.Phase.lean ====
/-
  The state of one direction between the operations of the steps, and how each operation moves it on.
-/
module

public import proofs.«01_k».proof.Proof.Sends

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

variable (I : Ins F) (κ : GSem nD τ sig → ℕ) (ιs : Key → ℕ) (c : Dev nD) (d : Dir)

theorem cnt_par (n : ℕ) : cnt (par n) n = n / 2 := by show (n + 1 - n % 2) / 2 = n / 2; omega
theorem cnt_par_succ (n : ℕ) : cnt (par n) (n + 1) = n / 2 + 1 := by show (n + 1 + 1 - n % 2) / 2 = n / 2 + 1; omega
theorem cnt_par_pred (n : ℕ) : cnt (par n) (n - 1) = n / 2 := by show (n - 1 + 1 - n % 2) / 2 = n / 2; omega
theorem cnt_other {b : Fin 2} {n : ℕ} (h : b ≠ par n) : cnt b (n + 1) = cnt b n := by
  have h1 : b.val ≠ n % 2 := fun e => h (Fin.ext e)
  have h2 := b.isLt
  unfold cnt; omega
theorem two_par (n : ℕ) : 2 * (n / 2) + (par n).val = n := by show 2 * (n / 2) + n % 2 = n; omega
theorem par_two (n : ℕ) : par (n + 2) = par n := Fin.ext (Nat.add_mod_right n 2)

/-- One of a pair moves on with the count. -/
theorem pair_step (A : Fin 2 → ℕ → sProp 𝕄) (n : ℕ) :
    (bigSep Finset.univ fun b => A b (cnt b n)) ⊢ iprop(A (par n) (n / 2) ∗ (A (par n) (n / 2 + 1) -∗ bigSep Finset.univ fun b => A b (cnt b (n + 1)))) := by
  rw [bigSep_univ_at (fun b => A b (cnt b n)) (par n), bigSep_univ_at (fun b => A b (cnt b (n + 1))) (par n), cnt_par, cnt_par_succ]
  rw [show (bigSep (Finset.univ.erase (par n)) fun b => A b (cnt b (n + 1))) = bigSep (Finset.univ.erase (par n)) fun b => A b (cnt b n) from
    bigSep_congr fun b hb => by rw [cnt_other (Finset.ne_of_mem_erase hb)]]
  refine sep_mono_right ?_
  iintro H G
  isplitl [G]; · iexact G
  iexact H

/-- The credit token of a landing. -/
abbrev recvCred (s : ℕ) : sProp 𝕄 := cred (tallyAt (cellK c (.rs d (par s))) (s + 2) NB)

/-- The landing cells after `n` landings, with the credits of the others. -/
def RA (n : ℕ) : sProp 𝕄 :=
  iprop((bigSep Finset.univ fun b : Fin 2 => atPos ER (cellK c (.rs d b)) (cnt b n) ∅ 0) ∗ bigSep (Finset.Ico n 31) fun s => recvCred c d s)
/-- How far the landing slots are released after `n` landings, and the word of it for the sender. -/
def RD (n : ℕ) : sProp 𝕄 :=
  iprop((bigSep Finset.univ fun b : Fin 2 => readerAt ES (c, d, b) (1 + cnt b n)) ∗ crPay d c n)

/-- Receiving landing number `n`. -/
theorem wp_recvA {n : ℕ} {b : Fin 2} {O : CellTallies nD τ sig ℕ} (hb : b = par n) (hn : n < 31) (hO : Over (n + 2) O)
    {α : Type} (k : Vec F S1x128x4096 .f32 → Prog (TpuEff nD τ sig (Elt F) Λ₀ .tc) α) (Q : α → sProp 𝕄) :
    iprop(Inv I κ ιs ∗ RA c d n ∗ ow c O)
      ⊢ iprop((rbSlot (c, d, par n) ∗ ow c O ∗ RA c d (n + 1) ∗ reached ER (cellK c (.rs d (par n))) (n / 2 + 1)
          -∗ wpc c (k (asSlot (acc I d n (srcD d c)))) Q) -∗ wpc c (recvSlot d b >>= k) Q) := by
  subst hb
  unfold RA
  rw [bigSep_Ico_succ_bot hn]
  iintro ⟨#HI, ⟨Hats, Hc, Hcs⟩, HO⟩ Hk
  ihave Hats := (pair_step (fun b m => atPos ER (cellK c (.rs d b)) m ∅ 0) n) $$ Hats
  icases Hats with ⟨Hat, Hback⟩
  iapply (wp_recvSlot I κ ιs c d (par n) (r := n / 2) (i := n + 2) (by rw [two_par]; omega) (by unfold NL; omega) hO) $$ [Hc HO Hat]
  · isplitr; · iexact HI
    isplitl [Hc]; · iexact Hc
    isplitl [HO]; · iexact HO
    iexact Hat
  rw [two_par]
  iintro ⟨Hs, HO, Hat, Hr⟩
  iapply Hk
  isplitl [Hs]
  · iapply (show (iprop(∃ f, slotPts (rbM d) (par n) c f) : sProp 𝕄) ⊢ rbSlot (c, d, par n) from .rfl) $$ Hs
  isplitl [HO]; · iexact HO
  isplitr [Hr]
  · isplitr [Hcs]
    · iapply Hback $$ Hat
    iexact Hcs
  iexact Hr

/-- Releasing the slot of landing number `n`. -/
theorem release_step (n : ℕ) :
    iprop(Inv I κ ιs ∗ RD c d n ∗ rbSlot (c, d, par n) ∗ reached ER (cellK c (.rs d (par n))) (n / 2 + 1))
      ⊢ (|={Set.univ}=> RD c d (n + 1) : sProp 𝕄) := by
  unfold RD crPay
  iintro ⟨#HI, ⟨Hrd, Hp⟩, Hs, #Hr⟩
  ihave Hrd := (pair_step (fun b m => readerAt ES (c, d, b) (1 + m)) n) $$ Hrd
  icases Hrd with ⟨Hrd, Hback⟩
  ihave Hp := (pair_step (fun b m => iprop(reached ER (cellK c (.rs d b)) m ∗ released ES (c, d, b) (1 + m))) n) $$ Hp
  icases Hp with ⟨-, Hpback⟩
  imod (release I κ ιs c d (par n) (1 + n / 2)) $$ [Hrd Hs] with ⟨Hrd, Hrel⟩
  · isplitr; · iexact HI
    isplitl [Hrd]; · iexact Hrd
    iexact Hs
  imodintro
  isplitl [Hrd Hback]
  · iapply Hback $$ Hrd
  iapply Hpback
  isplitr; · iexact Hr
  iexact Hrel

/-- The send slot for step `s`, free. -/
def free (s : ℕ) : sProp 𝕄 := iprop(sbSlot (c, d, par s) ∗ reached ER (cellK c (.ss d (par s))) (s / 2))
/-- The credit token of a send's leaving. -/
abbrev leftCred (s : ℕ) : sProp 𝕄 := cred (tallyAt (cellK c (.ss d (par s))) 0 NB)
/-- The sends' cells after `n` sends, of which `m` have been waited for, with what the other sends need. -/
def SA (m n : ℕ) : sProp 𝕄 :=
  iprop((bigSep Finset.univ fun b : Fin 2 => atPos ER (cellK c (.ss d b)) (cnt b m) ∅ 0) ∗ (bigSep (Finset.Ico m n) fun s => leftCred c d s)
    ∗ bigSep (Finset.Ico n 31) fun s => sendKit c d s)

/-- Waiting for send number `m`. -/
theorem wp_sentA {m n : ℕ} {b : Fin 2} {O : CellTallies nD τ sig ℕ} (hb : b = par m) (hm : m < n) (hn : n ≤ 31) (hO : Over 0 O)
    {α : Type} (k : PUnit → Prog (TpuEff nD τ sig (Elt F) Λ₀ .tc) α) (Q : α → sProp 𝕄) :
    iprop(Inv I κ ιs ∗ SA c d m n ∗ ow c O)
      ⊢ iprop((free c d (m + 2) ∗ ow c O ∗ SA c d (m + 1) n -∗ wpc c (k ⟨⟩) Q) -∗ wpc c (sentSlot d b >>= k) Q) := by
  subst hb
  unfold SA free
  rw [bigSep_Ico_succ_bot hm, par_two, show (m + 2) / 2 = m / 2 + 1 by omega]
  iintro ⟨#HI, ⟨Hats, ⟨Hc, Hcs⟩, Hk⟩, HO⟩ Hkk
  ihave Hats := (pair_step (fun b m => atPos ER (cellK c (.ss d b)) m ∅ 0) m) $$ Hats
  icases Hats with ⟨Hat, Hback⟩
  iapply (wp_sentSlot I κ ιs c d (par m) (r := m / 2) (by rw [two_par]; omega) hO) $$ [Hc HO Hat]
  · isplitr; · iexact HI
    isplitl [Hc]; · iexact Hc
    isplitl [HO]; · iexact HO
    iexact Hat
  iintro ⟨Hs, HO, Hat, Hr⟩
  iapply Hkk
  isplitl [Hs Hr]
  · isplitl [Hs]; · iexact Hs
    iexact Hr
  isplitl [HO]; · iexact HO
  isplitl [Hat Hback]; · iapply Hback $$ Hat
  isplitl [Hcs]; · iexact Hcs
  iexact Hk

/-- Send number `s`. -/
theorem wp_sendA {m s : ℕ} {b : Fin 2} {a : FVec F S128x4096 .f32} {O : CellTallies nD τ sig ℕ} (hb : b = par s) (ha : a = acc I d s c) (hm : m ≤ s) (hs : s < 31)
    {α : Type} (k : PUnit → Prog (TpuEff nD τ sig (Elt F) Λ₀ .tc) α) (Q : α → sProp 𝕄) :
    iprop(Inv I κ ιs ∗ free c d s ∗ SA c d m s ∗ crPay d (dstD d c) (s - 1) ∗ ow c (O + sendTally d c s))
      ⊢ iprop((ow c O ∗ SA c d m (s + 1) -∗ wpc c (k ⟨⟩) Q) -∗ wpc c (sendSlot d (dstD d c) b a >>= k) Q) := by
  unfold SA free
  rw [bigSep_Ico_succ_bot hs, bigSep_Ico_succ_top hm]
  iintro ⟨#HI, ⟨Hs, Hr⟩, ⟨Hats, Hcs, Hkit, Hkits⟩, Hcr, HO⟩ Hk
  ihave Hcr := (crPay_at d (dstD d c) (s - 1) (par s)) $$ Hcr
  rw [cnt_par_pred]
  icases Hcr with ⟨Hrd, Hrel⟩
  iapply (wp_sendSlot I κ ιs c d (by omega) hb ha) $$ [Hs Hkit HO Hr Hrd Hrel]
  · isplitr; · iexact HI
    isplitl [Hs]; · iexact Hs
    isplitl [Hkit]; · iexact Hkit
    isplitl [HO]; · iexact HO
    isplitl [Hr]; · iexact Hr
    isplitl [Hrd]; · iexact Hrd
    iexact Hrel
  iintro ⟨HO, Hc⟩
  iapply Hk
  isplitl [HO]; · iexact HO
  isplitl [Hats]; · iexact Hats
  isplitr [Hkits]
  · isplitl [Hc]; · iexact Hc
    iexact Hcs
  iexact Hkits

/-- The credits a device still gives, from number `g` on. -/
def GS (g : ℕ) : sProp 𝕄 :=
  iprop(reached ER (cellK (srcD d c) (.cr d)) 0 ∗ bigSep (Finset.Ico g 30) fun n => dutyTok ER (cellK (srcD d c) (.cr d)) 0 n)

/-- Giving credit number `g`. -/
theorem wp_giveA {g : ℕ} {p : Dev nD} {O : CellTallies nD τ sig ℕ} (hp : p = srcD d c) (h1 : 1 ≤ g) (h2 : g < 30)
    {α : Type} (k : PUnit → Prog (TpuEff nD τ sig (Elt F) Λ₀ .tc) α) (Q : α → sProp 𝕄) :
    iprop(Inv I κ ιs ∗ GS c d g ∗ RD c d g ∗ ow c (O + credTally d c g))
      ⊢ iprop((ow c O ∗ GS c d (g + 1) ∗ RD c d g -∗ wpc c (k ⟨⟩) Q) -∗ wpc c (giveCredit d p >>= k) Q) := by
  subst hp
  unfold GS RD
  rw [bigSep_Ico_succ_bot h2]
  iintro ⟨#HI, ⟨#Hr, Ht, Hts⟩, ⟨Hrd, #Hp⟩, HO⟩ Hk
  iapply (wp_giveCredit I κ ιs c d h1 (by omega)) $$ [HO Ht]
  · isplitr; · iexact HI
    isplitl [HO]; · iexact HO
    isplitl [Ht]; · iexact Ht
    isplitr; · iexact Hp
    iexact Hr
  iintro HO
  iapply Hk
  isplitl [HO]; · iexact HO
  isplitl [Hts]
  · isplitr; · iexact Hr
    iexact Hts
  isplitl [Hrd]; · iexact Hrd
  iexact Hp

/-- The credits a device still takes, after `m` of them. -/
def TS (m : ℕ) : sProp 𝕄 :=
  iprop(crSt c d m ∗ bigSep (Finset.Ico (m + 1) 30) fun n => cred (tallyAt (cellK c (.cr d)) (n + 2) 1))

/-- Taking a credit. -/
theorem wp_takeA {m : ℕ} {O : CellTallies nD τ sig ℕ} (hm : m + 1 < 30) (hO : Over (m + 3) O)
    {α : Type} (k : PUnit → Prog (TpuEff nD τ sig (Elt F) Λ₀ .tc) α) (Q : α → sProp 𝕄) :
    iprop(Inv I κ ιs ∗ TS c d m ∗ ow c O)
      ⊢ iprop((ow c O ∗ TS c d (m + 1) ∗ crPay d (dstD d c) (m + 1) -∗ wpc c (k ⟨⟩) Q) -∗ wpc c (takeCredit d >>= k) Q) := by
  unfold TS
  rw [bigSep_Ico_succ_bot hm]
  iintro ⟨#HI, ⟨Hst, Hc, Hcs⟩, HO⟩ Hk
  iapply (wp_takeCredit I κ ιs c d (m := m) (i := m + 1 + 2) (by unfold NL; omega) hO) $$ [Hst Hc HO]
  · isplitr; · iexact HI
    isplitl [Hc]; · iexact Hc
    isplitl [HO]; · iexact HO
    iexact Hst
  iintro ⟨HO, Hst, Hp⟩
  iapply Hk
  isplitl [HO]; · iexact HO
  isplitl [Hst Hcs]
  · isplitl [Hst]; · iexact Hst
    iexact Hcs
  iexact Hp

/-- Taking the last credit. -/
theorem wp_takeZ {O : CellTallies nD τ sig ℕ} (hO : Over 31 O)
    {α : Type} (k : PUnit → Prog (TpuEff nD τ sig (Elt F) Λ₀ .tc) α) (Q : α → sProp 𝕄) :
    iprop(Inv I κ ιs ∗ TS c d 28 ∗ ow c O)
      ⊢ iprop((ow c O ∗ atPos ER (cellK c (.cr d)) 1 ∅ 0 ∗ crPay d (dstD d c) 29 -∗ wpc c (k ⟨⟩) Q) -∗ wpc c (takeCredit d >>= k) Q) := by
  unfold TS
  rw [bigSep_Ico_succ_bot (show 28 + 1 < 30 by decide)]
  iintro ⟨#HI, ⟨Hst, Hc, -⟩, HO⟩ Hk
  iapply (wp_takeLast I κ ιs c d (i := 28 + 1 + 2) (by decide) hO) $$ [Hst Hc HO]
  · isplitr; · iexact HI
    isplitl [Hc]; · iexact Hc
    isplitl [HO]; · iexact HO
    iexact Hst
  iexact Hk

end Cert.Proof

end
-- ==== Proof.Walk.lean ====
/-
  The steps one after another: what a device holds before each, and that each leaves what the next needs.
-/
module

public import proofs.«01_k».proof.Proof.Phase

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

variable (I : Ins F) (κ : GSem nD τ sig → ℕ) (ιs : Key → ℕ) (c : Dev nD)
variable (tA : (tabM false).view.ty.Contents (Elt F)) (tB : (tabM true).view.ty.Contents (Elt F))

/-- The tables and x. -/
def Mem : sProp 𝕄 := iprop(pts c (tabM false) tA ∗ pts c (tabM true) tB ∗ pts c xM (I.x c))

/-- Both landings of step `n + 1`, added to. -/
theorem wp_gather (hA : TabOk false c tA) (hB : TabOk true c tB) {n : ℕ} {s : Fin 32} {b : Fin 2} {O : CellTallies nD τ sig ℕ}
    (hs : s.val = n + 1) (hb : b = par n) (hO : Over (n + 2) O)
    {α : Type} (k : FVec F S128x4096 .f32 × FVec F S128x4096 .f32 → Prog (TpuEff nD τ sig (Elt F) Λ₀ .tc) α) (Q : α → sProp 𝕄) :
    iprop(Inv I κ ιs ∗ Mem I c tA tB ∗ RA c false n ∗ RA c true n ∗ ow c O)
      ⊢ iprop((Mem I c tA tB
            ∗ (rbSlot (c, false, par n) ∗ RA c false (n + 1) ∗ reached ER (cellK c (.rs false (par n))) (n / 2 + 1))
            ∗ (rbSlot (c, true, par n) ∗ RA c true (n + 1) ∗ reached ER (cellK c (.rs true (par n))) (n / 2 + 1)) ∗ ow c O
          -∗ wpc c (k (acc I false (n + 1) c, acc I true (n + 1) c)) Q) -∗ wpc c (gather (wide (I.w c)) s b >>= k) Q) := by
  have hn : n < 31 := by have := s.isLt; omega
  unfold Mem gather
  simp only [Prog.bind_assoc]
  iintro ⟨#HI, ⟨HA, HB, HX⟩, HRA, HRB, HO⟩ Hk
  iapply (wp_loadBlock I c false s hA) $$ [HA HX]
  · isplitl [HA] <;> iassumption
  iintro ⟨HA, HX⟩
  iapply (wp_loadBlock I c true s hB) $$ [HB HX]
  · isplitl [HB] <;> iassumption
  iintro ⟨HB, HX⟩
  iapply (wp_recvA I κ ιs c false hb hn hO) $$ [HRA HO]
  · isplitr; · iexact HI
    isplitl [HRA] <;> iassumption
  iintro ⟨HsA, HO, HRA, HrA⟩
  iapply (wp_recvA I κ ιs c true hb hn hO) $$ [HRB HO]
  · isplitr; · iexact HI
    isplitl [HRB] <;> iassumption
  iintro ⟨HsB, HO, HRB, HrB⟩
  rw [Prog.pure_eq_ret, Prog.bind_ret, hs]
  rw [show blockProd false (wide (I.w c)) (rowsAt (I.x c) (blk false c (n + 1))) = part I false c (n + 1) from rfl,
    show blockProd true (wide (I.w c)) (rowsAt (I.x c) (blk true c (n + 1))) = part I true c (n + 1) from rfl, acc_succ, acc_succ]
  iapply Hk
  isplitl [HA HB HX]
  · isplitl [HA]; · iexact HA
    isplitl [HB] <;> iassumption
  isplitl [HsA HRA HrA]
  · isplitl [HsA]; · iexact HsA
    isplitl [HRA] <;> iassumption
  isplitr [HO]
  · isplitl [HsB]; · iexact HsB
    isplitl [HRB] <;> iassumption
  iexact HO

/-- Giving both credits number `g`, the slots of landing `g - 1` released. -/
theorem wp_giveBoth {n s t : ℕ} (hn : n + 1 < 30)
    {α : Type} (k : PUnit → Prog (TpuEff nD τ sig (Elt F) Λ₀ .tc) α) (Q : α → sProp 𝕄) :
    iprop(Inv I κ ιs
        ∗ (GS c false (n + 1) ∗ RD c false n ∗ rbSlot (c, false, par n) ∗ reached ER (cellK c (.rs false (par n))) (n / 2 + 1))
        ∗ (GS c true (n + 1) ∗ RD c true n ∗ rbSlot (c, true, par n) ∗ reached ER (cellK c (.rs true (par n))) (n / 2 + 1))
        ∗ ow c (OW c (n + 1) (n + 1) s t))
      ⊢ iprop(((GS c false (n + 2) ∗ RD c false (n + 1)) ∗ (GS c true (n + 2) ∗ RD c true (n + 1)) ∗ ow c (OW c (n + 2) (n + 2) s t)
          -∗ wpc c (k ⟨⟩) Q) -∗ wpc c (giveBoth (nxt c) (prv c) >>= k) Q) := by
  unfold giveBoth
  simp only [Prog.bind_assoc]
  iintro ⟨#HI, ⟨HGA, HDA, HsA, HrA⟩, ⟨HGB, HDB, HsB, HrB⟩, HO⟩ Hk
  imod (release_step I κ ιs c false n) $$ [HDA HsA HrA] with HDA
  · isplitr; · iexact HI
    isplitl [HDA]; · iexact HDA
    isplitl [HsA] <;> iassumption
  imod (release_step I κ ιs c true n) $$ [HDB HsB HrB] with HDB
  · isplitr; · iexact HI
    isplitl [HDB]; · iexact HDB
    isplitl [HsB] <;> iassumption
  rw [OW_cA c _ _ _ hn]
  iapply (wp_giveA I κ ιs c false (p := prv c) rfl (by omega) hn) $$ [HGA HDA HO]
  · isplitr; · iexact HI
    isplitl [HGA]; · iexact HGA
    isplitl [HDA] <;> iassumption
  iintro ⟨HO, HGA, HDA⟩
  rw [OW_cB c _ _ _ hn]
  iapply (wp_giveA I κ ιs c true (p := nxt c) rfl (by omega) hn) $$ [HGB HDB HO]
  · isplitr; · iexact HI
    isplitl [HGB]; · iexact HGB
    isplitl [HDB] <;> iassumption
  iintro ⟨HO, HGB, HDB⟩
  iapply Hk
  isplitl [HGA HDA]
  · isplitl [HGA] <;> iassumption
  isplitl [HGB HDB]
  · isplitl [HGB] <;> iassumption
  iexact HO

/-- Both sends of step `s`. -/
theorem wp_sendBoth {m s a b : ℕ} {p : Fin 2} (hp : p = par s) (hm : m ≤ s) (hs : s < 31)
    {α : Type} (k : PUnit → Prog (TpuEff nD τ sig (Elt F) Λ₀ .tc) α) (Q : α → sProp 𝕄) :
    iprop(Inv I κ ιs ∗ (free c false s ∗ SA c false m s ∗ crPay false (dstD false c) (s - 1))
        ∗ (free c true s ∗ SA c true m s ∗ crPay true (dstD true c) (s - 1)) ∗ ow c (OW c a b s s))
      ⊢ iprop((SA c false m (s + 1) ∗ SA c true m (s + 1) ∗ ow c (OW c a b (s + 1) (s + 1)) -∗ wpc c (k ⟨⟩) Q)
          -∗ wpc c (sendBoth (nxt c) (prv c) p (acc I false s c, acc I true s c) >>= k) Q) := by
  unfold sendBoth
  simp only [Prog.bind_assoc]
  iintro ⟨#HI, ⟨HfA, HSA, HcA⟩, ⟨HfB, HSB, HcB⟩, HO⟩ Hk
  rw [OW_sA c _ _ _ hs]
  iapply (wp_sendA I κ ιs c false hp rfl hm hs) $$ [HfA HSA HcA HO]
  · isplitr; · iexact HI
    isplitl [HfA]; · iexact HfA
    isplitl [HSA]; · iexact HSA
    isplitl [HcA] <;> iassumption
  iintro ⟨HO, HSA⟩
  rw [OW_sB c _ _ _ hs]
  iapply (wp_sendA I κ ιs c true hp rfl hm hs) $$ [HfB HSB HcB HO]
  · isplitr; · iexact HI
    isplitl [HfB]; · iexact HfB
    isplitl [HSB]; · iexact HSB
    isplitl [HcB] <;> iassumption
  iintro ⟨HO, HSB⟩
  iapply Hk
  isplitl [HSA]; · iexact HSA
  isplitl [HSB] <;> iassumption

/-- What a direction holds before step 0. -/
def D0 (d : Dir) : sProp 𝕄 :=
  iprop(RA c d 0 ∗ RD c d 0 ∗ SA c d 0 0 ∗ free c d 0 ∗ free c d 1 ∗ crPay d (dstD d c) 0 ∗ GS c d 1 ∗ TS c d 0)
/-- What a direction holds before step 1. -/
def D1 (d : Dir) : sProp 𝕄 :=
  iprop(RA c d 0 ∗ RD c d 0 ∗ SA c d 0 1 ∗ free c d 1 ∗ crPay d (dstD d c) 0 ∗ GS c d 1 ∗ TS c d 0)
/-- What a direction holds before step `m + 2`. -/
def DM (d : Dir) (m : ℕ) : sProp 𝕄 := iprop(RA c d (m + 1) ∗ RD c d (m + 1) ∗ SA c d m (m + 2) ∗ GS c d (m + 2) ∗ TS c d m)

theorem wp_step0 (hA : TabOk false c tA) (hB : TabOk true c tB)
    {α : Type} (k : PUnit → Prog (TpuEff nD τ sig (Elt F) Λ₀ .tc) α) (Q : α → sProp 𝕄) :
    iprop(Inv I κ ιs ∗ Mem I c tA tB ∗ D0 c false ∗ D0 c true ∗ ow c (OW c 1 1 0 0))
      ⊢ iprop((Mem I c tA tB ∗ D1 c false ∗ D1 c true ∗ ow c (OW c 1 1 1 1) -∗ wpc c (k ⟨⟩) Q)
          -∗ wpc c (step0 (nxt c) (prv c) (wide (I.w c)) >>= k) Q) := by
  unfold Mem D0 D1 step0
  simp only [Prog.bind_assoc]
  iintro ⟨#HI, ⟨HA, HB, HX⟩, ⟨HRA, HDA, HSA, HfA, HfA', #HcA, HGA, HTA⟩, ⟨HRB, HDB, HSB, HfB, HfB', #HcB, HGB, HTB⟩, HO⟩ Hk
  iapply (wp_loadBlock I c false 0 hA) $$ [HA HX]
  · isplitl [HA] <;> iassumption
  iintro ⟨HA, HX⟩
  iapply (wp_loadBlock I c true 0 hB) $$ [HB HX]
  · isplitl [HB] <;> iassumption
  iintro ⟨HB, HX⟩
  rw [OW_sA c 1 1 0 (show 0 < 31 by decide)]
  iapply (wp_sendA I κ ιs c false (m := 0) (s := 0) rfl rfl (by decide) (by decide)) $$ [HfA HSA HO]
  · isplitr; · iexact HI
    isplitl [HfA]; · iexact HfA
    isplitl [HSA]; · iexact HSA
    isplitr; · iexact HcA
    iexact HO
  iintro ⟨HO, HSA⟩
  rw [OW_sB c 1 1 (0 + 1) (show 0 < 31 by decide)]
  iapply (wp_sendA I κ ιs c true (m := 0) (s := 0) rfl rfl (by decide) (by decide)) $$ [HfB HSB HO]
  · isplitr; · iexact HI
    isplitl [HfB]; · iexact HfB
    isplitl [HSB]; · iexact HSB
    isplitr; · iexact HcB
    iexact HO
  iintro ⟨HO, HSB⟩
  iapply Hk
  isplitl [HA HB HX]
  · isplitl [HA]; · iexact HA
    isplitl [HB] <;> iassumption
  isplitl [HRA HDA HSA HfA' HGA HTA]
  · isplitl [HRA]; · iexact HRA
    isplitl [HDA]; · iexact HDA
    isplitl [HSA]; · iexact HSA
    isplitl [HfA']; · iexact HfA'
    isplitr; · iexact HcA
    isplitl [HGA] <;> iassumption
  isplitr [HO]
  · isplitl [HRB]; · iexact HRB
    isplitl [HDB]; · iexact HDB
    isplitl [HSB]; · iexact HSB
    isplitl [HfB']; · iexact HfB'
    isplitr; · iexact HcB
    isplitl [HGB] <;> iassumption
  iexact HO

theorem wp_step1 (hA : TabOk false c tA) (hB : TabOk true c tB)
    {α : Type} (k : PUnit → Prog (TpuEff nD τ sig (Elt F) Λ₀ .tc) α) (Q : α → sProp 𝕄) :
    iprop(Inv I κ ιs ∗ Mem I c tA tB ∗ D1 c false ∗ D1 c true ∗ ow c (OW c 1 1 1 1))
      ⊢ iprop((Mem I c tA tB ∗ DM c false 0 ∗ DM c true 0 ∗ ow c (OW c 2 2 2 2) -∗ wpc c (k ⟨⟩) Q)
          -∗ wpc c (step1 (nxt c) (prv c) (wide (I.w c)) >>= k) Q) := by
  unfold D1 DM step1
  simp only [Prog.bind_assoc]
  iintro ⟨#HI, HM, ⟨HRA, HDA, HSA, HfA, HcA, HGA, HTA⟩, ⟨HRB, HDB, HSB, HfB, HcB, HGB, HTB⟩, HO⟩ Hk
  iapply (wp_gather I κ ιs c tA tB hA hB (n := 0) (s := 1) (b := 0) rfl rfl (over_OW c (a := 1) (b := 1) (s := 1) (t := 1) (by decide) (by decide) (by decide) (by decide))) $$ [HM HRA HRB HO]
  · isplitr; · iexact HI
    isplitl [HM]; · iexact HM
    isplitl [HRA]; · iexact HRA
    isplitl [HRB] <;> iassumption
  iintro ⟨HM, ⟨HsA, HRA, HrA⟩, ⟨HsB, HRB, HrB⟩, HO⟩
  iapply (wp_giveBoth I κ ιs c (n := 0) (by decide)) $$ [HGA HDA HsA HrA HGB HDB HsB HrB HO]
  · isplitr; · iexact HI
    isplitl [HGA HDA HsA HrA]
    · isplitl [HGA]; · iexact HGA
      isplitl [HDA]; · iexact HDA
      isplitl [HsA] <;> iassumption
    isplitr [HO]
    · isplitl [HGB]; · iexact HGB
      isplitl [HDB]; · iexact HDB
      isplitl [HsB] <;> iassumption
    iexact HO
  iintro ⟨⟨HGA, HDA⟩, ⟨HGB, HDB⟩, HO⟩
  iapply (wp_sendBoth I κ ιs c (m := 0) (s := 1) (p := 1) rfl (by decide) (by decide)) $$ [HfA HSA HcA HfB HSB HcB HO]
  · isplitr; · iexact HI
    isplitl [HfA HSA HcA]
    · isplitl [HfA]; · iexact HfA
      isplitl [HSA] <;> iassumption
    isplitr [HO]
    · isplitl [HfB]; · iexact HfB
      isplitl [HSB] <;> iassumption
    iexact HO
  iintro ⟨HSA, HSB, HO⟩
  iapply Hk
  isplitl [HM]; · iexact HM
  isplitl [HRA HDA HSA HGA HTA]
  · isplitl [HRA]; · iexact HRA
    isplitl [HDA]; · iexact HDA
    isplitl [HSA]; · iexact HSA
    isplitl [HGA] <;> iassumption
  isplitr [HO]
  · isplitl [HRB]; · iexact HRB
    isplitl [HDB]; · iexact HDB
    isplitl [HSB]; · iexact HSB
    isplitl [HGB] <;> iassumption
  iexact HO

theorem wp_stepMid (hA : TabOk false c tA) (hB : TabOk true c tB) {m s : ℕ} (hs : s = m + 2) (hm : m < 28) (h32 : s < 32)
    {α : Type} (k : PUnit → Prog (TpuEff nD τ sig (Elt F) Λ₀ .tc) α) (Q : α → sProp 𝕄) :
    iprop(Inv I κ ιs ∗ Mem I c tA tB ∗ DM c false m ∗ DM c true m ∗ ow c (OW c (m + 2) (m + 2) (m + 2) (m + 2)))
      ⊢ iprop((Mem I c tA tB ∗ DM c false (m + 1) ∗ DM c true (m + 1) ∗ ow c (OW c (m + 3) (m + 3) (m + 3) (m + 3)) -∗ wpc c (k ⟨⟩) Q)
          -∗ wpc c (stepMid (nxt c) (prv c) (wide (I.w c)) s h32 >>= k) Q) := by
  subst hs
  unfold DM stepMid awaitBoth
  simp only [Prog.bind_assoc]
  iintro ⟨#HI, HM, ⟨HRA, HDA, HSA, HGA, HTA⟩, ⟨HRB, HDB, HSB, HGB, HTB⟩, HO⟩ Hk
  iapply (wp_gather I κ ιs c tA tB hA hB (n := m + 1) (s := ⟨m + 2, h32⟩) rfl (par_two (m + 1))
    (over_OW c (a := m + 2) (b := m + 2) (s := m + 2) (t := m + 2) (by omega) (by omega) (by omega) (by omega))) $$ [HM HRA HRB HO]
  · isplitr; · iexact HI
    isplitl [HM]; · iexact HM
    isplitl [HRA]; · iexact HRA
    isplitl [HRB] <;> iassumption
  iintro ⟨HM, ⟨HsA, HRA, HrA⟩, ⟨HsB, HRB, HrB⟩, HO⟩
  iapply (wp_giveBoth I κ ιs c (n := m + 1) (by omega)) $$ [HGA HDA HsA HrA HGB HDB HsB HrB HO]
  · isplitr; · iexact HI
    isplitl [HGA HDA HsA HrA]
    · isplitl [HGA]; · iexact HGA
      isplitl [HDA]; · iexact HDA
      isplitl [HsA] <;> iassumption
    isplitr [HO]
    · isplitl [HGB]; · iexact HGB
      isplitl [HDB]; · iexact HDB
      isplitl [HsB] <;> iassumption
    iexact HO
  iintro ⟨⟨HGA, HDA⟩, ⟨HGB, HDB⟩, HO⟩
  iapply (wp_sentA I κ ιs c false (m := m) (n := m + 2) (par_two m) (by omega) (by omega) (over_OW c (a := m + 1 + 2) (b := m + 1 + 2) (s := m + 2) (t := m + 2) (by omega) (by omega) (by omega) (by omega))) $$ [HSA HO]
  · isplitr; · iexact HI
    isplitl [HSA] <;> iassumption
  iintro ⟨HfA, HO, HSA⟩
  iapply (wp_takeA I κ ιs c false (m := m) (by omega) (over_OW c (a := m + 1 + 2) (b := m + 1 + 2) (s := m + 2) (t := m + 2) (by omega) (by omega) (by omega) (by omega))) $$ [HTA HO]
  · isplitr; · iexact HI
    isplitl [HTA] <;> iassumption
  iintro ⟨HO, HTA, HcA⟩
  iapply (wp_sentA I κ ιs c true (m := m) (n := m + 2) (par_two m) (by omega) (by omega) (over_OW c (a := m + 1 + 2) (b := m + 1 + 2) (s := m + 2) (t := m + 2) (by omega) (by omega) (by omega) (by omega))) $$ [HSB HO]
  · isplitr; · iexact HI
    isplitl [HSB] <;> iassumption
  iintro ⟨HfB, HO, HSB⟩
  iapply (wp_takeA I κ ιs c true (m := m) (by omega) (over_OW c (a := m + 1 + 2) (b := m + 1 + 2) (s := m + 2) (t := m + 2) (by omega) (by omega) (by omega) (by omega))) $$ [HTB HO]
  · isplitr; · iexact HI
    isplitl [HTB] <;> iassumption
  iintro ⟨HO, HTB, HcB⟩
  iapply (wp_sendBoth I κ ιs c (m := m + 1) (s := m + 2) rfl (by omega) (by omega)) $$ [HfA HSA HcA HfB HSB HcB HO]
  · isplitr; · iexact HI
    isplitl [HfA HSA HcA]
    · isplitl [HfA]; · iexact HfA
      isplitl [HSA]; · iexact HSA
      iexact HcA
    isplitr [HO]
    · isplitl [HfB]; · iexact HfB
      isplitl [HSB]; · iexact HSB
      iexact HcB
    iexact HO
  iintro ⟨HSA, HSB, HO⟩
  iapply Hk
  isplitl [HM]; · iexact HM
  isplitl [HRA HDA HSA HGA HTA]
  · isplitl [HRA]; · iexact HRA
    isplitl [HDA]; · iexact HDA
    isplitl [HSA]; · iexact HSA
    isplitl [HGA] <;> iassumption
  isplitr [HO]
  · isplitl [HRB]; · iexact HRB
    isplitl [HDB]; · iexact HDB
    isplitl [HSB]; · iexact HSB
    isplitl [HGB] <;> iassumption
  iexact HO

/-- The steady steps. -/
theorem wp_mids (hA : TabOk false c tA) (hB : TabOk true c tB) : ∀ {j m : ℕ}, m + j = 28 →
    ∀ {α : Type} (k : PUnit → Prog (TpuEff nD τ sig (Elt F) Λ₀ .tc) α) (Q : α → sProp 𝕄),
    iprop(Inv I κ ιs ∗ Mem I c tA tB ∗ DM c false m ∗ DM c true m ∗ ow c (OW c (m + 2) (m + 2) (m + 2) (m + 2)))
      ⊢ iprop((Mem I c tA tB ∗ DM c false 28 ∗ DM c true 28 ∗ ow c (OW c 30 30 30 30) -∗ wpc c (k ⟨⟩) Q)
          -∗ wpc c (mids (nxt c) (prv c) (wide (I.w c)) j >>= k) Q)
  | 0, m, h, α, k, Q => by
    obtain rfl : m = 28 := h
    rw [show mids (F := F) (nxt c) (prv c) (wide (I.w c)) 0 >>= k = k ⟨⟩ from rfl]
    iintro ⟨-, HM, HA, HB, HO⟩ Hk
    iapply Hk
    isplitl [HM]; · iexact HM
    isplitl [HA]; · iexact HA
    isplitl [HB] <;> iassumption
  | j + 1, m, h, α, k, Q => by
    rw [show mids (F := F) (nxt c) (prv c) (wide (I.w c)) (j + 1) >>= k
      = stepMid (nxt c) (prv c) (wide (I.w c)) (29 - j) (Nat.lt_of_le_of_lt (Nat.sub_le _ _) (by decide)) >>= fun _ => mids (nxt c) (prv c) (wide (I.w c)) j >>= k from
        Prog.bind_assoc _ _ _]
    iintro ⟨#HI, H⟩ Hk
    iapply (wp_stepMid I κ ιs c tA tB hA hB (m := m) (s := 29 - j) (by omega) (by omega)) $$ [H]
    · isplitr; · iexact HI
      iexact H
    iintro H
    iapply (wp_mids hA hB (j := j) (m := m + 1) (by omega)) $$ [H]
    · isplitr; · iexact HI
      iexact H
    iexact Hk

end Cert.Proof

end
-- ==== Proof.Body.lean ====
/-
  The body of the call, from the handshake with both neighbours to the drained send slots.
-/
module

public import proofs.«01_k».proof.Proof.Walk

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

variable (I : Ins F) (κ : GSem nD τ sig → ℕ) (ιs : Key → ℕ) (c : Dev nD)
variable (tA : (tabM false).view.ty.Contents (Elt F)) (tB : (tabM true).view.ty.Contents (Elt F))

/-- Loading a word whose value is known. -/
theorem wp_word {e : EltTy} {s : Shape} {M : Memref sig .tc .smem s e} {r : Rect s} {h1 : r.shape.numel = 1} {hp : e.packing = 1}
    {f : Buf (Elt F) (M.view.loc (c : Thread nD τ))} {v : Elt F e}
    (hv : (M.access r).read (Elt F) f (Shape.Idx.first (h1.symm ▸ Nat.one_pos)) = v)
    {α : Type} (k : Elt F e → Prog (TpuEff nD τ sig (Elt F) Λ₀ .tc) α) (Q : α → sProp 𝕄) :
    pts c M f ⊢ iprop((pts c M f -∗ wpc c (k v) Q) -∗ wpc c (smemLoad M r h1 hp >>= k) Q) := by
  subst hv
  iintro H Hk
  simp only [smemLoad, smemLoadElt, Prog.bind_op, Prog.bind_ret]
  iapply (wp_load_rect 𝒱₀ (c : Thread nD τ) none Set.univ (m := M) (r := r) (S := Finset.univ) (Finset.subset_univ _)) $$ [H]
  · iexact H
  iintro H
  iapply Hk $$ H

/-- What a direction holds before step 31. -/
def DL (d : Dir) : sProp 𝕄 := iprop(RA c d 30 ∗ SA c d 29 31 ∗ rbSlot (c, d, 1) ∗ atPos ER (cellK c (.cr d)) 1 ∅ 0)
/-- What a direction holds after step 31. -/
def DR (d : Dir) : sProp 𝕄 := iprop(RA c d 31 ∗ SA c d 29 31 ∗ rbSlot (c, d, 1) ∗ rbSlot (c, d, 0) ∗ atPos ER (cellK c (.cr d)) 1 ∅ 0)
/-- What a direction holds in the end. -/
def DE (d : Dir) : sProp 𝕄 :=
  iprop(RA c d 31 ∗ SA c d 31 31 ∗ rbSlot (c, d, 1) ∗ rbSlot (c, d, 0) ∗ atPos ER (cellK c (.cr d)) 1 ∅ 0 ∗ sbSlot (c, d, 1) ∗ sbSlot (c, d, 0))

theorem wp_step30 (hA : TabOk false c tA) (hB : TabOk true c tB)
    {α : Type} (k : PUnit → Prog (TpuEff nD τ sig (Elt F) Λ₀ .tc) α) (Q : α → sProp 𝕄) :
    iprop(Inv I κ ιs ∗ Mem I c tA tB ∗ DM c false 28 ∗ DM c true 28 ∗ ow c (OW c 30 30 30 30))
      ⊢ iprop((Mem I c tA tB ∗ DL c false ∗ DL c true ∗ ow c (OW c 30 30 31 31) -∗ wpc c (k ⟨⟩) Q)
          -∗ wpc c (step30 (nxt c) (prv c) (wide (I.w c)) >>= k) Q) := by
  unfold DM DL step30 awaitBoth
  simp only [Prog.bind_assoc]
  iintro ⟨#HI, HM, ⟨HRA, -, HSA, -, HTA⟩, ⟨HRB, -, HSB, -, HTB⟩, HO⟩ Hk
  iapply (wp_gather I κ ιs c tA tB hA hB (n := 29) (s := 30) (b := 1) rfl rfl
    (over_OW c (a := 30) (b := 30) (s := 30) (t := 30) (by decide) (by decide) (by decide) (by decide))) $$ [HM HRA HRB HO]
  · isplitr; · iexact HI
    isplitl [HM]; · iexact HM
    isplitl [HRA]; · iexact HRA
    isplitl [HRB] <;> iassumption
  iintro ⟨HM, ⟨HsA, HRA, -⟩, ⟨HsB, HRB, -⟩, HO⟩
  iapply (wp_sentA I κ ιs c false (m := 28) (n := 30) rfl (by decide) (by decide)
    (over_OW c (a := 30) (b := 30) (s := 30) (t := 30) (by decide) (by decide) (by decide) (by decide))) $$ [HSA HO]
  · isplitr; · iexact HI
    isplitl [HSA] <;> iassumption
  iintro ⟨HfA, HO, HSA⟩
  iapply (wp_takeZ I κ ιs c false (over_OW c (a := 30) (b := 30) (s := 30) (t := 30) (by decide) (by decide) (by decide) (by decide))) $$ [HTA HO]
  · isplitr; · iexact HI
    isplitl [HTA] <;> iassumption
  iintro ⟨HO, HTA, HcA⟩
  iapply (wp_sentA I κ ιs c true (m := 28) (n := 30) rfl (by decide) (by decide)
    (over_OW c (a := 30) (b := 30) (s := 30) (t := 30) (by decide) (by decide) (by decide) (by decide))) $$ [HSB HO]
  · isplitr; · iexact HI
    isplitl [HSB] <;> iassumption
  iintro ⟨HfB, HO, HSB⟩
  iapply (wp_takeZ I κ ιs c true (over_OW c (a := 30) (b := 30) (s := 30) (t := 30) (by decide) (by decide) (by decide) (by decide))) $$ [HTB HO]
  · isplitr; · iexact HI
    isplitl [HTB] <;> iassumption
  iintro ⟨HO, HTB, HcB⟩
  iapply (wp_sendBoth I κ ιs c (m := 29) (s := 30) (p := 0) rfl (by decide) (by decide)) $$ [HfA HSA HcA HfB HSB HcB HO]
  · isplitr; · iexact HI
    isplitl [HfA HSA HcA]
    · isplitl [HfA]; · iexact HfA
      isplitl [HSA]; · iexact HSA
      iexact HcA
    isplitr [HO]
    · isplitl [HfB]; · iexact HfB
      isplitl [HSB]; · iexact HSB
      iexact HcB
    iexact HO
  iintro ⟨HSA, HSB, HO⟩
  iapply Hk
  isplitl [HM]; · iexact HM
  isplitl [HRA HSA HsA HTA]
  · isplitl [HRA]; · iexact HRA
    isplitl [HSA]; · iexact HSA
    isplitl [HsA]; · iexact HsA
    iexact HTA
  isplitr [HO]
  · isplitl [HRB]; · iexact HRB
    isplitl [HSB]; · iexact HSB
    isplitl [HsB]; · iexact HsB
    iexact HTB
  iexact HO

/-- The halves of the result. -/
abbrev outR0 : Rect S128x8192 := Rect.unit (s := S128x8192) ![0, 0] S128x4096.size inb_S128x8192_S128x4096_0_0
abbrev outR1 : Rect S128x8192 := Rect.unit (s := S128x8192) ![0, 4096] S128x4096.size inb_S128x8192_S128x4096_0_4096
/-- Both halves written. -/
def outW (f : Vec F S128x8192 .f32) (a b : FVec F S128x4096 .f32) : Vec F S128x8192 .f32 :=
  (oM.access outR1).write (Elt F) ((oM.access outR0).write (Elt F) f a Finset.univ) b Finset.univ
/-- The word of a one-element buffer. -/
def word1 (f : Vec F S1 .f32) : Elt F .f32 :=
  (sxM.access (Rect.unit (s := S1) ![0] S1.size inb_S1_S1_0)).read (Elt F) f (Shape.Idx.first (numel1_S1.symm ▸ Nat.one_pos))

theorem wp_step31 (hA : TabOk false c tA) (hB : TabOk true c tB) (sx sw : Vec F S1 .f32)
    {α : Type} (k : PUnit → Prog (TpuEff nD τ sig (Elt F) Λ₀ .tc) α) (Q : α → sProp 𝕄) :
    iprop(Inv I κ ιs ∗ Mem I c tA tB ∗ DL c false ∗ DL c true ∗ ow c (OW c 30 30 31 31) ∗ pts c sxM sx ∗ pts c swM sw ∗ (∃ f, pts c oM f))
      ⊢ iprop((Mem I c tA tB ∗ DR c false ∗ DR c true ∗ ow c (OW c 30 30 31 31) ∗ pts c sxM sx ∗ pts c swM sw
            ∗ (∃ f, pts c oM (outW f (scaled (acc I false 31 c) (word1 sx) (word1 sw)) (scaled (acc I true 31 c) (word1 sx) (word1 sw)))) -∗ wpc c (k ⟨⟩) Q)
          -∗ wpc c (step31 (wide (I.w c)) >>= k) Q) := by
  unfold DL DR step31
  simp only [Prog.bind_assoc]
  iintro ⟨#HI, HM, ⟨HRA, HSA, HtA, HCA⟩, ⟨HRB, HSB, HtB, HCB⟩, HO, Hx, Hw, ⟨%f, Ho⟩⟩ Hk
  iapply (wp_gather I κ ιs c tA tB hA hB (n := 30) (s := 31) (b := 0) rfl rfl
    (over_OW c (a := 30 + 1) (b := 30 + 1) (s := 31) (t := 31) (by decide) (by decide) (by decide) (by decide))) $$ [HM HRA HRB HO]
  · isplitr; · iexact HI
    isplitl [HM]; · iexact HM
    isplitl [HRA]; · iexact HRA
    isplitl [HRB]; · iexact HRB
    rw [OW_end c (by decide) (by decide) (by decide) (by decide), OW_end c (by decide) (by decide) (by decide) (by decide)]
    iexact HO
  iintro ⟨HM, ⟨HsA, HRA, -⟩, ⟨HsB, HRB, -⟩, HO⟩
  iapply (wp_word c (M := sxM) (v := word1 sx) rfl) $$ [Hx]
  · iexact Hx
  iintro Hx
  iapply (wp_word c (M := swM) (v := word1 sw) rfl) $$ [Hw]
  · iexact Hw
  iintro Hw
  simp only [Prog.lift, Prog.bind_op, Prog.bind_ret, Prog.pure_eq_ret]
  iapply (wp_load_rect 𝒱₀ (c : Thread nD τ) none Set.univ (m := oM) (r := outR0) (S := Finset.univ) (Finset.subset_univ _)) $$ [Ho]
  · iexact Ho
  iintro Ho
  iapply (wp_store 𝒱₀ (c : Thread nD τ) none Set.univ (m := oM) (r := outR0) (S := Finset.univ) (Finset.subset_univ _)) $$ [Ho]
  · iexact Ho
  iintro Ho
  iapply (wp_load_rect 𝒱₀ (c : Thread nD τ) none Set.univ (m := oM) (r := outR1) (S := Finset.univ) (Finset.subset_univ _)) $$ [Ho]
  · iexact Ho
  iintro Ho
  iapply (wp_store 𝒱₀ (c : Thread nD τ) none Set.univ (m := oM) (r := outR1) (S := Finset.univ) (Finset.subset_univ _)) $$ [Ho]
  · iexact Ho
  iintro Ho
  iapply Hk
  isplitl [HM]; · iexact HM
  isplitl [HRA HSA HsA HtA HCA]
  · isplitl [HRA]; · iexact HRA
    isplitl [HSA]; · iexact HSA
    isplitl [HtA]; · iexact HtA
    isplitl [HsA]; · iexact HsA
    iexact HCA
  isplitl [HRB HSB HsB HtB HCB]
  · isplitl [HRB]; · iexact HRB
    isplitl [HSB]; · iexact HSB
    isplitl [HtB]; · iexact HtB
    isplitl [HsB]; · iexact HsB
    iexact HCB
  isplitl [HO]
  · rw [OW_end c (by decide) (by decide) (by decide) (by decide), OW_end c (by decide) (by decide) (by decide) (by decide)]
    iexact HO
  isplitl [Hx]; · iexact Hx
  isplitl [Hw]; · iexact Hw
  iexists f
  iexact Ho

theorem wp_drain {α : Type} (k : PUnit → Prog (TpuEff nD τ sig (Elt F) Λ₀ .tc) α) (Q : α → sProp 𝕄) :
    iprop(Inv I κ ιs ∗ DR c false ∗ DR c true ∗ ow c (OW c 30 30 31 31))
      ⊢ iprop((DE c false ∗ DE c true ∗ ow c (OW c 30 30 31 31) -∗ wpc c (k ⟨⟩) Q) -∗ wpc c (drain >>= k) Q) := by
  unfold DE DR drain
  simp only [Prog.bind_assoc]
  have hO : Over 0 (OW c 30 30 31 31) := over_OW c (by decide) (by decide) (by decide) (by decide)
  iintro ⟨#HI, ⟨HRA, HSA, H1, H2, H3⟩, ⟨HRB, HSB, K1, K2, K3⟩, HO⟩ Hk
  iapply (wp_sentA I κ ιs c false (m := 29) (n := 31) rfl (by decide) (by decide) hO) $$ [HSA HO]
  · isplitr; · iexact HI
    isplitl [HSA] <;> iassumption
  unfold free
  iintro ⟨⟨HfA, -⟩, HO, HSA⟩
  iapply (wp_sentA I κ ιs c false (m := 30) (n := 31) rfl (by decide) (by decide) hO) $$ [HSA HO]
  · isplitr; · iexact HI
    isplitl [HSA] <;> iassumption
  unfold free
  iintro ⟨⟨HgA, -⟩, HO, HSA⟩
  iapply (wp_sentA I κ ιs c true (m := 29) (n := 31) rfl (by decide) (by decide) hO) $$ [HSB HO]
  · isplitr; · iexact HI
    isplitl [HSB] <;> iassumption
  unfold free
  iintro ⟨⟨HfB, -⟩, HO, HSB⟩
  iapply (wp_sentA I κ ιs c true (m := 30) (n := 31) rfl (by decide) (by decide) hO) $$ [HSB HO]
  · isplitr; · iexact HI
    isplitl [HSB] <;> iassumption
  unfold free
  iintro ⟨⟨HgB, -⟩, HO, HSB⟩
  iapply Hk
  isplitl [HRA HSA H1 H2 H3 HfA HgA]
  · isplitl [HRA]; · iexact HRA
    isplitl [HSA]; · iexact HSA
    isplitl [H1]; · iexact H1
    isplitl [H2]; · iexact H2
    isplitl [H3]; · iexact H3
    isplitl [HfA]; · iexact HfA
    iexact HgA
  isplitr [HO]
  · isplitl [HRB]; · iexact HRB
    isplitl [HSB]; · iexact HSB
    isplitl [K1]; · iexact K1
    isplitl [K2]; · iexact K2
    isplitl [K3]; · iexact K3
    isplitl [HfB]; · iexact HfB
    iexact HgB
  iexact HO

end Cert.Proof

end
-- ==== Proof.Run.lean ====
/-
  The run of the whole body on one device, from what the launch hands it.
-/
module

public import proofs.«01_k».proof.Proof.Body

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

variable (I : Ins F) (κ : GSem nD τ sig → ℕ) (ιs : Key → ℕ) (c : Dev nD)
variable (tA : (tabM false).view.ty.Contents (Elt F)) (tB : (tabM true).view.ty.Contents (Elt F))

/-- The words of the neighbours. -/
def NbrOk (n : nbrM.view.ty.Contents (Elt F)) : Prop :=
  (nbrM.access (Rect.unit (s := S2) ![0] S1.size inb_S2_S1_0)).read (Elt F) n (Shape.Idx.first (numel1_S1.symm ▸ Nat.one_pos)) = BitVec.ofNat 32 (nxt c).val
  ∧ (nbrM.access (Rect.unit (s := S2) ![1] S1.size inb_S2_S1_1)).read (Elt F) n (Shape.Idx.first (numel1_S1.symm ▸ Nat.one_pos)) = BitVec.ofNat 32 (prv c).val

theorem chk1_ofNat (n : Dev nD) : k0_chk1 (BitVec.ofNat 32 n.val) := by revert n; decide
theorem chk2_ofNat (n : Dev nD) : k0_chk2 (BitVec.ofNat 32 n.val) := by revert n; decide
theorem dev1_ofNat (n : Dev nD) (h) : (⟨k0_dev1 (BitVec.ofNat 32 n.val), h⟩ : Dev nD) = n := Fin.ext (by revert n; decide)
theorem dev2_ofNat (n : Dev nD) (h) : (⟨k0_dev2 (BitVec.ofNat 32 n.val), h⟩ : Dev nD) = n := Fin.ext (by revert n; decide)

/-- What a direction holds before the handshake. -/
def DB (d : Dir) : sProp 𝕄 :=
  iprop(RA c d 0 ∗ (bigSep Finset.univ fun b : Fin 2 => iprop(readerAt ES (c, d, b) 0 ∗ rbSlot (c, d, b) ∗ reached ER (cellK c (.rs d b)) 0))
    ∗ SA c d 0 0 ∗ free c d 0 ∗ free c d 1 ∗ (bigSep (Finset.Ico 1 30) fun n => dutyTok ER (cellK (srcD d c) (.cr d)) 0 n) ∗ TS c d 0
    ∗ dutyTok ER (cellK (srcD d c) .bar) 0 (dn d) ∗ reached ER (cellK (srcD d c) .bar) 0 ∗ reached ER (cellK c (.cr (!d))) 0)

theorem cnt_zero (b : Fin 2) : cnt b 0 = 0 := by revert b; decide

/-- Both slots of a direction released. -/
theorem release_all (d : Dir) :
    iprop(Inv I κ ιs ∗ bigSep Finset.univ fun b : Fin 2 => iprop(readerAt ES (c, d, b) 0 ∗ rbSlot (c, d, b) ∗ reached ER (cellK c (.rs d b)) 0))
      ⊢ (|={Set.univ}=> RD c d 0 : sProp 𝕄) := by
  unfold RD crPay
  rw [← bigSep_sep']
  refine (bigSep_with_persistent (R := Inv I κ ιs) (Ψ := fun b => iprop(|={Set.univ}=> (readerAt ES (c, d, b) (1 + cnt b 0)
    ∗ reached ER (cellK c (.rs d b)) (cnt b 0) ∗ released ES (c, d, b) (1 + cnt b 0)))) (fun b _ => ?_)).trans (bigSep_fupd _ _)
  rw [cnt_zero]
  iintro ⟨#HI, Hr, Hs, Hq⟩
  imod (release I κ ιs c d b 0) $$ [Hr Hs] with ⟨Hr, Hl⟩
  · isplitr; · iexact HI
    isplitl [Hr] <;> iassumption
  imodintro
  isplitl [Hr]; · iexact Hr
  isplitl [Hq]; · iexact Hq
  iexact Hl

omit [FloatOps F] in
/-- A load of the whole weights reads them. -/
theorem read_w (f : Vec F S128x8192 .fp8e5m2) :
    (wM.access (Rect.unit (s := S128x8192) ![0, 0] S128x8192.size inb_S128x8192_S128x8192_0_0)).read (Elt F) f = f := by
  funext x
  have h : (wM.access (Rect.unit (s := S128x8192) ![0, 0] S128x8192.size inb_S128x8192_S128x8192_0_0)).emb x = x := by
    funext a
    apply Fin.ext
    show (![0, 0] : Fin 2 → ℕ) a + 1 * (x a).val = (x a).val
    match a with
    | 0 => exact (Nat.zero_add _).trans (Nat.one_mul _)
    | 1 => exact (Nat.zero_add _).trans (Nat.one_mul _)
  show f _ = f x
  exact congrArg f h

/-- What the body starts from besides what a direction holds. -/
def bodyPre (n : nbrM.view.ty.Contents (Elt F)) (sx sw : Vec F S1 .f32) : sProp 𝕄 :=
  iprop(Mem I c tA tB ∗ pts c nbrM n ∗ pts c wM (I.w c) ∗ pts c sxM sx ∗ pts c swM sw ∗ (∃ f, pts c oM f)
    ∗ DB c false ∗ DB c true ∗ atPos ER (cellK c .bar) 0 ∅ 0 ∗ cred (tallyAt (cellK c .bar) 1 2)
    ∗ ow c (OW c 1 1 0 0 + barTally false c + barTally true c))
/-- What it leaves. -/
def bodyPost (n : nbrM.view.ty.Contents (Elt F)) (sx sw : Vec F S1 .f32) : sProp 𝕄 :=
  iprop(Mem I c tA tB ∗ pts c nbrM n ∗ pts c wM (I.w c) ∗ pts c sxM sx ∗ pts c swM sw
    ∗ (∃ f, pts c oM (outW f (scaled (acc I false 31 c) (word1 sx) (word1 sw)) (scaled (acc I true 31 c) (word1 sx) (word1 sw))))
    ∗ DE c false ∗ DE c true ∗ atPos ER (cellK c .bar) 1 ∅ 0 ∗ ow c 0)

theorem wp_ringBody (hA : TabOk false c tA) (hB : TabOk true c tB) (n : nbrM.view.ty.Contents (Elt F)) (hN : NbrOk c n) (sx sw : Vec F S1 .f32)
    {α : Type} (k : PUnit → Prog (TpuEff nD τ sig (Elt F) Λ₀ .tc) α) (Q : α → sProp 𝕄) :
    iprop(Inv I κ ιs ∗ bodyPre I c tA tB n sx sw)
      ⊢ iprop((bodyPost I c tA tB n sx sw -∗ wpc c (k ⟨⟩) Q) -∗ wpc c (ringBody >>= k) Q) := by
  unfold bodyPre bodyPost DB ringBody
  simp only [Prog.bind_assoc, Prog.lift, Prog.bind_op, Prog.bind_ret, Prog.pure_eq_ret]
  iintro ⟨#HI, HM, Hn, HW, Hx, Hw, Ho, ⟨HRA, HLA, HSA, HfA, HgA, HGA, HTA, HbA, #HrA, #HqA⟩, ⟨HRB, HLB, HSB, HfB, HgB, HGB, HTB, HbB, #HrB, #HqB⟩, Hat, Hc, HO⟩ Hk
  iapply (wp_word c (M := nbrM) hN.1) $$ [Hn]
  · iexact Hn
  iintro Hn
  simp only [wp_assume_of _ _ _ _ (d := k0_chk1.dec _) (chk1_ofNat (nxt c))]
  iapply (wp_word c (M := nbrM) hN.2) $$ [Hn]
  · iexact Hn
  iintro Hn
  simp only [wp_assume_of _ _ _ _ (d := k0_chk2.dec _) (chk2_ofNat (prv c))]
  simp only [dev1_ofNat, dev2_ofNat]
  imod (release_all I κ ιs c false) $$ [HLA] with HDA
  · isplitr; · iexact HI
    iexact HLA
  imod (release_all I κ ιs c true) $$ [HLB] with HDB
  · isplitr; · iexact HI
    iexact HLB
  unfold RD
  icases HDA with ⟨HDA, #HpA⟩
  icases HDB with ⟨HDB, #HpB⟩
  iapply (wp_barSignal I κ ιs c true) $$ [HO HbB]
  · isplitr; · iexact HI
    isplitl [HO]; · iexact HO
    isplitl [HbB]; · iexact HbB
    isplitr
    · unfold barPay
      isplitr; · iexact HpB
      iexact HqB
    iexact HrB
  iintro HO
  iapply (wp_barSignal I κ ιs c false) $$ [HO HbA]
  · isplitr; · iexact HI
    isplitl [HO]; · iexact HO
    isplitl [HbA]; · iexact HbA
    isplitr
    · unfold barPay
      isplitr; · iexact HpA
      iexact HqA
    iexact HrA
  iintro HO
  iapply (wp_barWait I κ ιs c (O := OW c 1 1 0 0) (over_OW c (by decide) (by decide) (by decide) (by decide))) $$ [Hc HO Hat]
  · isplitr; · iexact HI
    isplitl [Hc]; · iexact Hc
    isplitl [HO] <;> iassumption
  unfold barPay
  iintro ⟨HO, Hat, ⟨#HcA, #HuA⟩, ⟨#HcB, #HuB⟩⟩
  iapply (wp_load_rect 𝒱₀ (c : Thread nD τ) none Set.univ (m := wM) (r := Rect.unit (s := S128x8192) ![0, 0] S128x8192.size inb_S128x8192_S128x8192_0_0) (S := Finset.univ) (Finset.subset_univ _)) $$ [HW]
  · iexact HW
  iintro HW
  rw [read_w]
  unfold steps
  simp only [Prog.bind_assoc]
  iapply (wp_step0 I κ ιs c tA tB hA hB) $$ [HM HRA HDA HSA HfA HgA HGA HTA HRB HDB HSB HfB HgB HGB HTB HO]
  · unfold D0 RD GS
    isplitr; · iexact HI
    isplitl [HM]; · iexact HM
    isplitl [HRA HDA HSA HfA HgA HGA HTA]
    · isplitl [HRA]; · iexact HRA
      isplitl [HDA]
      · isplitl [HDA]; · iexact HDA
        iexact HpA
      isplitl [HSA]; · iexact HSA
      isplitl [HfA]; · iexact HfA
      isplitl [HgA]; · iexact HgA
      isplitr; · iexact HcA
      isplitl [HGA]
      · isplitr; · iexact HuB
        iexact HGA
      iexact HTA
    isplitr [HO]
    · isplitl [HRB]; · iexact HRB
      isplitl [HDB]
      · isplitl [HDB]; · iexact HDB
        iexact HpB
      isplitl [HSB]; · iexact HSB
      isplitl [HfB]; · iexact HfB
      isplitl [HgB]; · iexact HgB
      isplitr; · iexact HcB
      isplitl [HGB]
      · isplitr; · iexact HuA
        iexact HGB
      iexact HTB
    iexact HO
  iintro H
  iapply (wp_step1 I κ ιs c tA tB hA hB) $$ [H]
  · isplitr; · iexact HI
    iexact H
  iintro H
  iapply (wp_mids I κ ιs c tA tB hA hB (j := 28) (m := 0) rfl) $$ [H]
  · isplitr; · iexact HI
    iexact H
  iintro H
  iapply (wp_step30 I κ ιs c tA tB hA hB) $$ [H]
  · isplitr; · iexact HI
    iexact H
  iintro ⟨HM, HA, HB, HO⟩
  iapply (wp_step31 I κ ιs c tA tB hA hB sx sw) $$ [HM HA HB HO Hx Hw Ho]
  · isplitr; · iexact HI
    isplitl [HM]; · iexact HM
    isplitl [HA]; · iexact HA
    isplitl [HB]; · iexact HB
    isplitl [HO]; · iexact HO
    isplitl [Hx]; · iexact Hx
    isplitl [Hw]; · iexact Hw
    iexact Ho
  iintro ⟨HM, HA, HB, HO, Hx, Hw, Ho⟩
  iapply (wp_drain I κ ιs c) $$ [HA HB HO]
  · isplitr; · iexact HI
    isplitl [HA]; · iexact HA
    isplitl [HB]; · iexact HB
    iexact HO
  rw [OW_end c (by decide) (by decide) (by decide) (by decide)]
  iintro ⟨HA, HB, HO⟩
  iapply Hk
  isplitl [HM]; · iexact HM
  isplitl [Hn]; · iexact Hn
  isplitl [HW]; · iexact HW
  isplitl [Hx]; · iexact Hx
  isplitl [Hw]; · iexact Hw
  isplitl [Ho]; · iexact Ho
  isplitl [HA]; · iexact HA
  isplitl [HB]; · iexact HB
  isplitl [Hat]; · iexact Hat
  iexact HO

end Cert.Proof

end
-- ==== Proof.Tables.lean ====
/- The tables that the host lines before the call build: the ring's places, the blocks' orders and the two neighbours. -/
module

public import proofs.«01_k».proof.Proof.Run
public import proofs.«01_k».proof.Proof.Gen.KernelIdeal.Regions
public import Idealize.ShloMosaic.Lib.StableHlo.RunClose

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

/-- The ring as the host lines hold it. -/
def ringT : S32.Idx → BitVec 32 := fun i => lit0 (S32.rowMajor i)
/-- Where a device finds itself in it. -/
def hereT (c : Dev nD) : S32.Idx → BitVec 1 :=
  cmpi .eq ringT (broadcastInDim S32 ![] bcast_S_S32 (id (Host.remui (Host.divui (constantI S_ 32 (Dev.word c)) (constantI S_ 32 1#32)) (constantI S_ 32 32#32))))
/-- Its place, as the host lines find it: the first index at which the ring holds the device. -/
def placeT (c : Dev nD) : S_.Idx → BitVec 32 := fun j =>
  (Host.reduce2 reducer_argmax_i1_i32 (hereT c) (iotaInDim S32 32 0) (constantI S_ 1 0#1) (constantI S_ 32 0#32) reducesTo_S32_S_d0 h_S_ j).2

theorem placeT_eq (c : Dev nD) (j : S_.Idx) : placeT c j = BitVec.ofNat 32 (posOf c).val := by
  have h : ∀ c : Dev nD, placeT c (fun k => k.elim0) = BitVec.ofNat 32 (posOf c).val := by decide +kernel
  rw [show j = fun k => k.elim0 from funext fun k => k.elim0]; exact h c

/-- The host lines' remainder by 32 of an array of words, -/
def remT (a : S32.Idx → BitVec 32) : S32.Idx → BitVec 32 :=
  let d := select (cmpi .eq (id (constantI S_ 32 32#32)) (constantI S_ 32 0#32)) (constantI S_ 32 1#32) (id (constantI S_ 32 32#32))
  let r := Host.remsi a (broadcastInDim S32 ![] bcast_S_S32 d)
  select (andi (cmpi .ne (cmpi .slt r (broadcastInDim S32 ![] bcast_S_S32 (constantI S_ 32 0#32)))
      (broadcastInDim S32 ![] bcast_S_S32 (cmpi .slt d (constantI S_ 32 0#32))))
    (cmpi .ne r (broadcastInDim S32 ![] bcast_S_S32 (constantI S_ 32 0#32))))
    (addi r (broadcastInDim S32 ![] bcast_S_S32 d)) r
/-- and of one word. -/
def remS (a : S_.Idx → BitVec 32) : S_.Idx → BitVec 32 :=
  let d := select (cmpi .eq (id (constantI S_ 32 32#32)) (constantI S_ 32 0#32)) (constantI S_ 32 1#32) (id (constantI S_ 32 32#32))
  let r := Host.remsi a d
  select (andi (cmpi .ne (cmpi .slt r (constantI S_ 32 0#32)) (cmpi .slt d (constantI S_ 32 0#32))) (cmpi .ne r (constantI S_ 32 0#32)))
    (addi r d) r

/-- What the ring holds at an array of indices, a negative one counted from the end; -/
def pickT (a : S32.Idx → BitVec 32) : S32.Idx → BitVec 32 :=
  Host.gather gather_S32_S32x1_S32_n_0_n_n_0_1_1 ringT (broadcastInDim S32x1 ![0] bcast_S32_S32x1_0
    (select (cmpi .slt a (broadcastInDim S32 ![] bcast_S_S32 (constantI S_ 32 0#32)))
      (addi a (broadcastInDim S32 ![] bcast_S_S32 (constantI S_ 32 32#32))) a))
/-- and at one index. -/
def pickC (a : S_.Idx → BitVec 32) : S_.Idx → BitVec 32 :=
  shapeCast S_ (Host.dynamicSlice S1 ringT
    (fun k => (![select (cmpi .slt a (constantI S_ 32 0#32)) (addi a (constantI S_ 32 32#32)) a] k (Shape.Idx.first h_S_)).toInt) sliceFits_S32_S1) shapeCasts_S1_S_
def pickS (a : S_.Idx → BitVec 32) : S1.Idx → BitVec 32 := broadcastInDim S1 ![] bcast_S_S1 (pickC a)

/-- The table of the blocks that the first half's sums gather, the second's, and the two neighbours, as functions of
    the device's place. -/
def tabAT (p : S_.Idx → BitVec 32) : S32.Idx → BitVec 32 :=
  pickT (remT (subi (broadcastInDim S32 ![] bcast_S_S32 (subi p (constantI S_ 32 1#32))) (iotaInDim S32 32 0)))
def tabBT (p : S_.Idx → BitVec 32) : S32.Idx → BitVec 32 :=
  pickT (remT (addi (broadcastInDim S32 ![] bcast_S_S32 (addi p (constantI S_ 32 1#32))) (iotaInDim S32 32 0)))
def nbrT (p : S_.Idx → BitVec 32) : S2.Idx → BitVec 32 :=
  concatenate S2 0 [⟨S1, pickS (remS (addi p (constantI S_ 32 1#32)))⟩, ⟨S1, pickS (remS (subi p (constantI S_ 32 1#32)))⟩] concatenates_S1_S1_S2_d0

/-- An index by its one coordinate. -/
def at32 (s : Fin 32) : S32.Idx := fun k => ⟨s.val, by fin_cases k; exact s.isLt⟩
def at2 (s : Fin 2) : S2.Idx := fun k => ⟨s.val, by fin_cases k; exact s.isLt⟩

theorem placeT_const (c : Dev nD) : placeT c = fun _ => BitVec.ofNat 32 (posOf c).val := funext fun j => placeT_eq c j

theorem tabAT_eq (c : Dev nD) (s : Fin 32) : tabAT (placeT c) (at32 s) = BitVec.ofNat 32 (blk false c s.val).val := by
  rw [placeT_const]
  have h : ∀ (c : Dev nD) (s : Fin 32), tabAT (fun _ => BitVec.ofNat 32 (posOf c).val) (at32 s) = BitVec.ofNat 32 (blk false c s.val).val := by
    decide +kernel
  exact h c s
theorem tabBT_eq (c : Dev nD) (s : Fin 32) : tabBT (placeT c) (at32 s) = BitVec.ofNat 32 (blk true c s.val).val := by
  rw [placeT_const]
  have h : ∀ (c : Dev nD) (s : Fin 32), tabBT (fun _ => BitVec.ofNat 32 (posOf c).val) (at32 s) = BitVec.ofNat 32 (blk true c s.val).val := by
    decide +kernel
  exact h c s
theorem nbrT_eq (c : Dev nD) : nbrT (placeT c) (at2 0) = BitVec.ofNat 32 (nxt c).val
    ∧ nbrT (placeT c) (at2 1) = BitVec.ofNat 32 (prv c).val := by
  rw [placeT_const]
  have h : ∀ c : Dev nD, nbrT (fun _ => BitVec.ofNat 32 (posOf c).val) (at2 0) = BitVec.ofNat 32 (nxt c).val
      ∧ nbrT (fun _ => BitVec.ofNat 32 (posOf c).val) (at2 1) = BitVec.ofNat 32 (prv c).val := by
    decide +kernel
  exact h c

/-! The host lines' buffers, in the order in which they are written: each stretch from any valuation, then the run's. -/

section Stretches
variable (V : Valuation τ sig (Elt F))

theorem st0_c (c : Dev nD) : StableHlo.after (hostOps0 c) V (Proc.devRef .tc main_c) = ringT := by
  after_results
  rfl
theorem st0_v6 (c : Dev nD) : StableHlo.after (hostOps0 c) V (Proc.devRef .tc main_v6) = hereT c := by
  after_results
  rfl
theorem st1_v7 (a : S32.Idx → BitVec 1) (hv6 : V main_v6 = a) : StableHlo.after (hostOps0_1) V (Proc.devRef .tc main_v7) = fun j => (Host.reduce2 reducer_argmax_i1_i32 a (iotaInDim S32 32 0) (constantI S_ 1 0#1) (constantI S_ 32 0#32) reducesTo_S32_S_d0 h_S_ j).2 := by
  after_results
  simp only [hv6]
  rfl
theorem st2_v8 : StableHlo.after (hostOps0_2) V (Proc.devRef .tc main_v8) = iotaInDim S32 32 0 := by
  after_results
theorem st2_v11 (p : S_.Idx → BitVec 32) (hv7 : V main_v7 = p) : StableHlo.after (hostOps0_2) V (Proc.devRef .tc main_v11) = subi (broadcastInDim S32 ![] bcast_S_S32 (subi p (constantI S_ 32 1#32))) (iotaInDim S32 32 0) := by
  after_results
  simp only [hv7]
theorem st2_c_3 : StableHlo.after (hostOps0_2) V (Proc.devRef .tc main_c_3) = constantI S_ 32 32#32 := by
  after_results
theorem st3_v12 (a : S32.Idx → BitVec 32) (hv11 : V main_v11 = a) (hc_3 : V main_c_3 = constantI S_ 32 32#32) : StableHlo.after (hostOps0_3) V (Proc.devRef .tc main_v12) = remT a := by
  after_results
  simp only [hv11, hc_3]
  rfl
theorem st4_v19 (a : S32.Idx → BitVec 32) (hv12 : V main_v12 = a) (hc : V main_c = ringT) : StableHlo.after (hostOps0_4) V (Proc.devRef .tc main_v19) = pickT a := by
  after_results
  simp only [hv12, hc]
  rfl
theorem st4_v22 (p : S_.Idx → BitVec 32) (hv7 : V main_v7 = p) (hv8 : V main_v8 = iotaInDim S32 32 0) : StableHlo.after (hostOps0_4) V (Proc.devRef .tc main_v22) = addi (broadcastInDim S32 ![] bcast_S_S32 (addi p (constantI S_ 32 1#32))) (iotaInDim S32 32 0) := by
  after_results
  simp only [hv7, hv8]
theorem st4_c_7 : StableHlo.after (hostOps0_4) V (Proc.devRef .tc main_c_7) = constantI S_ 32 32#32 := by
  after_results
theorem st5_v23 (a : S32.Idx → BitVec 32) (hv22 : V main_v22 = a) (hc_7 : V main_c_7 = constantI S_ 32 32#32) : StableHlo.after (hostOps0_5) V (Proc.devRef .tc main_v23) = remT a := by
  after_results
  simp only [hv22, hc_7]
  rfl
theorem st6_v30 (a : S32.Idx → BitVec 32) (hv23 : V main_v23 = a) (hc : V main_c = ringT) : StableHlo.after (hostOps0_6) V (Proc.devRef .tc main_v30) = pickT a := by
  after_results
  simp only [hv23, hc]
  rfl
theorem st6_v31 (p : S_.Idx → BitVec 32) (hv7 : V main_v7 = p) : StableHlo.after (hostOps0_6) V (Proc.devRef .tc main_v31) = addi p (constantI S_ 32 1#32) := by
  after_results
  simp only [hv7]
theorem st6_c_11 : StableHlo.after (hostOps0_6) V (Proc.devRef .tc main_c_11) = constantI S_ 32 32#32 := by
  after_results
theorem st7_v32 (a : S_.Idx → BitVec 32) (hv31 : V main_v31 = a) (hc_11 : V main_c_11 = constantI S_ 32 32#32) : StableHlo.after (hostOps0_7) V (Proc.devRef .tc main_v32) = remS a := by
  after_results
  simp only [hv31, hc_11]
  rfl
theorem st8_v37 (a : S_.Idx → BitVec 32) (hv32 : V main_v32 = a) (hc : V main_c = ringT) : StableHlo.after (hostOps0_8) V (Proc.devRef .tc main_v37) = pickC a := by
  after_results_entrywise [hv32, hc]
theorem st8_v38 (p : S_.Idx → BitVec 32) (hv7 : V main_v7 = p) : StableHlo.after (hostOps0_8) V (Proc.devRef .tc main_v38) = subi p (constantI S_ 32 1#32) := by
  after_results
  simp only [hv7]
theorem st8_c_15 : StableHlo.after (hostOps0_8) V (Proc.devRef .tc main_c_15) = constantI S_ 32 32#32 := by
  after_results
theorem st9_v39 (a : S_.Idx → BitVec 32) (hv38 : V main_v38 = a) (hc_15 : V main_c_15 = constantI S_ 32 32#32) : StableHlo.after (hostOps0_9) V (Proc.devRef .tc main_v39) = remS a := by
  after_results
  simp only [hv38, hc_15]
  rfl
theorem st10_v44 (a : S_.Idx → BitVec 32) (hv39 : V main_v39 = a) (hc : V main_c = ringT) :
    StableHlo.after (hostOps0_10.take 7) V (Proc.devRef .tc main_v44) = pickC a := by
  simp only [List.take]
  after_results_entrywise [hv39, hc]
theorem st10_v37 : StableHlo.after (hostOps0_10.take 7) V (Proc.devRef .tc main_v37) = V main_v37 := by
  simp only [List.take]
  after_results
theorem st10_last (a b : S_.Idx → BitVec 32) (hv37 : V main_v37 = b) (hv44 : V main_v44 = a) :
    StableHlo.after (hostOps0_10.drop 7) V (Proc.devRef .tc main_v47)
      = concatenate S2 0 [⟨S1, broadcastInDim S1 ![] bcast_S_S1 b⟩, ⟨S1, broadcastInDim S1 ![] bcast_S_S1 a⟩] concatenates_S1_S1_S2_d0 := by
  subst hv37 hv44
  simp only [List.drop]
  after_results
theorem st10_v47 (a b : S_.Idx → BitVec 32) (hv39 : V main_v39 = a) (hv37 : V main_v37 = b) (hc : V main_c = ringT) :
    StableHlo.after (hostOps0_10) V (Proc.devRef .tc main_v47)
      = concatenate S2 0 [⟨S1, broadcastInDim S1 ![] bcast_S_S1 b⟩, ⟨S1, pickS a⟩] concatenates_S1_S1_S2_d0 :=
  (show StableHlo.after (hostOps0_10) V (Proc.devRef .tc main_v47)
      = StableHlo.after (hostOps0_10.drop 7) (StableHlo.after (hostOps0_10.take 7) V) (Proc.devRef .tc main_v47) from rfl).trans
    (st10_last _ _ _ ((st10_v37 V).trans hv37) (st10_v44 V a hv39 hc))

end Stretches

section Lines
variable (m : (ℓ : Loc nD τ sig) → Buf (Elt F) ℓ) (c : Dev nD)

theorem V1_c : V1 m c main_c = ringT := st0_c _ c
theorem V1_v6 : V1 m c main_v6 = hereT c := st0_v6 _ c
theorem V2_v7 : V2 m c main_v7 = placeT c := st1_v7 _ _ (V1_v6 m c)
theorem V3_v8 : V3 m c main_v8 = iotaInDim S32 32 0 := st2_v8 _
theorem V3_v11 : V3 m c main_v11 = subi (broadcastInDim S32 ![] bcast_S_S32 (subi (placeT c) (constantI S_ 32 1#32))) (iotaInDim S32 32 0) := st2_v11 _ _ (V2_v7 m c)
theorem V3_c_3 : V3 m c main_c_3 = constantI S_ 32 32#32 := st2_c_3 _
theorem V4_v12 : V4 m c main_v12 = remT (subi (broadcastInDim S32 ![] bcast_S_S32 (subi (placeT c) (constantI S_ 32 1#32))) (iotaInDim S32 32 0)) := st3_v12 _ _ (V3_v11 m c) (V3_c_3 m c)
theorem V4_c : V4 m c main_c = ringT := (V4_of m c main_c (by decide)).trans <| (V3_of m c main_c (by decide)).trans <| (V2_of m c main_c (by decide)).trans (V1_c m c)
theorem V4_v7 : V4 m c main_v7 = placeT c := (V4_of m c main_v7 (by decide)).trans <| (V3_of m c main_v7 (by decide)).trans (V2_v7 m c)
theorem V4_v8 : V4 m c main_v8 = iotaInDim S32 32 0 := (V4_of m c main_v8 (by decide)).trans (V3_v8 m c)
theorem V5_v19 : V5 m c main_v19 = tabAT (placeT c) := st4_v19 _ _ (V4_v12 m c) (V4_c m c)
theorem V5_v22 : V5 m c main_v22 = addi (broadcastInDim S32 ![] bcast_S_S32 (addi (placeT c) (constantI S_ 32 1#32))) (iotaInDim S32 32 0) := st4_v22 _ _ (V4_v7 m c) (V4_v8 m c)
theorem V5_c_7 : V5 m c main_c_7 = constantI S_ 32 32#32 := st4_c_7 _
theorem V6_v23 : V6 m c main_v23 = remT (addi (broadcastInDim S32 ![] bcast_S_S32 (addi (placeT c) (constantI S_ 32 1#32))) (iotaInDim S32 32 0)) := st5_v23 _ _ (V5_v22 m c) (V5_c_7 m c)
theorem V6_c : V6 m c main_c = ringT := (V6_of m c main_c (by decide)).trans <| (V5_of m c main_c (by decide)).trans <| (V4_of m c main_c (by decide)).trans <| (V3_of m c main_c (by decide)).trans <| (V2_of m c main_c (by decide)).trans (V1_c m c)
theorem V6_v7 : V6 m c main_v7 = placeT c := (V6_of m c main_v7 (by decide)).trans <| (V5_of m c main_v7 (by decide)).trans <| (V4_of m c main_v7 (by decide)).trans <| (V3_of m c main_v7 (by decide)).trans (V2_v7 m c)
theorem V7_v30 : V7 m c main_v30 = tabBT (placeT c) := st6_v30 _ _ (V6_v23 m c) (V6_c m c)
theorem V7_v31 : V7 m c main_v31 = addi (placeT c) (constantI S_ 32 1#32) := st6_v31 _ _ (V6_v7 m c)
theorem V7_c_11 : V7 m c main_c_11 = constantI S_ 32 32#32 := st6_c_11 _
theorem V8_v32 : V8 m c main_v32 = remS (addi (placeT c) (constantI S_ 32 1#32)) := st7_v32 _ _ (V7_v31 m c) (V7_c_11 m c)
theorem V8_c : V8 m c main_c = ringT := (V8_of m c main_c (by decide)).trans <| (V7_of m c main_c (by decide)).trans <| (V6_of m c main_c (by decide)).trans <| (V5_of m c main_c (by decide)).trans <| (V4_of m c main_c (by decide)).trans <| (V3_of m c main_c (by decide)).trans <| (V2_of m c main_c (by decide)).trans (V1_c m c)
theorem V8_v7 : V8 m c main_v7 = placeT c := (V8_of m c main_v7 (by decide)).trans <| (V7_of m c main_v7 (by decide)).trans <| (V6_of m c main_v7 (by decide)).trans <| (V5_of m c main_v7 (by decide)).trans <| (V4_of m c main_v7 (by decide)).trans <| (V3_of m c main_v7 (by decide)).trans (V2_v7 m c)
theorem V9_v37 : V9 m c main_v37 = pickC (remS (addi (placeT c) (constantI S_ 32 1#32))) := st8_v37 _ _ (V8_v32 m c) (V8_c m c)
theorem V9_v38 : V9 m c main_v38 = subi (placeT c) (constantI S_ 32 1#32) := st8_v38 _ _ (V8_v7 m c)
theorem V9_c_15 : V9 m c main_c_15 = constantI S_ 32 32#32 := st8_c_15 _
theorem V10_v39 : V10 m c main_v39 = remS (subi (placeT c) (constantI S_ 32 1#32)) := st9_v39 _ _ (V9_v38 m c) (V9_c_15 m c)
theorem V10_c : V10 m c main_c = ringT := (V10_of m c main_c (by decide)).trans <| (V9_of m c main_c (by decide)).trans <| (V8_of m c main_c (by decide)).trans <| (V7_of m c main_c (by decide)).trans <| (V6_of m c main_c (by decide)).trans <| (V5_of m c main_c (by decide)).trans <| (V4_of m c main_c (by decide)).trans <| (V3_of m c main_c (by decide)).trans <| (V2_of m c main_c (by decide)).trans (V1_c m c)
theorem V10_v37 : V10 m c main_v37 = pickC (remS (addi (placeT c) (constantI S_ 32 1#32))) := (V10_of m c main_v37 (by decide)).trans (V9_v37 m c)
theorem V11_v47 : V11 m c main_v47 = nbrT (placeT c) := st10_v47 _ _ _ (V10_v39 m c) (V10_v37 m c) (V10_c m c)
theorem V11_v19 : V11 m c main_v19 = tabAT (placeT c) := (V11_of m c main_v19 (by decide)).trans <| (V10_of m c main_v19 (by decide)).trans <| (V9_of m c main_v19 (by decide)).trans <| (V8_of m c main_v19 (by decide)).trans <| (V7_of m c main_v19 (by decide)).trans <| (V6_of m c main_v19 (by decide)).trans (V5_v19 m c)
theorem V11_v30 : V11 m c main_v30 = tabBT (placeT c) := (V11_of m c main_v30 (by decide)).trans <| (V10_of m c main_v30 (by decide)).trans <| (V9_of m c main_v30 (by decide)).trans <| (V8_of m c main_v30 (by decide)).trans (V7_v30 m c)

end Lines

/-- A table's word at a step is its entry there. -/
theorem tabWordA (t : (tabM false).view.ty.Contents (Elt F)) (s : Fin 32) : tabWord false t s = t (at32 s) := by
  refine congrArg t (funext fun k => Fin.ext ?_)
  match k with
  | 0 => exact Nat.add_zero _
theorem tabWordB (t : (tabM true).view.ty.Contents (Elt F)) (s : Fin 32) : tabWord true t s = t (at32 s) := by
  refine congrArg t (funext fun k => Fin.ext ?_)
  match k with
  | 0 => exact Nat.add_zero _
/-- The two neighbours' words are the entries of theirs. -/
theorem nbrWord0 (t : nbrM.view.ty.Contents (Elt F)) :
    (nbrM.access (Rect.unit (s := S2) ![0] S1.size inb_S2_S1_0)).read (Elt F) t (Shape.Idx.first (numel1_S1.symm ▸ Nat.one_pos)) = t (at2 0) := by
  refine congrArg t (funext fun k => Fin.ext ?_)
  match k with
  | 0 => exact Nat.add_zero _
theorem nbrWord1 (t : nbrM.view.ty.Contents (Elt F)) :
    (nbrM.access (Rect.unit (s := S2) ![1] S1.size inb_S2_S1_1)).read (Elt F) t (Shape.Idx.first (numel1_S1.symm ▸ Nat.one_pos)) = t (at2 1) := by
  refine congrArg t (funext fun k => Fin.ext ?_)
  match k with
  | 0 => exact Nat.add_zero _

/-- The tables that the host lines leave list the blocks in the order in which the sums gather them; -/
theorem tabOkA (c : Dev nD) (t : (tabM false).view.ty.Contents (Elt F)) (ht : t = tabAT (placeT c)) : TabOk false c t :=
  fun s => (tabWordA t s).trans ((congrFun ht _).trans (tabAT_eq c s))
theorem tabOkB (c : Dev nD) (t : (tabM true).view.ty.Contents (Elt F)) (ht : t = tabBT (placeT c)) : TabOk true c t :=
  fun s => (tabWordB t s).trans ((congrFun ht _).trans (tabBT_eq c s))
/-- and the neighbours are the ring's. -/
theorem nbrOk (c : Dev nD) (t : nbrM.view.ty.Contents (Elt F)) (ht : t = nbrT (placeT c)) : NbrOk c t :=
  ⟨(nbrWord0 t).trans ((congrFun ht _).trans (nbrT_eq c).1), (nbrWord1 t).trans ((congrFun ht _).trans (nbrT_eq c).2)⟩

end Cert.Proof
end
-- ==== Proof.Close.lean ====
/- Opening a device's own cells when the call is entered, and closing them at its end. -/
module

public import proofs.«01_k».proof.Proof.Tables

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

theorem two (Φ : Fin 2 → sProp 𝕄) : bigSep Finset.univ Φ = iprop(Φ 0 ∗ Φ 1) := BI.bigSep_fin_two Φ

/-- A device's own cells of one direction, in order. -/
def five (d : Dir) (Φ : CK → sProp 𝕄) : sProp 𝕄 := iprop(Φ (.cr d) ∗ Φ (.rs d 0) ∗ Φ (.rs d 1) ∗ Φ (.ss d 0) ∗ Φ (.ss d 1))

/-- Something done to every cell with the invariants at hand. -/
theorem five_fupd (d : Dir) {R : sProp 𝕄} [BI.Persistent R] {Φ Ψ : CK → sProp 𝕄} (h : ∀ k, iprop(R ∗ Φ k) ⊢ (|={Set.univ}=> Ψ k : sProp 𝕄)) :
    iprop(R ∗ five d Φ) ⊢ (|={Set.univ}=> five d Ψ : sProp 𝕄) := by
  unfold five
  iintro ⟨#HR, H1, H2, H3, H4, H5⟩
  imod (h _) $$ [H1] with K1
  · isplitr; · iexact HR
    iexact H1
  imod (h _) $$ [H2] with K2
  · isplitr; · iexact HR
    iexact H2
  imod (h _) $$ [H3] with K3
  · isplitr; · iexact HR
    iexact H3
  imod (h _) $$ [H4] with K4
  · isplitr; · iexact HR
    iexact H4
  imod (h _) $$ [H5] with K5
  · isplitr; · iexact HR
    iexact H5
  imodintro
  isplitl [K1]; · iexact K1
  isplitl [K2]; · iexact K2
  isplitl [K3]; · iexact K3
  isplitl [K4]; · iexact K4
  iexact K5

instance five_persistent (d : Dir) (Φ : CK → sProp 𝕄) [∀ k, BI.Persistent (Φ k)] : BI.Persistent (five d Φ) := by unfold five; infer_instance

section Cells
variable (I : Ins F) (κ : GSem nD τ sig → ℕ) (ιs : Key → ℕ) (c : Dev nD)

theorem open_cell (k : CK) : iprop(Inv I κ ιs ∗ openTok ER (cellK c k) ∗ semVal (cellK c k) 0)
    ⊢ (|={Set.univ}=> iprop(atPos ER (cellK c k) 0 ∅ 0 ∗ reached ER (cellK c k) 0) : sProp 𝕄) := by
  iintro ⟨#HI, Ho, Hv⟩
  iapply (Rounds.cell_open ER (ringRd I) (g := cellK c k) (Set.mem_univ (κ (cellK c k))))
  isplitr; · iapply (Inv_cell I κ ιs c k); iexact HI
  isplitl [Ho] <;> iassumption

theorem close_cell (k : CK) : iprop(Inv I κ ιs ∗ atPos ER (cellK c k) (lastK k) ∅ 0) ⊢ (|={Set.univ}=> semVal (cellK c k) 0 : sProp 𝕄) := by
  iintro ⟨#HI, Ha⟩
  iapply (Rounds.cell_close ER (ringRd I) (g := cellK c k) (Set.mem_univ (κ (cellK c k))) id (fun r hr => duties_later I c k r hr))
  isplitr; · iapply (Inv_cell I κ ιs c k); iexact HI
  iexact Ha

/-- What a direction is given by the launch: its credits, the tokens of what it pays, its landing slots' readers. -/
def DT (d : Dir) : sProp 𝕄 :=
  iprop((bigSep (Finset.Ico 0 31) fun s => recvCred c d s) ∗ (bigSep Finset.univ fun b : Fin 2 => readerAt ES (c, d, b) 0)
    ∗ (bigSep (Finset.Ico 0 31) fun s => sendKit c d s) ∗ (bigSep (Finset.Ico 1 30) fun n => dutyTok ER (cellK (srcD d c) (.cr d)) 0 n)
    ∗ (bigSep (Finset.Ico 1 30) fun n => cred (tallyAt (cellK c (.cr d)) (n + 2) 1))
    ∗ dutyTok ER (cellK (srcD d c) .bar) 0 (dn d) ∗ reached ER (cellK (srcD d c) .bar) 0)

/-- What a direction holds when its cells are open, besides its slots. -/
def DK (d : Dir) : sProp 𝕄 :=
  iprop(DT c d ∗ (five d fun k => atPos ER (cellK c k) 0 ∅ 0) ∗ (five d fun k => reached ER (cellK c k) 0) ∗ reached ER (cellK c (.cr (!d))) 0)

/-- The four slots of a direction. -/
def slots (d : Dir) : sProp 𝕄 := iprop((rbSlot (c, d, 0) ∗ rbSlot (c, d, 1)) ∗ (sbSlot (c, d, 0) ∗ sbSlot (c, d, 1)))

theorem DB_intro (d : Dir) : iprop(DK c d ∗ slots c d) ⊢ (DB c d : sProp 𝕄) := by
  unfold DK DT slots five DB RA SA TS crSt free
  rw [two (fun b : Fin 2 => atPos ER (cellK c (.rs d b)) (cnt b 0) ∅ 0), two (fun b : Fin 2 => atPos ER (cellK c (.ss d b)) (cnt b 0) ∅ 0),
    two (fun b : Fin 2 => iprop(readerAt ES (c, d, b) 0 ∗ rbSlot (c, d, b) ∗ reached ER (cellK c (.rs d b)) 0)),
    two (fun b : Fin 2 => readerAt ES (c, d, b) 0), Finset.Ico_self, bigSep_empty]
  iintro ⟨⟨⟨Hrc, ⟨Hr0, Hr1⟩, Hsk, Hgd, Htc, Hbt, Hbr⟩, ⟨Hc, Ha0, Ha1, Hb0, Hb1⟩, ⟨-, #Q0, #Q1, #S0, #S1⟩, Hn⟩, ⟨⟨R0, R1⟩, ⟨B0, B1⟩⟩⟩
  isplitl [Hrc Ha0 Ha1]
  · isplitr [Hrc]
    · isplitl [Ha0]; · iexact Ha0
      iexact Ha1
    iexact Hrc
  isplitl [Hr0 Hr1 R0 R1]
  · isplitl [Hr0 R0]
    · isplitl [Hr0]; · iexact Hr0
      isplitl [R0]; · iexact R0
      iexact Q0
    isplitl [Hr1]; · iexact Hr1
    isplitl [R1]; · iexact R1
    iexact Q1
  isplitl [Hb0 Hb1 Hsk]
  · isplitl [Hb0 Hb1]
    · isplitl [Hb0]; · iexact Hb0
      iexact Hb1
    isplitr; · iempintro
    iexact Hsk
  isplitl [B0]
  · isplitl [B0]; · iexact B0
    iexact S0
  isplitl [B1]
  · isplitl [B1]; · iexact B1
    iexact S1
  isplitl [Hgd]; · iexact Hgd
  isplitl [Hc Htc]
  · isplitl [Hc]
    · iexists (∅ : Finset ℕ)
      isplitr; · ipureintro; exact Finset.empty_subset _
      isplitl [Hc]; · iexact Hc
      rw [bigSep_empty]; iempintro
    iexact Htc
  isplitl [Hbt]; · iexact Hbt
  isplitl [Hbr]; · iexact Hbr
  iexact Hn

/-- What a direction ends with: its slots, and its cells at their last rounds. -/
theorem DE_elim (d : Dir) : DE c d ⊢ (iprop((five d fun k => atPos ER (cellK c k) (lastK k) ∅ 0) ∗ slots c d) : sProp 𝕄) := by
  unfold DE RA SA slots five
  rw [two (fun b : Fin 2 => atPos ER (cellK c (.rs d b)) (cnt b 31) ∅ 0), two (fun b : Fin 2 => atPos ER (cellK c (.ss d b)) (cnt b 31) ∅ 0)]
  iintro ⟨⟨⟨Ha0, Ha1⟩, -⟩, ⟨⟨Hb0, Hb1⟩, -⟩, R1, R0, Hc, B1, B0⟩
  isplitl [Ha0 Ha1 Hb0 Hb1 Hc]
  · isplitl [Hc]; · iexact Hc
    isplitl [Ha0]; · iexact Ha0
    isplitl [Ha1]; · iexact Ha1
    isplitl [Hb0]; · iexact Hb0
    iexact Hb1
  isplitl [R0 R1]
  · isplitl [R0]; · iexact R0
    iexact R1
  isplitl [B0]; · iexact B0
  iexact B1

/-- The end of the body: every cell closed, its counter at zero. -/
theorem close_all : iprop(Inv I κ ιs ∗ DE c false ∗ DE c true ∗ atPos ER (cellK c .bar) 1 ∅ 0)
    ⊢ (|={Set.univ}=> iprop((five false fun k => semVal (cellK c k) 0) ∗ (five true fun k => semVal (cellK c k) 0) ∗ semVal (cellK c .bar) 0
      ∗ slots c false ∗ slots c true) : sProp 𝕄) := by
  iintro ⟨#HI, HA, HB, Hb⟩
  ihave HA' := (DE_elim c false) $$ HA
  icases HA' with ⟨HA, SA⟩
  ihave HB' := (DE_elim c true) $$ HB
  icases HB' with ⟨HB, SB⟩
  imod (five_fupd false (R := Inv I κ ιs) fun k => close_cell I κ ιs c k) $$ [HA] with KA
  · isplitr; · iexact HI
    iexact HA
  imod (five_fupd true (R := Inv I κ ιs) fun k => close_cell I κ ιs c k) $$ [HB] with KB
  · isplitr; · iexact HI
    iexact HB
  imod (close_cell I κ ιs c .bar) $$ [Hb] with Kb
  · isplitr; · iexact HI
    iexact Hb
  imodintro
  isplitl [KA]; · iexact KA
  isplitl [KB]; · iexact KB
  isplitl [Kb]; · iexact Kb
  isplitl [SA] <;> iassumption

/-- The start: every own cell opened. -/
theorem open_all : iprop(Inv I κ ιs ∗ DT c false ∗ DT c true ∗ (five false fun k => iprop(openTok ER (cellK c k) ∗ semVal (cellK c k) 0))
      ∗ (five true fun k => iprop(openTok ER (cellK c k) ∗ semVal (cellK c k) 0)))
    ⊢ (|={Set.univ}=> iprop(DK c false ∗ DK c true) : sProp 𝕄) := by
  have hs (d : Dir) : (five d fun k => iprop(atPos ER (cellK c k) 0 ∅ 0 ∗ reached ER (cellK c k) 0))
      ⊢ (iprop((five d fun k => atPos ER (cellK c k) 0 ∅ 0) ∗ (five d fun k => reached ER (cellK c k) 0)) : sProp 𝕄) := by
    unfold five
    iintro ⟨⟨A1, B1⟩, ⟨A2, B2⟩, ⟨A3, B3⟩, ⟨A4, B4⟩, ⟨A5, B5⟩⟩
    isplitl [A1 A2 A3 A4 A5]
    · isplitl [A1]; · iexact A1
      isplitl [A2]; · iexact A2
      isplitl [A3]; · iexact A3
      isplitl [A4]; · iexact A4
      iexact A5
    isplitl [B1]; · iexact B1
    isplitl [B2]; · iexact B2
    isplitl [B3]; · iexact B3
    isplitl [B4]; · iexact B4
    iexact B5
  have hr (d : Dir) : (five d fun k => reached ER (cellK c k) 0) ⊢ (reached ER (cellK c (.cr d)) 0 : sProp 𝕄) := by
    unfold five; iintro ⟨H, -⟩; iexact H
  iintro ⟨#HI, TA, TB, OA, OB⟩
  imod (five_fupd false (R := Inv I κ ιs) fun k => open_cell I κ ιs c k) $$ [OA] with KA
  · isplitr; · iexact HI
    iexact OA
  imod (five_fupd true (R := Inv I κ ιs) fun k => open_cell I κ ιs c k) $$ [OB] with KB
  · isplitr; · iexact HI
    iexact OB
  ihave KA' := (hs false) $$ KA
  ihave KB' := (hs true) $$ KB
  icases KA' with ⟨PA, #RA⟩
  icases KB' with ⟨PB, #RB⟩
  imodintro
  unfold DK
  isplitl [TA PA]
  · isplitl [TA]; · iexact TA
    isplitl [PA]; · iexact PA
    isplitr; · iexact RA
    iapply (hr true); iexact RB
  isplitl [TB]; · iexact TB
  isplitl [PB]; · iexact PB
  isplitr; · iexact RB
  iapply (hr false); iexact RA

end Cells

end Cert.Proof
end
-- ==== Proof.Region.lean ====
/- The call as a region of @main: its arrays, its staging buffers, and what its body is proved to do between them. -/
module

public import proofs.«01_k».proof.Proof.Close
public import proofs.«01_k».proof.Proof.Gen.KernelIdeal.Points
public import Idealize.ShloMosaic.Lib.Pipeline.Value
public import Idealize.ShloMosaic.Lib.Pipeline.RegionTalk
public import Idealize.ShloMosaic.Lib.Pipeline.TalkSched
public import Idealize.ShloMosaic.Lib.Pipeline.TalkSites

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

/-! ### A window over a whole array holds the array -/

section Windows
variable {c : Dev nD} (dat : Pipeline.Dat τ (Elt F) ℕ ℕ UU ℕ cfg0 c)

theorem rect_id (w : Fin 8) (hs : ∀ a, (cfg0.win w).index t0_0 a = 0) (y : ((cfg0.win w).xblock (cfg0.grid.coords t0_0)).Idx) (a : Fin (cfg0.win w).shape.rank) :
    (((cfg0.win w).rect t0_0).emb y a : ℕ) = y a := Pipeline.Window.rect_emb_val_of_index_zero _ t0_0 a (hs a) y

theorem before_0 (d) : dat.before 0 t0_0 d = dat.A 0 := by
  rw [Pipeline.Dat.before_fetched dat 0 t0_0 (fetch0_0 _)]; unfold Pipeline.Dat.fetched Pipeline.Dat.blockOf; funext x
  show dat.A 0 _ = dat.A 0 _
  exact congrArg (dat.A 0) (funext fun a => Fin.ext (rect_id 0 (fun a => rfl) x a))
theorem before_1 (d) : dat.before 1 t0_0 d = dat.A 1 := by
  rw [Pipeline.Dat.before_fetched dat 1 t0_0 (fetch0_1 _)]; unfold Pipeline.Dat.fetched Pipeline.Dat.blockOf; funext x
  show dat.A 1 _ = dat.A 1 _
  exact congrArg (dat.A 1) (funext fun a => Fin.ext (rect_id 1 (fun a => rfl) x a))
theorem before_2 (d) : dat.before 2 t0_0 d = dat.A 2 := by
  rw [Pipeline.Dat.before_fetched dat 2 t0_0 (fetch0_2 _)]; unfold Pipeline.Dat.fetched Pipeline.Dat.blockOf; funext x
  show dat.A 2 _ = dat.A 2 _
  exact congrArg (dat.A 2) (funext fun a => Fin.ext (rect_id 2 (fun a => rfl) x a))
theorem before_3 (d) : dat.before 3 t0_0 d = dat.A 3 := by
  rw [Pipeline.Dat.before_fetched dat 3 t0_0 (fetch0_3 _)]; unfold Pipeline.Dat.fetched Pipeline.Dat.blockOf; funext x
  show dat.A 3 _ = dat.A 3 _
  exact congrArg (dat.A 3) (funext fun a => Fin.ext (rect_id 3 (fun a => rfl) x a))
theorem before_4 (d) : dat.before 4 t0_0 d = dat.A 4 := by
  rw [Pipeline.Dat.before_fetched dat 4 t0_0 (fetch0_4 _)]; unfold Pipeline.Dat.fetched Pipeline.Dat.blockOf; funext x
  show dat.A 4 _ = dat.A 4 _
  exact congrArg (dat.A 4) (funext fun a => Fin.ext (rect_id 4 (fun a => rfl) x a))
theorem before_5 (d) : dat.before 5 t0_0 d = dat.A 5 := by
  rw [Pipeline.Dat.before_fetched dat 5 t0_0 (fetch0_5 _)]; unfold Pipeline.Dat.fetched Pipeline.Dat.blockOf; funext x
  show dat.A 5 _ = dat.A 5 _
  exact congrArg (dat.A 5) (funext fun a => Fin.ext (rect_id 5 (fun a => rfl) x a))
theorem before_6 (d) : dat.before 6 t0_0 d = dat.A 6 := by
  rw [Pipeline.Dat.before_fetched dat 6 t0_0 (fetch0_6 _)]; unfold Pipeline.Dat.fetched Pipeline.Dat.blockOf; funext x
  show dat.A 6 _ = dat.A 6 _
  exact congrArg (dat.A 6) (funext fun a => Fin.ext (rect_id 6 (fun a => rfl) x a))

/-- The result's array after the call is what the body left in its staging buffer. -/
theorem arr_7 : dat.arrAt 7 cfg0.N = dat.after 7 t0_0 := by
  refine Pipeline.Dat.arrAt_eq_of_cover dat 7 (dat.after 7 t0_0) (fun t _ => ?_) (fun i => ⟨t0_0, flush0_7 _, ?_⟩)
  · obtain rfl := fin_N0 t
    funext x
    show dat.after 7 t0_0 _ = dat.after 7 t0_0 _
    exact congrArg (dat.after 7 t0_0) (funext fun a => Fin.ext (rect_id 7 (fun a => rfl) x a).symm)
  · have h : ((cfg0.win 7).blk t0_0).view.emb i = i := funext fun a => Fin.ext (rect_id 7 (fun a => rfl) i a)
    rw [← h]; exact View.emb_mem_set _ _
end Windows

/-! ### The two slots of a buffer -/

/-- Where an element of slot `b` lies. -/
def inSlot (i : S2x128x4096.Idx) : S1x128x4096.Idx
  | 0 => ⟨0, Nat.zero_lt_one⟩
  | 1 => ⟨(i 1).val, (i 1).isLt⟩
  | 2 => ⟨(i 2).val, (i 2).isLt⟩

theorem slotR_inSlot (i : S2x128x4096.Idx) : (slotR (i 0)).emb (inSlot i) = i := by
  funext a; apply Fin.ext
  match a with
  | 0 => show (i 0).val + 1 * 0 = (i 0).val; omega
  | 1 => show 0 + 1 * (i 1).val = (i 1).val; omega
  | 2 => show 0 + 1 * (i 2).val = (i 2).val; omega

theorem slot_or (i : S2x128x4096.Idx) : (∃ y, (slotR 0).emb y = i) ∨ (∃ y, (slotR 1).emb y = i) := by
  have h := slotR_inSlot i
  have hb : ∀ b : Fin 2, (slotR b).emb (inSlot i) = i → (∃ y, (slotR 0).emb y = i) ∨ (∃ y, (slotR 1).emb y = i)
    | 0, h => .inl ⟨_, h⟩
    | 1, h => .inr ⟨_, h⟩
  exact hb (i 0) h

theorem slotR_zero (b : Fin 2) (y : (slotR b).shape.Idx) : ((slotR b).emb y 0).val = b.val := by
  show b.val + 1 * (y 0).val = b.val
  have : (y 0).val < 1 := (y 0).isLt
  omega

theorem sb_cover (d : Dir) : (slotM (sbM d) 0).view.set ∪ (slotM (sbM d) 1).view.set = Finset.univ := by
  rw [slot_set, slot_set]
  cases d
  all_goals
    refine Finset.eq_univ_iff_forall.mpr fun i => Finset.mem_union.mpr ?_
    rcases slot_or i with ⟨y, h⟩ | ⟨y, h⟩
    · exact .inl (Finset.mem_map.mpr ⟨y, Finset.mem_univ _, h⟩)
    · exact .inr (Finset.mem_map.mpr ⟨y, Finset.mem_univ _, h⟩)
theorem rb_cover (d : Dir) : (slotM (rbM d) 0).view.set ∪ (slotM (rbM d) 1).view.set = Finset.univ := by
  rw [slot_set, slot_set]
  cases d
  all_goals
    refine Finset.eq_univ_iff_forall.mpr fun i => Finset.mem_union.mpr ?_
    rcases slot_or i with ⟨y, h⟩ | ⟨y, h⟩
    · exact .inl (Finset.mem_map.mpr ⟨y, Finset.mem_univ _, h⟩)
    · exact .inr (Finset.mem_map.mpr ⟨y, Finset.mem_univ _, h⟩)

theorem slotR_ne (y : (slotR 0).shape.Idx) (z : (slotR 1).shape.Idx) : (slotR 0).emb y ≠ (slotR 1).emb z := fun h => by
  have h0 := slotR_zero 0 y
  rw [h, slotR_zero 1 z] at h0
  exact absurd h0 (by decide)
theorem sb_disj (d : Dir) : Disjoint (slotM (sbM d) 0).view.set (slotM (sbM d) 1).view.set := by
  rw [slot_set, slot_set]
  cases d
  all_goals
    refine Finset.disjoint_left.mpr fun i hi hj => ?_
    obtain ⟨y, -, hy⟩ := Finset.mem_map.mp hi
    obtain ⟨z, -, hz⟩ := Finset.mem_map.mp hj
    exact slotR_ne y z (hy.trans hz.symm)
theorem rb_disj (d : Dir) : Disjoint (slotM (rbM d) 0).view.set (slotM (rbM d) 1).view.set := by
  rw [slot_set, slot_set]
  cases d
  all_goals
    refine Finset.disjoint_left.mpr fun i hi hj => ?_
    obtain ⟨y, -, hy⟩ := Finset.mem_map.mp hi
    obtain ⟨z, -, hz⟩ := Finset.mem_map.mp hj
    exact slotR_ne y z (hy.trans hz.symm)

/-- A whole buffer is two disjoint parts of it, at some contents. -/
theorem parts_eq {ℓ : Loc nD τ sig} {S T : Finset (Idx ℓ)} (hc : S ∪ T = Finset.univ) (hd : Disjoint S T) :
    (iprop(∃ f, ℓ ↦{fullShare} f) : sProp 𝕄) ⊣⊢ iprop(slot ℓ S ∗ slot ℓ T) := by
  constructor
  · iintro ⟨%f, H⟩
    have h := (pointsTo_union (Ix := ℕ) (Name := ℕ) (U := UU) (Lvl := ℕ) (q := fullShare) (f := f) hd).1
    rw [hc] at h
    ihave H' := h $$ [H]
    · iexact H
    icases H' with ⟨H1, H2⟩
    isplitl [H1]
    · unfold slot; iexists f; iexact H1
    unfold slot; iexists f; iexact H2
  · unfold slot
    iintro ⟨⟨%f, H1⟩, ⟨%g, H2⟩⟩
    have h := pointsTo_join (q := fullShare) (f := f) (g := g) (Ix := ℕ) (Name := ℕ) (U := UU) (Lvl := ℕ) hd
    rw [hc] at h
    iexists (T.piecewise g f)
    iapply h
    isplitl [H1] <;> iassumption

/-! ### The result -/

/-- The result's two halves of columns side by side. -/
def halves (a b : FVec F S128x4096 .f32) : Vec F S128x8192 .f32 := fun x =>
  if h : (x 1).val < 4096 then a fun | 0 => ⟨(x 0).val, (x 0).isLt⟩ | 1 => ⟨(x 1).val, h⟩
  else b fun | 0 => ⟨(x 0).val, (x 0).isLt⟩ | 1 => ⟨(x 1).val - 4096, by have : (x 1).val < 8192 := (x 1).isLt; show (x 1).val - 4096 < 4096; omega⟩

theorem outW_eq (f : Vec F S128x8192 .f32) (a b : FVec F S128x4096 .f32) : outW f a b = halves a b := by
  unfold outW halves
  funext x
  split
  · next h =>
    rw [View.write_of_not_mem]
    · have e : (oM.access outR0).emb (fun | 0 => ⟨(x 0).val, (x 0).isLt⟩ | 1 => ⟨(x 1).val, h⟩) = x := by
        funext a; apply Fin.ext
        match a with
        | 0 => show 0 + 1 * (x 0).val = (x 0).val; omega
        | 1 => show 0 + 1 * (x 1).val = (x 1).val; omega
      conv_lhs => rw [← e]
      rw [View.write_emb_of_mem _ _ (Finset.mem_univ _)]; rfl
    · intro hm
      obtain ⟨y, -, hy⟩ := Finset.mem_map.mp hm
      have : (x 1).val = 4096 + 1 * (y 1).val := by rw [← hy]; rfl
      omega
  · next h =>
    have hx : (x 1).val < 8192 := (x 1).isLt
    have e : (oM.access outR1).emb (fun | 0 => ⟨(x 0).val, (x 0).isLt⟩ | 1 => ⟨(x 1).val - 4096, by show (x 1).val - 4096 < 4096; omega⟩) = x := by
      funext a; apply Fin.ext
      match a with
      | 0 => show 0 + 1 * (x 0).val = (x 0).val; omega
      | 1 => show 4096 + 1 * ((x 1).val - 4096) = (x 1).val; omega
    conv_lhs => rw [← e]
    rw [View.write_emb_of_mem _ _ (Finset.mem_univ _)]; rfl

/-! ### The region's data -/

section Region
variable (m : (ℓ : Loc nD τ sig) → Buf (Elt F) ℓ)

/-- The blocks the devices hold at the launch. -/
def ins : Ins F := ⟨fun c => m ((c : Thread nD τ).loc main_arg0), fun c => m ((c : Thread nD τ).loc main_arg1)⟩

variable (c : Dev nD)

theorem V11_arg0 : V11 m c main_arg0 = (ins m).x c := (V12_of m (fun _ r c => V11 m c r) c main_arg0 (by decide)).symm.trans (V12_main_arg0 m _ c)
theorem V11_arg1 : V11 m c main_arg1 = (ins m).w c := (V12_of m (fun _ r c => V11 m c r) c main_arg1 (by decide)).symm.trans (V12_main_arg1 m _ c)
theorem V11_arg2 : V11 m c main_arg2 = m ((c : Thread nD τ).loc main_arg2) := (V12_of m (fun _ r c => V11 m c r) c main_arg2 (by decide)).symm.trans (V12_main_arg2 m _ c)
theorem V11_arg3 : V11 m c main_arg3 = m ((c : Thread nD τ).loc main_arg3) := (V12_of m (fun _ r c => V11 m c r) c main_arg3 (by decide)).symm.trans (V12_main_arg3 m _ c)

/-- The buffers' contents when the call is entered. -/
def Wv : Valuation τ sig (Elt F) := V11 m c
theorem Wv_arg0 : Wv m c main_arg0 = (ins m).x c := V11_arg0 m c
theorem Wv_arg1 : Wv m c main_arg1 = (ins m).w c := V11_arg1 m c
theorem Wv_arg2 : Wv m c main_arg2 = m ((c : Thread nD τ).loc main_arg2) := V11_arg2 m c
theorem Wv_arg3 : Wv m c main_arg3 = m ((c : Thread nD τ).loc main_arg3) := V11_arg3 m c
theorem Wv_v19 : Wv m c main_v19 = tabAT (placeT c) := V11_v19 m c
theorem Wv_v30 : Wv m c main_v30 = tabBT (placeT c) := V11_v30 m c
theorem Wv_v47 : Wv m c main_v47 = nbrT (placeT c) := V11_v47 m c

/-- The result on device `c`. -/
def resV : Vec F S128x8192 .f32 :=
  halves (scaled (acc (ins m) false 31 c) (word1 (Wv m c main_arg2)) (word1 (Wv m c main_arg3)))
    (scaled (acc (ins m) true 31 c) (word1 (Wv m c main_arg2)) (word1 (Wv m c main_arg3)))

/-- What a device owes at the launch. -/
def O₀ : CellTallies nD τ sig ℕ := OW c 1 1 0 0 + barTally false c + barTally true c

/-- What the call opens with, besides its scoped buffers. -/
def Xk : sProp 𝕄 := iprop((∃ κ ιs, Inv (ins m) κ ιs) ∗ DK c false ∗ DK c true ∗ atPos ER (cellK c .bar) 0 ∅ 0 ∗ cred (tallyAt (cellK c .bar) 1 2))

/-- A device's own counters at zero. -/
def zeros : sProp 𝕄 := iprop((five false fun k => semVal (cellK c k) 0) ∗ (five true fun k => semVal (cellK c k) 0))

def Φ₀ : sProp 𝕄 := iprop(Xk m c ∗ (slots c false ∗ slots c true) ∗ ∃ r, prngReg c r)
def Φ₁ : sProp 𝕄 := iprop((zeros c ∗ semVal (cellK c .bar) 0) ∗ (slots c false ∗ slots c true) ∗ ∃ r, prngReg c r)

/-- The proof data of the call: the arrays as the host code leaves them; the result's staging buffer at the end. -/
def dats (_ : Fin 1) (c : Dev nD) : Pipeline.Dat τ (Elt F) ℕ ℕ UU ℕ cfg0 c where
  A w := Wv m c (Proc.devRef .tc (Pipeline.arrRef spec0 w))
  after w _ := match w with
    | 0 => Wv m c main_v19
    | 1 => Wv m c main_v30
    | 2 => Wv m c main_v47
    | 3 => (ins m).x c
    | 4 => (ins m).w c
    | 5 => Wv m c main_arg2
    | 6 => Wv m c main_arg3
    | 7 => resV m c
    | ⟨_ + 8, h⟩ => absurd h (Nat.not_lt.2 (Nat.le_add_left _ _))
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_pts (b : Ref sig .tc) (X : b.ty.Contents (Elt F)) :
    (owns (Ix := ℕ) (Name := ℕ) (U := UU) (Lvl := ℕ) (c : Thread nD τ) (Memref.whole b) fullShare X : sProp 𝕄) ⊣⊢ ((c : Thread nD τ).loc b ↦{fullShare} X) := by
  unfold owns
  simp only [Memref.view_whole, View.read_whole, View.set_whole]
  constructor
  · iintro ⟨%f, %h, H⟩
    rw [← h]; iexact H
  · iintro H
    iexists X
    isplitr; · ipureintro; rfl
    iexact H

theorem A_0 : (dats m 0 c).A 0 = Wv m c main_v19 := by dsimp only [dats]
theorem after_0 : (dats m 0 c).after 0 t0_0 = Wv m c main_v19 := by dsimp only [dats]
theorem A_1 : (dats m 0 c).A 1 = Wv m c main_v30 := by dsimp only [dats]
theorem after_1 : (dats m 0 c).after 1 t0_0 = Wv m c main_v30 := by dsimp only [dats]
theorem A_2 : (dats m 0 c).A 2 = Wv m c main_v47 := by dsimp only [dats]
theorem after_2 : (dats m 0 c).after 2 t0_0 = Wv m c main_v47 := by dsimp only [dats]
theorem A_3 : (dats m 0 c).A 3 = Wv m c main_arg0 := by dsimp only [dats]
theorem after_3 : (dats m 0 c).after 3 t0_0 = (ins m).x c := by dsimp only [dats]
theorem A_4 : (dats m 0 c).A 4 = Wv m c main_arg1 := by dsimp only [dats]
theorem after_4 : (dats m 0 c).after 4 t0_0 = (ins m).w c := by dsimp only [dats]
theorem A_5 : (dats m 0 c).A 5 = Wv m c main_arg2 := by dsimp only [dats]
theorem after_5 : (dats m 0 c).after 5 t0_0 = Wv m c main_arg2 := by dsimp only [dats]
theorem A_6 : (dats m 0 c).A 6 = Wv m c main_arg3 := by dsimp only [dats]
theorem after_6 : (dats m 0 c).after 6 t0_0 = Wv m c main_arg3 := by dsimp only [dats]
theorem A_7 : (dats m 0 c).A 7 = Wv m c main_v48 := by dsimp only [dats]
theorem after_7 : (dats m 0 c).after 7 t0_0 = resV m c := by dsimp only [dats]

theorem wpc_ret {α : Type} (x : α) (Q : α → sProp 𝕄) : (|={Set.univ}=> Q x : sProp 𝕄) ⊢ wpc c (Prog.ret x) Q := by unfold wpc; rw [wp_ret]

abbrev stg (w : Fin 8) (X : ((cfg0.win w).block.Idx → Elt F (cfg0.win w).elt)) : sProp 𝕄 := owns (c : Thread nD τ) ((cfg0.win w).stage (cfg0.slots t0_0 w)) fullShare X
theorem in_0 (dat : Pipeline.Dat τ (Elt F) ℕ ℕ UU ℕ cfg0 c) {X} (h : dat.A 0 = X) (d) : stg c 0 (dat.before 0 t0_0 d) ⊢ (((c : Thread nD τ).loc cc0_stg0_0 ↦{fullShare} X) : sProp 𝕄) := by
  rw [before_0, h]; exact (owns_pts c cc0_stg0_0 X).1
theorem out_0 (dat : Pipeline.Dat τ (Elt F) ℕ ℕ UU ℕ cfg0 c) {X} (h : dat.after 0 t0_0 = X) : (((c : Thread nD τ).loc cc0_stg0_0 ↦{fullShare} X) : sProp 𝕄) ⊢ stg c 0 (dat.after 0 t0_0) := by
  rw [h]; exact (owns_pts c cc0_stg0_0 X).2
theorem in_1 (dat : Pipeline.Dat τ (Elt F) ℕ ℕ UU ℕ cfg0 c) {X} (h : dat.A 1 = X) (d) : stg c 1 (dat.before 1 t0_0 d) ⊢ (((c : Thread nD τ).loc cc0_stg1_0 ↦{fullShare} X) : sProp 𝕄) := by
  rw [before_1, h]; exact (owns_pts c cc0_stg1_0 X).1
theorem out_1 (dat : Pipeline.Dat τ (Elt F) ℕ ℕ UU ℕ cfg0 c) {X} (h : dat.after 1 t0_0 = X) : (((c : Thread nD τ).loc cc0_stg1_0 ↦{fullShare} X) : sProp 𝕄) ⊢ stg c 1 (dat.after 1 t0_0) := by
  rw [h]; exact (owns_pts c cc0_stg1_0 X).2
theorem in_2 (dat : Pipeline.Dat τ (Elt F) ℕ ℕ UU ℕ cfg0 c) {X} (h : dat.A 2 = X) (d) : stg c 2 (dat.before 2 t0_0 d) ⊢ (((c : Thread nD τ).loc cc0_stg2_0 ↦{fullShare} X) : sProp 𝕄) := by
  rw [before_2, h]; exact (owns_pts c cc0_stg2_0 X).1
theorem out_2 (dat : Pipeline.Dat τ (Elt F) ℕ ℕ UU ℕ cfg0 c) {X} (h : dat.after 2 t0_0 = X) : (((c : Thread nD τ).loc cc0_stg2_0 ↦{fullShare} X) : sProp 𝕄) ⊢ stg c 2 (dat.after 2 t0_0) := by
  rw [h]; exact (owns_pts c cc0_stg2_0 X).2
theorem in_3 (dat : Pipeline.Dat τ (Elt F) ℕ ℕ UU ℕ cfg0 c) {X} (h : dat.A 3 = X) (d) : stg c 3 (dat.before 3 t0_0 d) ⊢ (((c : Thread nD τ).loc cc0_stg3_0 ↦{fullShare} X) : sProp 𝕄) := by
  rw [before_3, h]; exact (owns_pts c cc0_stg3_0 X).1
theorem out_3 (dat : Pipeline.Dat τ (Elt F) ℕ ℕ UU ℕ cfg0 c) {X} (h : dat.after 3 t0_0 = X) : (((c : Thread nD τ).loc cc0_stg3_0 ↦{fullShare} X) : sProp 𝕄) ⊢ stg c 3 (dat.after 3 t0_0) := by
  rw [h]; exact (owns_pts c cc0_stg3_0 X).2
theorem in_4 (dat : Pipeline.Dat τ (Elt F) ℕ ℕ UU ℕ cfg0 c) {X} (h : dat.A 4 = X) (d) : stg c 4 (dat.before 4 t0_0 d) ⊢ (((c : Thread nD τ).loc cc0_stg4_0 ↦{fullShare} X) : sProp 𝕄) := by
  rw [before_4, h]; exact (owns_pts c cc0_stg4_0 X).1
theorem out_4 (dat : Pipeline.Dat τ (Elt F) ℕ ℕ UU ℕ cfg0 c) {X} (h : dat.after 4 t0_0 = X) : (((c : Thread nD τ).loc cc0_stg4_0 ↦{fullShare} X) : sProp 𝕄) ⊢ stg c 4 (dat.after 4 t0_0) := by
  rw [h]; exact (owns_pts c cc0_stg4_0 X).2
theorem in_5 (dat : Pipeline.Dat τ (Elt F) ℕ ℕ UU ℕ cfg0 c) {X} (h : dat.A 5 = X) (d) : stg c 5 (dat.before 5 t0_0 d) ⊢ (((c : Thread nD τ).loc cc0_stg5_0 ↦{fullShare} X) : sProp 𝕄) := by
  rw [before_5, h]; exact (owns_pts c cc0_stg5_0 X).1
theorem out_5 (dat : Pipeline.Dat τ (Elt F) ℕ ℕ UU ℕ cfg0 c) {X} (h : dat.after 5 t0_0 = X) : (((c : Thread nD τ).loc cc0_stg5_0 ↦{fullShare} X) : sProp 𝕄) ⊢ stg c 5 (dat.after 5 t0_0) := by
  rw [h]; exact (owns_pts c cc0_stg5_0 X).2
theorem in_6 (dat : Pipeline.Dat τ (Elt F) ℕ ℕ UU ℕ cfg0 c) {X} (h : dat.A 6 = X) (d) : stg c 6 (dat.before 6 t0_0 d) ⊢ (((c : Thread nD τ).loc cc0_stg6_0 ↦{fullShare} X) : sProp 𝕄) := by
  rw [before_6, h]; exact (owns_pts c cc0_stg6_0 X).1
theorem out_6 (dat : Pipeline.Dat τ (Elt F) ℕ ℕ UU ℕ cfg0 c) {X} (h : dat.after 6 t0_0 = X) : (((c : Thread nD τ).loc cc0_stg6_0 ↦{fullShare} X) : sProp 𝕄) ⊢ stg c 6 (dat.after 6 t0_0) := by
  rw [h]; exact (owns_pts c cc0_stg6_0 X).2
theorem out_7 (dat : Pipeline.Dat τ (Elt F) ℕ ℕ UU ℕ cfg0 c) {X} (h : dat.after 7 t0_0 = X) : (((c : Thread nD τ).loc cc0_stg7_0 ↦{fullShare} X) : sProp 𝕄) ⊢ stg c 7 (dat.after 7 t0_0) := by
  rw [h]; exact (owns_pts c cc0_stg7_0 X).2

theorem defs₀_row : (defs₀ (F := F)) .tc cfg0.body (cfg0.bodyArgs t0_0 (cfg0.slots t0_0)) = ringBody (F := F) := by
  rw [← body_eq]
  unfold defs₀; rw [Defs.onTc_tc]

theorem body_ok : Pipeline.BodyObligation (dats m 0 c) (defs₀ (F := F)) 𝒱₀ 0 Set.univ := fun t => by
  obtain rfl := fin_N0 t
  rw [bigSep_W0, bigSep_W0]
  rw [show (dats m 0 c).Φ t0_0.castSucc = Φ₀ m c from rfl, show (dats m 0 c).Φ t0_0.succ = Φ₁ c from rfl]
  rw [defs₀_row, ← Prog.bind_pure (ringBody (F := F))]
  unfold Φ₀ Φ₁ Xk zeros
  iintro ⟨⟨⟨⟨%κ, %ιs, #HI⟩, HA, HB, Hat, Hc⟩, ⟨HsA, HsB⟩, Hp⟩, HO, ⟨%d0, H0⟩, ⟨%d1, H1⟩, ⟨%d2, H2⟩, ⟨%d3, H3⟩, ⟨%d4, H4⟩, ⟨%d5, H5⟩, ⟨%d6, H6⟩, ⟨%d7, H7⟩⟩
  ihave HO' := (TalkSites.owesAt_elim (dats m 0 c) _ t0_0.castSucc (O₀ c) rfl) $$ HO
  ihave K0 := (in_0 c (dats m 0 c) (A_0 m c) d0) $$ [H0]
  · iexact H0
  ihave K1 := (in_1 c (dats m 0 c) (A_1 m c) d1) $$ [H1]
  · iexact H1
  ihave K2 := (in_2 c (dats m 0 c) (A_2 m c) d2) $$ [H2]
  · iexact H2
  ihave K3 := (in_3 c (dats m 0 c) ((A_3 m c).trans (Wv_arg0 m c)) d3) $$ [H3]
  · iexact H3
  ihave K4 := (in_4 c (dats m 0 c) ((A_4 m c).trans (Wv_arg1 m c)) d4) $$ [H4]
  · iexact H4
  ihave K5 := (in_5 c (dats m 0 c) (A_5 m c) d5) $$ [H5]
  · iexact H5
  ihave K6 := (in_6 c (dats m 0 c) (A_6 m c) d6) $$ [H6]
  · iexact H6
  ihave K7 := (owns_pts c cc0_stg7_0 _).1 $$ [H7]
  · iexact H7
  ihave DA := (DB_intro c false) $$ [HA HsA]
  · isplitl [HA] <;> iassumption
  ihave DB := (DB_intro c true) $$ [HB HsB]
  · isplitl [HB] <;> iassumption
  iapply (wp_ringBody (ins m) κ ιs c (Wv m c main_v19) (Wv m c main_v30) (tabOkA c _ (Wv_v19 m c)) (tabOkB c _ (Wv_v30 m c)) (Wv m c main_v47) (nbrOk c _ (Wv_v47 m c))
    (Wv m c main_arg2) (Wv m c main_arg3)) $$ [K0 K1 K2 K3 K4 K5 K6 K7 DA DB Hat Hc HO']
  · isplitr; · iexact HI
    unfold bodyPre Mem
    isplitl [K0 K1 K3]
    · isplitl [K0]; · iexact K0
      isplitl [K1]; · iexact K1
      iexact K3
    isplitl [K2]; · iexact K2
    isplitl [K4]; · iexact K4
    isplitl [K5]; · iexact K5
    isplitl [K6]; · iexact K6
    isplitl [K7]; · iexists _; iexact K7
    isplitl [DA]; · iexact DA
    isplitl [DB]; · iexact DB
    isplitl [Hat]; · iexact Hat
    isplitl [Hc]; · iexact Hc
    iexact HO'
  unfold bodyPost Mem
  iintro ⟨⟨K0, K1, K3⟩, K2, K4, K5, K6, ⟨%f, K7⟩, DA, DB, Hat, HO⟩
  rw [Prog.pure_eq_ret]
  iapply (wpc_ret c)
  imod (close_all (ins m) κ ιs c) $$ [DA DB Hat] with ⟨ZA, ZB, Zb, SA, SB⟩
  · isplitr; · iexact HI
    isplitl [DA]; · iexact DA
    isplitl [DB] <;> iassumption
  imodintro
  isplitl [ZA ZB Zb SA SB Hp]
  · isplitl [ZA ZB Zb]
    · isplitl [ZA ZB]
      · isplitl [ZA] <;> iassumption
      iexact Zb
    isplitl [SA SB]
    · isplitl [SA] <;> iassumption
    iexact Hp
  isplitl [HO]
  · icases HO with ⟨%W, HO⟩
    iapply (TalkSites.owesAt_intro (dats m 0 c) _ t0_0.succ 0 rfl rfl W); iexact HO
  rw [outW_eq]
  isplitl [K0]; · iapply (out_0 c (dats m 0 c) (after_0 m c)); iexact K0
  isplitl [K1]; · iapply (out_1 c (dats m 0 c) (after_1 m c)); iexact K1
  isplitl [K2]; · iapply (out_2 c (dats m 0 c) (after_2 m c)); iexact K2
  isplitl [K3]; · iapply (out_3 c (dats m 0 c) (after_3 m c)); iexact K3
  isplitl [K4]; · iapply (out_4 c (dats m 0 c) (after_4 m c)); iexact K4
  isplitl [K5]; · iapply (out_5 c (dats m 0 c) (after_5 m c)); iexact K5
  isplitl [K6]; · iapply (out_6 c (dats m 0 c) (after_6 m c)); iexact K6
  iapply (out_7 c (dats m 0 c) (after_7 m c))
  unfold resV
  iexact K7

end Region

end Cert.Proof
end
-- ==== Proof.Talk.lean ====
/- The region's record: the call entered with what the launch deals a device, and left with the result in its array. -/
module

public import proofs.«01_k».proof.Proof.Region

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

/-- The kind of a device's own cell, by direction and place. -/
def kind5 (d : Dir) : Fin 5 → CK
  | 0 => .cr d
  | 1 => .rs d 0
  | 2 => .rs d 1
  | 3 => .ss d 0
  | 4 => .ss d 1

/-- The semaphores of the call's own scope. -/
def osem (x : Dir × Fin 5) : SemLoc sig := semOf (kind5 x.1 x.2)

theorem bigSep_own (Φ : CK → sProp 𝕄) : (bigSep Finset.univ fun x : Dir × Fin 5 => Φ (kind5 x.1 x.2)) = iprop(five false Φ ∗ five true Φ) := by
  rw [bigSep_univ_prod, bigSep_univ_eq_bigSepL [false, true] (by decide) (by decide)]
  have h (d : Dir) : (bigSep Finset.univ fun k : Fin 5 => Φ (kind5 d k)) = five d Φ := by
    rw [bigSep_univ_eq_bigSepL [0, 1, 2, 3, 4] (by decide) (by decide)]; rfl
  show iprop((bigSep Finset.univ fun k : Fin 5 => Φ (kind5 false k)) ∗ (bigSep Finset.univ fun k : Fin 5 => Φ (kind5 true k))) = _
  rw [h, h]

section
variable (m : (ℓ : Loc nD τ sig) → Buf (Elt F) ℓ) (c : Dev nD)

theorem ownSems_eq : (Pipeline.ownSems0 osem c : sProp 𝕄) = zeros c := bigSep_own fun k => semVal (cellK c k) 0

/-- What the launch leaves with a device for the call. -/
def Tk : sProp 𝕄 :=
  iprop((∃ (κ : GSem nD τ sig → ℕ) (ιs : Key → ℕ), fam.cellInvs ER (ringRd (ins m)) κ ∗ (bigSep Finset.univ fun x : Key => slotInv ES (ιs x) x (rbSlot x)))
    ∗ DT c false ∗ DT c true ∗ ((five false fun k => openTok ER (cellK c k)) ∗ (five true fun k => openTok ER (cellK c k)))
    ∗ atPos ER (cellK c .bar) 0 ∅ 0 ∗ cred (tallyAt (cellK c .bar) 1 2))

/-- What a device keeps of it after the call. -/
def Yk : sProp 𝕄 := semVal (cellK c .bar) 0

theorem five_sep (d : Dir) (Φ Ψ : CK → sProp 𝕄) : iprop(five d Φ ∗ five d Ψ) ⊢ (five d fun k => iprop(Φ k ∗ Ψ k) : sProp 𝕄) := by
  unfold five
  iintro ⟨⟨A1, A2, A3, A4, A5⟩, ⟨B1, B2, B3, B4, B5⟩⟩
  isplitl [A1 B1]; · isplitl [A1] <;> iassumption
  isplitl [A2 B2]; · isplitl [A2] <;> iassumption
  isplitl [A3 B3]; · isplitl [A3] <;> iassumption
  isplitl [A4 B4]; · isplitl [A4] <;> iassumption
  isplitl [A5] <;> iassumption

theorem hopen : iprop(Tk m c ∗ Pipeline.ownSems0 osem c ∗ levAts (L NL) lv) ⊢ (|={Set.univ}=> Xk m c : sProp 𝕄) := by
  rw [ownSems_eq]
  unfold Tk Xk zeros
  iintro ⟨⟨⟨%κ, %ιs, #HC, #HS⟩, HA, HB, ⟨O1, O2⟩, Hat, Hc⟩, ⟨Z1, Z2⟩, #HL⟩
  ihave #HI := (show iprop(fam.cellInvs ER (ringRd (ins m)) κ ∗ (bigSep Finset.univ fun x : Key => slotInv ES (ιs x) x (rbSlot x)) ∗ levAts (L NL) lv)
    ⊢ (Inv (ins m) κ ιs : sProp 𝕄) from .rfl) $$ []
  · isplitr; · iexact HC
    isplitr; · iexact HS
    iexact HL
  imod (open_all (ins m) κ ιs c) $$ [HA HB O1 O2 Z1 Z2] with ⟨KA, KB⟩
  · isplitr; · iexact HI
    isplitl [HA]; · iexact HA
    isplitl [HB]; · iexact HB
    isplitl [O1 Z1]
    · iapply (five_sep false (fun k => openTok ER (cellK c k)) (fun k => semVal (cellK c k) 0))
      isplitl [O1]; · iexact O1
      iexact Z1
    iapply (five_sep true (fun k => openTok ER (cellK c k)) (fun k => semVal (cellK c k) 0))
    isplitl [O2]; · iexact O2
    iexact Z2
  imodintro
  isplitr; · iexists κ; iexists ιs; iexact HI
  isplitl [KA]; · iexact KA
  isplitl [KB]; · iexact KB
  isplitl [Hat]; · iexact Hat
  iexact Hc

theorem rest_slots : (Pipeline.scopedRest spec0 c : sProp 𝕄) ⊣⊢ iprop(slots c false ∗ slots c true) := by
  rw [scopedRest0_eq]
  unfold slots
  have s0 := parts_eq (F := F) (ℓ := (c : Thread nD τ).loc cc0_scratch0) (sb_cover false) (sb_disj false)
  have r0 := parts_eq (F := F) (ℓ := (c : Thread nD τ).loc cc0_scratch1) (rb_cover false) (rb_disj false)
  have s1 := parts_eq (F := F) (ℓ := (c : Thread nD τ).loc cc0_scratch2) (sb_cover true) (sb_disj true)
  have r1 := parts_eq (F := F) (ℓ := (c : Thread nD τ).loc cc0_scratch3) (rb_cover true) (rb_disj true)
  constructor
  · iintro ⟨S0, R0, S1, R1⟩
    isplitl [S0 R0]
    · isplitl [R0]
      · iapply r0.1; iexact R0
      iapply s0.1; iexact S0
    isplitl [R1]
    · iapply r1.1; iexact R1
    iapply s1.1; iexact S1
  · iintro ⟨⟨R0, S0⟩, R1, S1⟩
    isplitl [S0]; · iapply s0.2; iexact S0
    isplitl [R0]; · iapply r0.2; iexact R0
    isplitl [S1]; · iapply s1.2; iexact S1
    iapply r1.2; iexact R1

theorem held_none (W : Valuation τ sig (Elt F)) : (StableHlo.held (c.tc : Thread nD τ) ∅ W : sProp 𝕄) = BI.emp := by
  unfold StableHlo.held
  exact BI.bigSep_empty

theorem hin : iprop(Pipeline.scopedRest spec0 c ∗ (∃ r, prngReg c r) ∗ StableHlo.held (c.tc : Thread nD τ) ∅ (Wv m c) ∗ Xk m c) ⊢ Φ₀ m c := by
  unfold Φ₀
  iintro ⟨Hr, Hp, -, HX⟩
  isplitl [HX]; · iexact HX
  isplitl [Hr]
  · iapply (rest_slots c).1; iexact Hr
  iexact Hp

/-- The buffers' contents when the call is left. -/
def W2 : Valuation τ sig (Elt F) := Function.update (Wv m c) main_v48 (resV m c)

theorem hout : Φ₁ c ⊢ (iprop(Pipeline.scopedRest spec0 c ∗ (∃ r, prngReg c r) ∗ StableHlo.held (c.tc : Thread nD τ) ∅ (W2 m c) ∗ Pipeline.ownSems0 osem c ∗ Yk c) : sProp 𝕄) := by
  rw [ownSems_eq, held_none]
  unfold Φ₁ Yk
  iintro ⟨⟨HZ, Hb⟩, Hs, Hp⟩
  isplitl [Hs]
  · iapply (rest_slots c).2; iexact Hs
  isplitl [Hp]; · iexact Hp
  isplitr; · iempintro
  isplitl [HZ] <;> iassumption

theorem owed_over : Over 0 (O₀ c) :=
  ((over_OW c (by omega) (by omega) (by omega) (by omega)).add (Over.at _ _ (by omega) (by unfold NL; omega))).add (Over.at _ _ (by omega) (by unfold NL; omega))

theorem W2_ne {b : Ref sig .tc} (h : b ≠ main_v48) : W2 m c b = Wv m c b := by
  unfold W2
  exact Function.update_of_ne (fun e => h (Proc.devRef_injective .tc e)) _ _
theorem W2_res : W2 m c main_v48 = resV m c := by
  unfold W2; rw [Function.update_self]

theorem arr_ne : ∀ w : Fin 8, (cfg0.win w).isOut = false → Pipeline.arrRef spec0 w ≠ main_v48 := by decide

theorem arr_end (w : Fin 8) : (dats m 0 c).arrAt w cfg0.N = W2 m c (Proc.devRef .tc (Pipeline.arrRef spec0 w)) := by
  by_cases h : (cfg0.win w).isOut = false
  · rw [Pipeline.Dat.arrAt_in (dats m 0 c) w h _, W2_ne m c (arr_ne w h)]
    dsimp only [dats]
  · have e : w = 7 := by revert w; decide
    subst e
    rw [arr_7, after_7]
    exact (W2_res m c).symm

theorem arr_start (w : Fin 8) : (dats m 0 c).arrAt w 0 = Wv m c (Proc.devRef .tc (Pipeline.arrRef spec0 w)) := by
  show (dats m 0 c).A w = _
  dsimp only [dats]

end

theorem kitP : Pipeline.PLaunchFacts (nD := nD) (τ := τ) (pcfgs (F := F)) 0 := launch0.toP

section
variable (m : (ℓ : Loc nD τ sig) → Buf (Elt F) ℓ)

theorem cut : Pipeline.LevelCutOwed (pcfgs (F := F)) adm (dats m) 0 (L NL) lv 0 (fun _ => 0) where
  hι c w s := SiteBlocks.mem_L c _ (by unfold NL; omega)
  hιb c w s := Nat.le_refl 0
  hD c t g i h := by
    match t with
    | ⟨0, _⟩ => exact owed_over c g i h
    | ⟨_ + 1, _⟩ => exact absurd h (Nat.lt_irrefl 0)

theorem share_full (c : Dev nD) (w : Fin 8) : (dats m 0 c).share w = fullShare := by
  unfold Pipeline.Dat.share
  split <;> rfl

/-- The buffers of @main that are no array of the call. -/
abbrev restRefs : Finset (DevRef τ sig) := Pipeline.ucRefs τ sig \ Pipeline.arrRefs spec0

set_option backward.isDefEq.respectTransparency.types false in
/-- The region's record. -/
def reg : Pipeline.RegionSeg (pcfgs (F := F)) adm (dats m) 0 (defs₀ (F := F)) 𝒱₀ (L NL) lv 0 :=
  Pipeline.RegionSeg.ofTalk (pcfgs (F := F)) adm (dats m) 0 defs₀ 𝒱₀ (L NL) lv 0 osem (by decide : Pipeline.OwnSemFacts spec0 osem)
    ∅ restRefs (Finset.empty_subset _) kitP rfl (fun c => (body_ok m c).loose)
    (fun _ => 0) O₀ (fun c => (zero_add (O₀ c)).symm) (fun _ => rfl) (fun _ => rfl) (share_full m)
    (Wv m) (W2 m) (fun c b hb => by
      unfold W2
      refine Function.update_of_ne (fun e => ?_) _ _
      subst e
      exact (Finset.mem_sdiff.mp (Finset.mem_sdiff.mp hb).1).2 (by decide))
    (Tk m) Yk (Xk m) Yk (hopen m) (hin m) (hout m)
    (fun c => by iintro H; imodintro; iexact H)
    (fun _ => 0) (cut m) (fun _ => iprop(emp)) (arr_start m) (arr_end m)

variable (c : Dev nD)

theorem held_split (V : Valuation τ sig (Elt F)) :
    (StableHlo.held (c : Thread nD τ) (Pipeline.ucRefs τ sig) V : sProp 𝕄)
      = iprop(StableHlo.held (c : Thread nD τ) (Pipeline.arrRefs spec0) V ∗ StableHlo.held (c : Thread nD τ) restRefs V) :=
  StableHlo.held_sub_split (c.tc : Thread nD τ) (Pipeline.arrRefs_sub_ucRefs spec0 (by decide)) V

/-- What a device carries through the host code for the call. -/
def E0 : sProp 𝕄 := iprop((∃ r, prngReg c r) ∗ Tk m c ∗ ∃ W, owes (c : Thread nD τ) (O₀ c) W)

theorem reg_pre : iprop(StableHlo.held (c : Thread nD τ) (Pipeline.ucRefs τ sig) (Wv m c) ∗ E0 m c) ⊢ (reg m).pre c := by
  show _ ⊢ iprop(StableHlo.held (c.tc : Thread nD τ) (Pipeline.arrRefs spec0) (Wv m c) ∗ (∃ r, prngReg c r)
    ∗ (StableHlo.held (c.tc : Thread nD τ) restRefs (Wv m c) ∗ emp) ∗ Tk m c ∗ ∃ Wd, owes (c : Thread nD τ) (0 + O₀ c) Wd)
  rw [held_split, zero_add]
  unfold E0
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post : (reg m).post c ⊢ iprop((StableHlo.held (c : Thread nD τ) (Pipeline.ucRefs τ sig) (W2 m c) ∗ Yk c)
    ∗ ∃ W, owes (c : Thread nD τ) (0 : CellTallies nD τ sig ℕ) W) := by
  show iprop(StableHlo.held (c.tc : Thread nD τ) (Pipeline.arrRefs spec0) (W2 m c) ∗ (∃ r, prngReg c r)
    ∗ (StableHlo.held (c.tc : Thread nD τ) restRefs (W2 m c) ∗ emp) ∗ Yk c ∗ ∃ Wd, owes (c : Thread nD τ) (0 : CellTallies nD τ sig ℕ) Wd) ⊢ _
  rw [held_split]
  iintro ⟨Ha, -, ⟨Hr, -⟩, Hb, HO⟩
  isplitr [HO]
  · isplitl [Ha Hr]
    · isplitl [Ha] <;> iassumption
    iexact Hb
  iexact HO

end

end Cert.Proof

end
-- ==== Proof.Launch.lean ====
/- The launch: every token and every credit dealt to the device that uses it. -/
module

public import proofs.«01_k».proof.Proof.Talk

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

/-! ### The credits -/

/-- The ring in one direction, as a bijection. -/
def ringE (d : Dir) : Dev nD ≃ Dev nD := ⟨dstD d, srcD d, src_dst d, dst_src d⟩

theorem launch_tally (e : Dev nD ≃ Dev nD) (k : CK) (i n : ℕ) (c : Dev nD) :
    (Pipeline.launchCred (fun x => tallyAt (cellK (e x) k) i n) c : sProp 𝕄) = cred (tallyAt (cellK c k) i n) :=
  Pipeline.launchCred_of_sum _ (fun x => tallyAt (cellK x k) i n) (Equiv.sum_comp e fun x => tallyAt (cellK x k) i n)
    (fun x g h => by
      by_contra hne
      exact h (tallyAt_ne_cell (fun e => hne (congrArg Prod.fst e)) _ _)) c

theorem launch_S (d : Dir) (c : Dev nD) :
    (Pipeline.launchCred (fun x => oweS d x 0) c : sProp 𝕄) = bigSep (Finset.Ico 0 31) fun s => recvCred c d s := by
  unfold oweS
  rw [Pipeline.launchCred_sum]
  exact bigSep_congr fun s _ => launch_tally (ringE d) (.rs d (par s)) (s + 2) NB c

theorem launch_C (d : Dir) (c : Dev nD) :
    (Pipeline.launchCred (fun x => oweC d x 1) c : sProp 𝕄) = bigSep (Finset.Ico 1 30) fun n => cred (tallyAt (cellK c (.cr d)) (n + 2) 1) := by
  unfold oweC
  rw [Pipeline.launchCred_sum]
  exact bigSep_congr fun n _ => launch_tally (ringE d).symm (.cr d) (n + 2) 1 c

theorem launch_bar (d : Dir) (c : Dev nD) : (Pipeline.launchCred (fun x => barTally d x) c : sProp 𝕄) = cred (tallyAt (cellK c .bar) 1 1) :=
  launch_tally (ringE d).symm .bar 1 1 c

theorem creds (c : Dev nD) : (Pipeline.launchCred O₀ c : sProp 𝕄)
    ⊢ iprop(((bigSep (Finset.Ico 0 31) fun s => recvCred c false s) ∗ (bigSep (Finset.Ico 0 31) fun s => recvCred c true s))
      ∗ ((bigSep (Finset.Ico 1 30) fun n => cred (tallyAt (cellK c (.cr false)) (n + 2) 1)) ∗ (bigSep (Finset.Ico 1 30) fun n => cred (tallyAt (cellK c (.cr true)) (n + 2) 1)))
      ∗ cred (tallyAt (cellK c .bar) 1 2)) := by
  rw [show (O₀ : Dev nD → CellTallies nD τ sig ℕ) = fun x => oweC false x 1 + oweC true x 1 + oweS false x 0 + oweS true x 0 + barTally false x + barTally true x from rfl,
    Pipeline.launchCred_add, Pipeline.launchCred_add, Pipeline.launchCred_add, Pipeline.launchCred_add, Pipeline.launchCred_add,
    launch_C, launch_C, launch_S, launch_S, launch_bar, launch_bar]
  iintro ⟨⟨⟨⟨⟨C0, C1⟩, S0⟩, S1⟩, B0⟩, B1⟩
  isplitl [S0 S1]
  · isplitl [S0] <;> iassumption
  isplitl [C0 C1]
  · isplitl [C0] <;> iassumption
  rw [← tallyAt_add (cellK c .bar) 1 1 1]
  iapply (cred_add _ _).2
  isplitl [B0] <;> iassumption

/-! ### The tokens -/

theorem bigSep_dir (Φ : Dir → sProp 𝕄) : bigSep Finset.univ Φ = iprop(Φ false ∗ Φ true) := by
  rw [bigSep_univ_eq_bigSepL [false, true] (by decide) (by decide)]; rfl

theorem bigSep_use (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

theorem bigSep_fin_Ico {N a b : ℕ} (hb : b ≤ N) (Φ : ℕ → sProp 𝕄) : (bigSep Finset.univ fun n : Fin N => Φ n.val) ⊢ bigSep (Finset.Ico a b) Φ := by
  have h : (bigSep Finset.univ fun n : Fin N => Φ n.val) = bigSep (Finset.univ.map Fin.valEmbedding) Φ := (bigSep_map Fin.valEmbedding).symm
  rw [h]
  refine bigSep_subset fun n hn => Finset.mem_map.mpr ⟨⟨n, ?_⟩, Finset.mem_univ _, rfl⟩
  have := Finset.mem_Ico.mp hn
  omega

/-- A direction's tokens of device `c`. -/
def toks5 (c : Dev nD) (d : Dir) : sProp 𝕄 :=
  iprop((bigSep (Finset.Ico 0 31) fun s => dutyTok ER (cellK (dstD d c) (.rs d (par s))) (s / 2) 0)
    ∗ (bigSep (Finset.Ico 0 31) fun s => dutyTok ER (cellK c (.ss d (par s))) (s / 2) 0)
    ∗ (bigSep (Finset.Ico 1 30) fun n => dutyTok ER (cellK (srcD d c) (.cr d)) 0 n)
    ∗ dutyTok ER (cellK (srcD d c) .bar) 0 (dn d))

theorem toks_dir (c : Dev nD) (d : Dir) :
    (bigSep Finset.univ fun x : Fin 4 × Fin 32 => dutyTok ER (tokOf c (d, x)).1 (tokOf c (d, x)).2.1 (tokOf c (d, x)).2.2) ⊢ (toks5 c d : sProp 𝕄) := by
  rw [bigSep_univ_prod, bigSep_use]
  unfold toks5
  iintro ⟨H0, H1, H2, H3⟩
  isplitl [H1]
  · iapply (bigSep_fin_Ico (N := 32) (by omega) fun s => dutyTok ER (cellK (dstD d c) (.rs d (par s))) (s / 2) 0); iexact H1
  isplitl [H2]
  · iapply (bigSep_fin_Ico (N := 32) (by omega) fun s => dutyTok ER (cellK c (.ss d (par s))) (s / 2) 0); iexact H2
  isplitl [H3]
  · iapply (bigSep_fin_Ico (N := 32) (by omega) fun n => dutyTok ER (cellK (srcD d c) (.cr d)) 0 n); iexact H3
  ihave H := (bigSep_fin_Ico (N := 32) (a := 0) (b := 1) (by omega) fun n => dutyTok ER (cellK (srcD d c) .bar) n (dn d)) $$ [H0]
  · iexact H0
  iapply (show (bigSep (Finset.Ico 0 1) fun n => dutyTok ER (cellK (srcD d c) .bar) n (dn d)) ⊢ (dutyTok ER (cellK (srcD d c) .bar) 0 (dn d) : sProp 𝕄)
    from bigSep_elim (by decide))
  iexact H

theorem toks_dev (c : Dev nD) : (bigSep Finset.univ fun j : Fin 1 => bigSep (fam.toks c j) fun x => dutyTok ER x.1 x.2.1 x.2.2)
    ⊢ (iprop(toks5 c false ∗ toks5 c true) : sProp 𝕄) := by
  refine (bigSep_elim (Finset.mem_univ (0 : Fin 1))).trans ?_
  rw [show fam.toks c 0 = Finset.univ.map (tokEmb c) from rfl, bigSep_map, bigSep_univ_prod, bigSep_dir]
  show (iprop(_ ∗ _) : sProp 𝕄) ⊢ _
  iintro ⟨HA, HB⟩
  isplitl [HA]
  · iapply (toks_dir c false); iexact HA
  iapply (toks_dir c true); iexact HB

theorem open_dev (c : Dev nD) : (bigSep Finset.univ fun j : Fin 1 => bigSep (fam.dorm j) fun sm => openTok ER ((c.tc : Thread nD τ), sm))
    ⊢ (iprop((five false fun k => openTok ER (cellK c k)) ∗ (five true fun k => openTok ER (cellK c k))) : sProp 𝕄) := by
  refine (bigSep_elim (Finset.mem_univ (0 : Fin 1))).trans ?_
  rw [show fam.dorm 0 = (Finset.univ.map ⟨osem, by decide⟩ : Finset (SemLoc sig)) from by decide, bigSep_map]
  exact Entails.of_eq (bigSep_own fun k => openTok ER (cellK c k))

theorem toks_deal : bigSep fam.T (fun x => (dutyTok ER x.1 x.2.1 x.2.2 : sProp 𝕄)) ⊢ bigSep Finset.univ fun c : Dev nD => iprop(toks5 c false ∗ toks5 c true) := by
  rw [fam.bigSep_T]
  exact bigSep_mono fun c _ => toks_dev c
theorem open_deal : bigSep fam.Sd (fun g => (openTok ER g : sProp 𝕄))
    ⊢ bigSep Finset.univ fun c : Dev nD => iprop((five false fun k => openTok ER (cellK c k)) ∗ (five true fun k => openTok ER (cellK c k))) := by
  rw [fam.bigSep_Sd]
  exact bigSep_mono fun c _ => open_dev c

/-! ### The landing slots' write tokens -/

/-- Which write of which slot a send is. -/
def wrEmb : (Dev nD × Dir) × Fin 31 ↪ Key × ℕ :=
  ⟨fun x => ((dstD x.1.2 x.1.1, x.1.2, par x.2.val), x.2.val / 2), fun ⟨⟨c, d⟩, s⟩ ⟨⟨c', d'⟩, s'⟩ h => by
    have h1 := congrArg Prod.fst h
    have h2 : s.val / 2 = s'.val / 2 := congrArg Prod.snd h
    have hd : d = d' := congrArg (fun x : Key => x.2.1) h1
    subst hd
    have hc : dstD d c = dstD d c' := congrArg (fun x : Key => x.1) h1
    have hp : s.val % 2 = s'.val % 2 := congrArg (fun x : Key => x.2.2.val) h1
    rw [(ringE d).injective hc, show s = s' from Fin.ext (by omega)]⟩

theorem writes : (bigSep (Finset.univ ×ˢ Finset.range 16) fun x : Key × ℕ => writeTok ES x.1 (x.2 + 1))
    ⊢ (bigSep Finset.univ fun c : Dev nD => iprop((bigSep (Finset.Ico 0 31) fun s => writeTok ES (dstD false c, false, par s) (1 + s / 2))
      ∗ (bigSep (Finset.Ico 0 31) fun s => writeTok ES (dstD true c, true, par s) (1 + s / 2))) : sProp 𝕄) := by
  have hs : (Finset.univ : Finset ((Dev nD × Dir) × Fin 31)).map wrEmb ⊆ (Finset.univ : Finset Key) ×ˢ Finset.range 16 := fun y hy => by
    obtain ⟨⟨p, s⟩, -, rfl⟩ := Finset.mem_map.mp hy
    refine Finset.mem_product.mpr ⟨Finset.mem_univ _, Finset.mem_range.mpr ?_⟩
    show s.val / 2 < 16
    have := s.isLt
    omega
  refine (bigSep_subset hs).trans ?_
  rw [bigSep_map, bigSep_univ_prod, bigSep_univ_prod]
  refine bigSep_mono fun c _ => ?_
  rw [bigSep_dir]
  have e (d : Dir) : (bigSep Finset.univ fun s : Fin 31 => writeTok ES (wrEmb ((c, d), s)).1 ((wrEmb ((c, d), s)).2 + 1))
      ⊢ (bigSep (Finset.Ico 0 31) fun s => writeTok ES (dstD d c, d, par s) (1 + s / 2) : sProp 𝕄) := by
    refine .trans (Entails.of_eq (bigSep_congr fun s _ => ?_)) (bigSep_fin_Ico (Nat.le_refl 31) fun s => writeTok ES (dstD d c, d, par s) (1 + s / 2))
    rw [Nat.add_comm 1]; rfl
  show (iprop(_ ∗ _) : sProp 𝕄) ⊢ _
  iintro ⟨HA, HB⟩
  isplitl [HA]
  · iapply (e false); iexact HA
  iapply (e true); iexact HB

theorem readers : (bigSep Finset.univ fun x : Key => readerAt ES x 0)
    = (bigSep Finset.univ fun c : Dev nD => iprop((bigSep Finset.univ fun b : Fin 2 => readerAt ES (c, false, b) 0) ∗ (bigSep Finset.univ fun b : Fin 2 => readerAt ES (c, true, b) 0)) : sProp 𝕄) := by
  rw [bigSep_univ_prod]
  refine bigSep_congr fun c _ => ?_
  rw [bigSep_univ_prod, bigSep_dir]

theorem bigSep_pair (Φ Ψ : Dev nD → sProp 𝕄) : iprop(bigSep Finset.univ Φ ∗ bigSep Finset.univ Ψ) ⊢ bigSep Finset.univ fun c => iprop(Φ c ∗ Ψ c) := by
  rw [bigSep_sep']
theorem bigSep_unpair (Φ Ψ : Dev nD → sProp 𝕄) : (bigSep Finset.univ fun c => iprop(Φ c ∗ Ψ c)) ⊢ iprop(bigSep Finset.univ Φ ∗ bigSep Finset.univ Ψ) := by
  rw [bigSep_sep']

theorem bigSep_five (A B C D E : Dev nD → sProp 𝕄) : (bigSep Finset.univ fun c => iprop(A c ∗ B c ∗ C c ∗ D c ∗ E c))
    = iprop(bigSep Finset.univ A ∗ bigSep Finset.univ B ∗ bigSep Finset.univ C ∗ bigSep Finset.univ D ∗ bigSep Finset.univ E) := by
  rw [bigSep_sep', bigSep_sep', bigSep_sep', bigSep_sep']

/-! ### The launch element -/

/-- The protocol's part of the launch element. -/
def protoU : URounds (GSem nD τ sig) ℕ × USlots Key := (launchOf fam.S fam.Sd fam.T, initSlots Finset.univ 16)

/-- The launch element: the pipeline library's at its staging cells, and the protocol's. -/
def u₀ : UU :=
  (initOf (Pipeline.cells (Pipeline.pin (pcfgs (F := F)) adm) cellOf_inj) (Pipeline.launchToks (Pipeline.pin (pcfgs (F := F)) adm) cellOf_inj), protoU)

/-- The protocol's part, kept at device 0 until all devices' holdings are together. -/
def G (c : Dev nD) : sProp 𝕄 := if c = 0 then BI.own (ET protoU) else iprop(emp)

theorem G_all : bigSep Finset.univ (G (F := F)) = BI.own (ET protoU) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

theorem hu₀ : (ownU (u₀ (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ (G (F := F))) := by
  unfold u₀
  iintro Hu
  ihave H := (ownU_pair _ _) $$ Hu
  icases H with ⟨HP, HX⟩
  imodintro
  isplitl [HP]; · iexact HP
  rw [G_all]; iexact HX

section Launch
variable (m : (ℓ : Loc nD τ sig) → Buf (Elt F) ℓ) (ρ : Dev nD → PrngReg)

/-- What all devices may consult: the invariants, and round 0 of every barrier cell. -/
def records (κ : GSem nD τ sig → ℕ) (ιs : Key → ℕ) : sProp 𝕄 :=
  iprop((fam.cellInvs ER (ringRd (ins m)) κ ∗ (bigSep Finset.univ fun x : Key => slotInv ES (ιs x) x (rbSlot x)))
    ∗ bigSep Finset.univ fun c : Dev nD => reached ER (cellK c .bar) 0)

instance records_persistent (κ : GSem nD τ sig → ℕ) (ιs : Key → ℕ) : BI.Persistent (records m κ ιs) := by unfold records; infer_instance

/-- What a device is given of its own. -/
def linear (c : Dev nD) : sProp 𝕄 :=
  iprop(atPos ER (cellK c .bar) 0 ∅ 0 ∗ ((five false fun k => openTok ER (cellK c k)) ∗ (five true fun k => openTok ER (cellK c k)))
    ∗ (toks5 c false ∗ toks5 c true)
    ∗ ((bigSep (Finset.Ico 0 31) fun s => writeTok ES (dstD false c, false, par s) (1 + s / 2))
      ∗ (bigSep (Finset.Ico 0 31) fun s => writeTok ES (dstD true c, true, par s) (1 + s / 2)))
    ∗ ((bigSep Finset.univ fun b : Fin 2 => readerAt ES (c, false, b) 0) ∗ (bigSep Finset.univ fun b : Fin 2 => readerAt ES (c, true, b) 0)))

/-- What of a device's launch holdings is none of the protocol's. -/
def bundle (c : Dev nD) : sProp 𝕄 :=
  iprop((((bigSep (Finset.Ico 0 31) fun s => recvCred c false s) ∗ (bigSep (Finset.Ico 0 31) fun s => recvCred c true s))
      ∗ ((bigSep (Finset.Ico 1 30) fun n => cred (tallyAt (cellK c (.cr false)) (n + 2) 1)) ∗ (bigSep (Finset.Ico 1 30) fun n => cred (tallyAt (cellK c (.cr true)) (n + 2) 1)))
      ∗ cred (tallyAt (cellK c .bar) 1 2))
    ∗ owes (c : Thread nD τ) (O₀ c) ∅ ∗ ∃ r, prngReg c r)

theorem DT_intro (c : Dev nD) (d : Dir) :
    iprop((bigSep (Finset.Ico 0 31) fun s => recvCred c d s) ∗ (bigSep Finset.univ fun b : Fin 2 => readerAt ES (c, d, b) 0)
      ∗ toks5 c d ∗ (bigSep (Finset.Ico 0 31) fun s => writeTok ES (dstD d c, d, par s) (1 + s / 2))
      ∗ (bigSep (Finset.Ico 1 30) fun n => cred (tallyAt (cellK c (.cr d)) (n + 2) 1)) ∗ reached ER (cellK (srcD d c) .bar) 0) ⊢ (DT c d : sProp 𝕄) := by
  unfold DT toks5 sendKit
  rw [bigSep_sep', bigSep_sep']
  iintro ⟨H1, H2, ⟨T1, T2, T3, T4⟩, Hw, Hc, Hr⟩
  isplitl [H1]; · iexact H1
  isplitl [H2]; · iexact H2
  isplitl [T1 T2 Hw]
  · isplitl [T1]; · iexact T1
    isplitl [T2]; · iexact T2
    iexact Hw
  isplitl [T3]; · iexact T3
  isplitl [Hc]; · iexact Hc
  isplitl [T4]; · iexact T4
  iexact Hr

theorem E0_intro (κ : GSem nD τ sig → ℕ) (ιs : Key → ℕ) (c : Dev nD) : iprop(records m κ ιs ∗ (linear c ∗ bundle c)) ⊢ (E0 m c : sProp 𝕄) := by
  unfold records linear bundle E0 Tk
  iintro ⟨⟨#HI, #HR⟩, ⟨Hat, Ho, ⟨TA, TB⟩, ⟨WA, WB⟩, ⟨RA, RB⟩⟩, ⟨⟨SA, SB⟩, ⟨CA, CB⟩, Hb⟩, HO, Hp⟩
  isplitl [Hp]; · iexact Hp
  isplitr [HO]
  · isplitr; · iexists κ; iexists ιs; iexact HI
    isplitl [TA WA RA SA CA]
    · iapply (DT_intro c false)
      isplitl [SA]; · iexact SA
      isplitl [RA]; · iexact RA
      isplitl [TA]; · iexact TA
      isplitl [WA]; · iexact WA
      isplitl [CA]; · iexact CA
      iapply (show (bigSep Finset.univ fun c : Dev nD => (reached ER (cellK c .bar) 0 : sProp 𝕄)) ⊢ reached ER (cellK (srcD false c) .bar) 0 from bigSep_elim (Finset.mem_univ _))
      iexact HR
    isplitl [TB WB RB SB CB]
    · iapply (DT_intro c true)
      isplitl [SB]; · iexact SB
      isplitl [RB]; · iexact RB
      isplitl [TB]; · iexact TB
      isplitl [WB]; · iexact WB
      isplitl [CB]; · iexact CB
      iapply (show (bigSep Finset.univ fun c : Dev nD => (reached ER (cellK c .bar) 0 : sProp 𝕄)) ⊢ reached ER (cellK (srcD true c) .bar) 0 from bigSep_elim (Finset.mem_univ _))
      iexact HR
    isplitl [Ho]; · iexact Ho
    isplitl [Hat]; · iexact Hat
    iexact Hb
  iexists ∅; iexact HO

theorem unscoped0_eq (c : Dev nD) : (unscopedSems0 c : sProp 𝕄) = semVal (cellK c .bar) 0 := by
  unfold unscopedSems0
  rw [show (Finset.univ.filter fun sm : SemLoc sig => ¬ sm.isScoped .tc) = {semOf .bar} from by decide, BI.bigSep_singleton]

theorem core (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(StableHlo.held (c : Thread nD τ) (Pipeline.ucRefs τ sig) (V0 m c) ∗ (bundle c ∗ (semVal (cellK c .bar) 0 ∗ G c))) : sProp 𝕄) := by
  rw [show unscopedBufs c (fun b => m ((c : Thread nD τ).loc b)) = StableHlo.held (c : Thread nD τ) (Pipeline.ucRefs τ sig) (V0 m c) from Pipeline.unscopedBufs_held c (V0 m c),
    unscoped0_eq]
  unfold bundle
  iintro ⟨Hh, Hus, HO, Hcr, Hp, HG⟩
  ihave Hc := (creds (F := F) c) $$ [Hcr]
  · iexact Hcr
  isplitl [Hh]; · iexact Hh
  isplitl [HO Hc Hp]
  · isplitl [Hc]; · iexact Hc
    isplitl [HO]; · iexact HO
    iexists (ρ c); iexact Hp
  isplitl [Hus]; · iexact Hus
  iexact HG

theorem cores : (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => StableHlo.held (c : Thread nD τ) (Pipeline.ucRefs τ sig) (V0 m c))
        ∗ bigSep Finset.univ (bundle (F := F)) ∗ (bigSep Finset.univ fun c : Dev nD => semVal (cellK c .bar) 0) ∗ BI.own (ET protoU)) : sProp 𝕄) := by
  rw [← G_all, ← bigSep_sep', ← bigSep_sep', ← bigSep_sep']
  exact bigSep_mono fun c _ => core m ρ c

theorem proto_split : (BI.own (ET protoU) : sProp 𝕄) ⊢ iprop(BI.own (ER (launchOf fam.S fam.Sd fam.T)) ∗ BI.own (ES (initSlots Finset.univ 16))) := by
  unfold protoU
  exact own_pair_emb ET _ _

theorem fundR : iprop((bigSep Finset.univ fun c : Dev nD => semVal (cellK c .bar) 0) ∗ BI.own (ER (launchOf fam.S fam.Sd fam.T)))
    ⊢ (|={Set.univ}=> ∃ κ : GSem nD τ sig → ℕ, fam.cellInvs ER (ringRd (ins m)) κ ∗ bigSep fam.S (fun g => reached ER g 0)
      ∗ bigSep fam.S (fun g => atPos ER g 0 ∅ 0) ∗ bigSep fam.Sd (fun g => openTok ER g) ∗ bigSep fam.T (fun x => dutyTok ER x.1 x.2.1 x.2.2) : sProp 𝕄) := by
  rw [show (bigSep Finset.univ fun c : Dev nD => (semVal (cellK c .bar) 0 : sProp 𝕄)) = bigSep fam.S fun g => semVal g 0 from (fam.bigSep_S fun g => (semVal g 0 : sProp 𝕄)).symm]
  iintro H
  imod (Rounds.fund_launch ER (ringRd (ins m)) fam.disj (fun g _ h => h) fam.T (Es := Set.univ)) $$ [H] with ⟨%κ, -, H⟩
  · iexact H
  imodintro
  iexists κ
  unfold TalkSites.Fam.cellInvs
  iexact H

theorem fundS : BI.own (ES (initSlots Finset.univ 16))
    ⊢ (|={Set.univ}=> ∃ ιs : Key → ℕ, (bigSep Finset.univ fun x : Key => slotInv ES (ιs x) x (rbSlot x)) ∗ (bigSep Finset.univ fun x : Key => readerAt ES x 0)
      ∗ (bigSep (Finset.univ ×ˢ Finset.range 16) fun x : Key × ℕ => writeTok ES x.1 (x.2 + 1)) : sProp 𝕄) := by
  iintro H
  imod (slots_init (Es := Set.univ) ES Finset.univ 16 (fun x : Key => rbSlot x)) $$ [H] with ⟨%ιs, -, H⟩
  · iexact H
  imodintro
  iexists ιs
  iexact H

theorem bar_deal (Φ : GSem nD τ sig → sProp 𝕄) : bigSep fam.S Φ ⊢ bigSep Finset.univ fun c : Dev nD => Φ (cellK c .bar) := Entails.of_eq (fam.bigSep_S Φ)

theorem records_intro (κ : GSem nD τ sig → ℕ) (ιs : Key → ℕ) :
    iprop(fam.cellInvs ER (ringRd (ins m)) κ ∗ bigSep fam.S (fun g => reached ER g 0) ∗ (bigSep Finset.univ fun x : Key => slotInv ES (ιs x) x (rbSlot x))) ⊢ (records m κ ιs : sProp 𝕄) := by
  unfold records
  iintro ⟨HI, Hr, HS⟩
  isplitl [HI HS]
  · isplitl [HI]; · iexact HI
    iexact HS
  iapply (bar_deal fun g => (reached ER g 0 : sProp 𝕄)); iexact Hr

theorem linear_all : iprop(bigSep fam.S (fun g => atPos ER g 0 ∅ 0) ∗ bigSep fam.Sd (fun g => openTok ER g) ∗ bigSep fam.T (fun x => dutyTok ER x.1 x.2.1 x.2.2)
      ∗ (bigSep (Finset.univ ×ˢ Finset.range 16) fun x : Key × ℕ => writeTok ES x.1 (x.2 + 1)) ∗ (bigSep Finset.univ fun x : Key => readerAt ES x 0))
    ⊢ bigSep Finset.univ (linear (F := F)) := by
  have e : bigSep Finset.univ (linear (F := F)) = iprop((bigSep Finset.univ fun c : Dev nD => atPos ER (cellK c .bar) 0 ∅ 0)
      ∗ (bigSep Finset.univ fun c : Dev nD => iprop((five false fun k => openTok ER (cellK c k)) ∗ (five true fun k => openTok ER (cellK c k))))
      ∗ (bigSep Finset.univ fun c : Dev nD => iprop(toks5 c false ∗ toks5 c true))
      ∗ (bigSep Finset.univ fun c : Dev nD => iprop((bigSep (Finset.Ico 0 31) fun s => writeTok ES (dstD false c, false, par s) (1 + s / 2))
        ∗ (bigSep (Finset.Ico 0 31) fun s => writeTok ES (dstD true c, true, par s) (1 + s / 2))))
      ∗ (bigSep Finset.univ fun c : Dev nD => iprop((bigSep Finset.univ fun b : Fin 2 => readerAt ES (c, false, b) 0) ∗ (bigSep Finset.univ fun b : Fin 2 => readerAt ES (c, true, b) 0)))) := by
    exact bigSep_five (fun c => atPos ER (cellK c .bar) 0 ∅ 0) _ _ _ _
  rw [e, readers]
  iintro ⟨Ha, Ho, Ht, Hw, Hr⟩
  isplitl [Ha]; · iapply (bar_deal fun g => (atPos ER g 0 ∅ 0 : sProp 𝕄)); iexact Ha
  isplitl [Ho]; · iapply (open_deal (F := F)); iexact Ho
  isplitl [Ht]; · iapply (toks_deal (F := F)); iexact Ht
  isplitl [Hw]; · iapply (writes (F := F)); iexact Hw
  iexact Hr

theorem fund : iprop((bigSep Finset.univ fun c : Dev nD => semVal (cellK c .bar) 0) ∗ BI.own (ET protoU))
    ⊢ (|={Set.univ}=> ∃ (κ : GSem nD τ sig → ℕ) (ιs : Key → ℕ), records m κ ιs ∗ bigSep Finset.univ (linear (F := F)) : sProp 𝕄) := by
  iintro ⟨Hv, Hu⟩
  ihave Hu' := (proto_split (F := F)) $$ [Hu]
  · iexact Hu
  icases Hu' with ⟨HuR, HuS⟩
  imod (fundR m) $$ [Hv HuR] with ⟨%κ, Hinv, Hr, Hat, Hopen, Htok⟩
  · isplitl [Hv]; · iexact Hv
    iexact HuR
  imod (fundS (F := F)) $$ [HuS] with ⟨%ιs, HS, Hrd, Hwr⟩
  · iexact HuS
  imodintro
  iexists κ; iexists ιs
  isplitl [Hinv Hr HS]
  · iapply (records_intro m κ ιs)
    isplitl [Hinv]; · iexact Hinv
    isplitl [Hr]; · iexact Hr
    iexact HS
  iapply (linear_all (F := F))
  isplitl [Hat]; · iexact Hat
  isplitl [Hopen]; · iexact Hopen
  isplitl [Htok]; · iexact Htok
  isplitl [Hwr]; · iexact Hwr
  iexact Hrd

/-- The launch on all devices at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts (L NL) lv)
      ⊢ (|={Set.univ}=> bigSep Finset.univ fun c : Dev nD => iprop(StableHlo.held (c : Thread nD τ) (Pipeline.ucRefs τ sig) (V0 m c) ∗ E0 m c) : sProp 𝕄) := by
  iintro ⟨H, -⟩
  ihave H' := (cores m ρ) $$ [H]
  · iexact H
  icases H' with ⟨HH, HB, Hv, Hu⟩
  imod (fund m) $$ [Hv Hu] with ⟨%κ, %ιs, #HR, HL⟩
  · isplitl [Hv]; · iexact Hv
    iexact Hu
  imodintro
  iapply (bigSep_pair _ _)
  isplitl [HH]; · iexact HH
  iapply (bigSep_with_persistent (R := records m κ ιs) (Φ := fun c => iprop(linear c ∗ bundle c)) fun c _ => E0_intro m κ ιs c)
  isplitr; · iexact HR
  iapply (bigSep_pair _ _)
  isplitl [HL]; · iexact HL
  iexact HB

end Launch

end Cert.Proof

end
-- ==== Proof.Main.lean ====
/- The run of @main on all devices: it ends, the arguments are unchanged, the result holds what the ring leaves, the counters read zero. -/
module

public import proofs.«01_k».proof.Proof.Launch

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

section Run
variable (m : (ℓ : Loc nD τ sig) → Buf (Elt F) ℓ) (ρ : Dev nD → PrngReg)

/-- What a device carries beside its buffers, before the call and after it. -/
def Es (j : Fin 2) (c : Dev nD) : sProp 𝕄 := match j with
  | 0 => E0 m c
  | 1 => iprop(emp)

abbrev T0 (c : Dev nD) : sProp 𝕄 := iprop(StableHlo.held (c : Thread nD τ) (Pipeline.ucRefs τ sig) (V0 m c) ∗ E0 m c)
abbrev Tn (c : Dev nD) : sProp 𝕄 := iprop(StableHlo.held (c : Thread nD τ) (Pipeline.ucRefs τ sig) (W2 m c) ∗ Yk c)

/-- What is read off a device's memory at the end. -/
def Res (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_v48) = resV m c

theorem uc_mem (b : Ref sig .tc) (h : ¬ (Proc.devRef (τ := τ) .tc b).isScoped) : Proc.devRef .tc b ∈ Pipeline.ucRefs τ sig :=
  Finset.mem_filter.mpr ⟨StableHlo.devRef_mem_tcRefs b, h⟩

theorem fin_read (c : Dev nD) (s' : Phys nD τ sig (Elt F)) :
    iprop(Tn m c ∗ SI s') ⊢ (|={Set.univ}=> iprop(⌜Res m c s'.mem ∧ s'.mem.sem (cellK c .bar) = 0⌝ ∗ SI s') : sProp 𝕄) := by
  unfold Tn StableHlo.held Yk
  iintro ⟨⟨Hh, Hb⟩, HSI⟩
  ihave Hr := (pointsTo_read_all (Pipeline.ucRefs τ sig) (fun b => ((c : Thread nD τ).1, b)) (W2 m c) s') $$ [Hh HSI]
  · isplitl [Hh] <;> iassumption
  icases Hr with ⟨%h, HSI⟩
  icombine HSI Hb gives %hb
  imodintro
  isplitr
  · ipureintro
    exact ⟨⟨(h _ (uc_mem main_arg0 (by decide))).trans ((W2_ne m c (by decide)).trans (Wv_arg0 m c)),
      (h _ (uc_mem main_arg1 (by decide))).trans ((W2_ne m c (by decide)).trans (Wv_arg1 m c)),
      (h _ (uc_mem main_arg2 (by decide))).trans ((W2_ne m c (by decide)).trans (Wv_arg2 m c)),
      (h _ (uc_mem main_arg3 (by decide))).trans ((W2_ne m c (by decide)).trans (Wv_arg3 m c)),
      (h _ (uc_mem main_v48 (by decide))).trans (W2_res m c)⟩, by simpa using hb⟩
  iexact HSI

theorem unscoped_eq : ∀ sm : SemLoc sig, sm.isScoped .tc = false → sm = semOf .bar := by decide

set_option backward.isDefEq.respectTransparency.types false in
/-- The run. -/
theorem run_main : θ_run defs (onTc (τ := τ) (main (F := F))) ⟨m, fun _ => 0, ρ⟩ (fun r => (∀ c : Dev nD, Res m c r.2) ∧ r.2.sem = fun _ => 0) := by
  refine Pipeline.θ_run_regions_kit_dev_sems (pcfgs (F := F)) adm (dats m) 0 cellOf_inj EP defs₀ 𝒱₀ (L NL) lv m ρ main
    (segs m 𝒱₀ (L NL) lv (Es m) 0 (dats m) (reg m))
    (fun c Q => by
      rewrite [main_chain c, Pipeline.Seg.run_eq_chain,
        show (segs m 𝒱₀ (L NL) lv (Es m) 0 (dats m) (reg m) c).map Pipeline.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ (SiteBlocks.hL NL) G u₀ hu₀
    (T₀ := T0 m) (Tₙ := Tn m)
    (hch := fun c => ⟨.rfl, .rfl, .rfl, .rfl, .rfl, .rfl, .rfl, .rfl, .rfl, .rfl, .rfl, reg_pre m c, reg_post m c⟩)
    (hinit := init m ρ) (QY := fun c s => Res m c s ∧ s.sem (cellK c .bar) = 0)
    (hfin := fin_read m)
    (hQ := fun s h hs => ⟨fun c => (h c).1, sem_eq_zero hs fun c sm hsm => by
      obtain rfl := unscoped_eq sm hsm
      exact (h c).2⟩)

end Run

end Cert.Proof

end
-- ==== Proof.Frames.lean ====
/- The frames of the two kernel programs, taken from the one run over any float values. -/
module

public import proofs.«01_k».proof.Defs
public import proofs.«01_k».proof.Proof.Gen.Kernel
public import proofs.«01_k».proof.Proof.Main

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

variable {F : FTy → Type} [FloatOps F]

local notation "𝕄" => MT nD τ sig ℕ (Elt F) ℕ UU ℕ

/-- The idealised program's run leaves its arguments as they were and every counter at zero. -/
theorem frame_ideal : Cert.quiescent_KernelIdeal := fun m ρ _ =>
  (θ_run Cert.KernelIdeal.defs _ _).mono (fun _ h => ⟨fun c => ⟨(h.1 c).1, (h.1 c).2.1, (h.1 c).2.2.1, (h.1 c).2.2.2.1⟩, h.2⟩) (run_main m ρ)

/-- What the kernel's frame says, written with the idealised program's names. -/
def BitsFrame : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3))
      ∧ r.2.sem = fun _ => 0)

/-- The same run over bit patterns. -/
theorem frame_bits : BitsFrame := fun m ρ _ =>
  (θ_run Cert.KernelIdeal.defs _ _).mono (fun _ h => ⟨fun c => ⟨(h.1 c).1, (h.1 c).2.1, (h.1 c).2.2.1, (h.1 c).2.2.2.1⟩, h.2⟩) (run_main (F := Bits) m ρ)

/-- The two programs have the same text, so the kernel's frame is that statement. -/
theorem frames_same : BitsFrame = Cert.quiescent_Kernel := by sl_kernel_rfl

/-- The kernel's run leaves its arguments as they were and every counter at zero. -/
theorem frame_kernel : Cert.quiescent_Kernel := frames_same.mp frame_bits

end Cert.Proof

end
-- ==== Proof.RefRun.lean ====
/- The reference's run, its result one function of its arguments (`G`). The kernel has one grid point, at which every
   window's block is its whole array, and one store of the whole result. -/
module

public import proofs.«01_k».proof.Proof.Gen.ReferenceIdeal.Value

@[expose] public section

noncomputable section

namespace Cert.Proof.Ref

open Cert.ReferenceIdeal Cert.ReferenceIdeal.Gen Cert.ReferenceIdeal.Value Idealize.ShloMosaic Idealize.ShloMosaic.TcCoe Idealize.SL.Sem

variable {F : FTy → Type} [FloatOps F]

/-- The one place of a scale. -/
def one : S1.Idx := fun _ => ⟨0, by rename_i a; revert a; decide⟩

/-- The result as a function of the arguments. -/
def G (x : Vec F S4096x4096 .fp8e4m3) (w : Vec F S4096x8192 .fp8e5m2) (sx sw : Vec F S1 .f32) : Vec F S4096x8192 .f32 :=
  k0_pay1 x w (sx one) (sw one)

theorem hz : (![0, 0] : Fin 2 → Nat) = fun _ => 0 := funext fun a => by fin_cases a <;> rfl

/-- The body leaves `G` of the input buffers in the output's buffer. -/
theorem out_eq (c : Dev nD) (a0 : Memref sig .tc .vmem S4096x4096 .fp8e4m3) (h0 : a0.IsWhole) (a1 : Memref sig .tc .vmem S4096x8192 .fp8e5m2) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x : Vec F S4096x4096 .fp8e4m3) (w : Vec F S4096x8192 .fp8e5m2) (sx sw : Vec F S1 .f32) :
    out0_A_4 c a0 h0 a1 h1 a2 h2 a3 h3 a4 h4 x w sx sw = G x w sx sw := by
  unfold out0_A_4
  rw [View.read_writes_junk_eq_canon]
  show View.canon ([⟨Rect.unit ![0, 0] S4096x8192.size inb_S4096x8192_S4096x8192_0_0,
      k0_pay1
        (View.readAt (Elt F) a0.view (Rect.unit ![0, 0] S4096x4096.size inb_S4096x4096_S4096x4096_0_0).toLoadRect (h0.unread x))
        (View.readAt (Elt F) a1.view (Rect.unit ![0, 0] S4096x8192.size inb_S4096x8192_S4096x8192_0_0).toLoadRect (h1.unread w))
        (View.readAt (Elt F) a2.view (Rect.unit (s := S1) ![0] S1.size inb_S1_S1_0).toLoadRect (h2.unread sx) _)
        (View.readAt (Elt F) a3.view (Rect.unit (s := S1) ![0] S1.size inb_S1_S1_0).toLoadRect (h3.unread sw) _)⟩] :
      List (View.Piece (Elt F) S4096x8192 .f32)) = _
  rw [View.canon_unit_zero hz, View.readAt_eq_ld, View.readAt_eq_ld, View.readAt_eq_ld, View.readAt_eq_ld, h0.read_unread, h1.read_unread, h2.read_unread,
    h3.read_unread, View.ld_unit_zero hz, View.ld_unit_zero hz]
  exact congrArg₂ (k0_pay1 x w) (congrArg sx (funext fun a => by match a with | ⟨0, _⟩ => rfl))
    (congrArg sw (funext fun a => by match a with | ⟨0, _⟩ => rfl))

variable (m : (ℓ : Loc nD τ sig) → Buf (Elt F) ℓ) (ρ : Dev nD → PrngReg)

/-- Each window's block index at the one grid point is zero on every axis. -/
theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 1) = 0 := (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)

/-- So an index of a window's block is the same index of its array. -/
theorem emb0 (t : Fin cfg0.N) (j : S4096x4096.Idx) : ((cfg0.win 0).blk t).view.emb j = j := by
  obtain ⟨e0, e1⟩ := idx0 t
  funext a; apply Fin.ext
  match a with
  | ⟨0, _⟩ => show win0_0.index t (0 : Fin 2) * 4096 + 1 * (j 0).val = (j 0).val; omega
  | ⟨1, _⟩ => show win0_0.index t (1 : Fin 2) * 4096 + 1 * (j 1).val = (j 1).val; omega
theorem emb1 (t : Fin cfg0.N) (j : S4096x8192.Idx) : ((cfg0.win 1).blk t).view.emb j = j := by
  obtain ⟨e0, e1⟩ := idx1 t
  funext a; apply Fin.ext
  match a with
  | ⟨0, _⟩ => show win0_1.index t (0 : Fin 2) * 4096 + 1 * (j 0).val = (j 0).val; omega
  | ⟨1, _⟩ => show win0_1.index t (1 : Fin 2) * 8192 + 1 * (j 1).val = (j 1).val; omega
theorem emb2 (t : Fin cfg0.N) (j : S1.Idx) : ((cfg0.win 2).blk t).view.emb j = j := by
  have e0 := idx2 t
  funext a; apply Fin.ext
  match a with
  | ⟨0, _⟩ => show win0_2.index t (0 : Fin 1) * 1 + 1 * (j 0).val = (j 0).val; omega
theorem emb3 (t : Fin cfg0.N) (j : S1.Idx) : ((cfg0.win 3).blk t).view.emb j = j := by
  have e0 := idx3 t
  funext a; apply Fin.ext
  match a with
  | ⟨0, _⟩ => show win0_3.index t (0 : Fin 1) * 1 + 1 * (j 0).val = (j 0).val; omega
theorem emb4 (t : Fin cfg0.N) (j : S4096x8192.Idx) : ((cfg0.win 4).blk t).view.emb j = j := by
  obtain ⟨e0, e1⟩ := idx4 t
  funext a; apply Fin.ext
  match a with
  | ⟨0, _⟩ => show win0_4.index t (0 : Fin 2) * 4096 + 1 * (j 0).val = (j 0).val; omega
  | ⟨1, _⟩ => show win0_4.index t (1 : Fin 2) * 8192 + 1 * (j 1).val = (j 1).val; omega

/-- So an input window's block is its array. -/
theorem iblk0 (c : Dev nD) (t : Fin cfg0.N) : iblk m c 0 t = V m c main_arg0 := by
  funext j; show V m c main_arg0 (((cfg0.win 0).blk t).view.emb j) = V m c main_arg0 j; rw [emb0]
theorem iblk1 (c : Dev nD) (t : Fin cfg0.N) : iblk m c 1 t = V m c main_arg1 := by
  funext j; show V m c main_arg1 (((cfg0.win 1).blk t).view.emb j) = V m c main_arg1 j; rw [emb1]
theorem iblk2 (c : Dev nD) (t : Fin cfg0.N) : iblk m c 2 t = V m c main_arg2 := by
  funext j; show V m c main_arg2 (((cfg0.win 2).blk t).view.emb j) = V m c main_arg2 j; rw [emb2]
theorem iblk3 (c : Dev nD) (t : Fin cfg0.N) : iblk m c 3 t = V m c main_arg3 := by
  funext j; show V m c main_arg3 (((cfg0.win 3).blk t).view.emb j) = V m c main_arg3 j; rw [emb3]

/-- What the point writes back, read through the result's block. -/
theorem flushed (c : Dev nD) (t : Fin cfg0.N) :
    (dats m 0 c).flushed 4 t = ((cfg0.win 4).blk t).view.read (Elt F) (G (V m c main_arg0) (V m c main_arg1) (V m c main_arg2) (V m c main_arg3)) := by
  rw [flushed4_A, out_eq, iblk0, iblk1, iblk2, iblk3]
  funext j
  show G (V m c main_arg0) (V m c main_arg1) (V m c main_arg2) (V m c main_arg3) j
    = G (V m c main_arg0) (V m c main_arg1) (V m c main_arg2) (V m c main_arg3) (((cfg0.win 4).blk t).view.emb j)
  rw [emb4]

/-- Every index of the result is in the point's block. -/
theorem covered (i : S4096x8192.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

/-- The result after the run is `G` of the arguments. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) :=
  ((dats m 0 c).arrAt_eq_of_cover 4 (G (V m c main_arg0) (V m c main_arg1) (V m c main_arg2) (V m c main_arg3)) (fun t _ => flushed m c t) covered).trans
    (by rw [V_main_arg0, V_main_arg1, V_main_arg2, V_main_arg3])

/-- The run with the result at `G` of the arguments. -/
theorem run : θ_run defs (onTc (τ := τ) (main (F := F))) ⟨m, fun _ => 0, ρ⟩ fun r => ∀ c : Dev nD,
      r.2.mem ((c : Thread nD τ).loc main_v0)
        = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.Proof.Ref

end
-- ==== Proof.Value.lean ====
/- The value on the mesh: what the ring leaves on device `c` is block `c` of the whole product, times the two scales. The
   ring adds, for device `c`'s rows, every device's block product in the ring's order; all of them together are the whole
   product cut over its contracted dimension. -/
module

public import proofs.«01_k».proof.Proof.Main
public import proofs.«01_k».proof.Proof.RefRun
public import Idealize.ShloMosaic.Lib.MatmulPlain
public import Idealize.ShloMosaic.Lib.ValueIdx

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

open Idealize.ShloMosaic.ValueIdx

/-! ### A device's source, followed around the ring -/

/-- The place of the device `j` sources back. -/
theorem posOf_srcD (d : Dir) (j : ℕ) (c : Dev nD) :
    posOf ((srcD d)^[j] c) = match d with | false => posOf c - Fin.ofNat 32 j | true => posOf c + Fin.ofNat 32 j := by
  induction j generalizing c with
  | zero => cases d <;> (apply Fin.ext; simp [Fin.ofNat, Fin.sub_def, Fin.add_def] <;> omega)
  | succ j ih =>
    rw [Function.iterate_succ_apply, ih]
    cases d
    · show posOf (ringL (posOf c - 1)) - _ = posOf c - _
      rw [posOf_ringL]
      apply Fin.ext; simp only [Fin.ofNat, Fin.sub_def]
      have := (posOf c).isLt
      show (32 - j % 32 + (32 - 1 + (posOf c).val) % 32) % 32 = (32 - (j + 1) % 32 + (posOf c).val) % 32
      omega
    · show posOf (ringL (posOf c + 1)) + _ = posOf c + _
      rw [posOf_ringL]
      apply Fin.ext; simp only [Fin.ofNat, Fin.add_def]
      show (((posOf c).val + 1) % 32 + j % 32) % 32 = ((posOf c).val + (j + 1) % 32) % 32
      omega

/-- Thirty-two sources back, every device is met once. -/
theorem srcD_bij (d : Dir) (c : Dev nD) : Function.Bijective fun j : Fin 32 => (srcD d)^[j.val] c := by
  refine (Fintype.bijective_iff_injective_and_card _).mpr ⟨fun j j' h => ?_, rfl⟩
  have h2 : posOf ((srcD d)^[j.val] c) = posOf ((srcD d)^[j'.val] c) := congrArg posOf h
  rw [posOf_srcD, posOf_srcD] at h2
  have e := congrArg Fin.val h2
  have := (posOf c).isLt
  have := j.isLt
  have := j'.isLt
  apply Fin.ext
  cases d
  · simp only [Fin.ofNat, Fin.sub_def] at e
    omega
  · simp only [Fin.ofNat, Fin.add_def] at e
    omega

/-! ### The accumulator as a sum over the devices -/

variable (I : Ins Ideal)

/-- What device `e` adds to block `b`. -/
def term (d : Dir) (e : Dev nD) (b : Fin 32) : FVec Ideal S128x4096 .f32 := blockProd d (wide (I.w e)) (rowsAt (I.x e) b)

/-- At step `s` the accumulator is the sum of what the last `s + 1` sources added to its block. -/
theorem acc_sum (d : Dir) (s : ℕ) (c : Dev nD) (i : S128x4096.Idx) :
    (acc I d s c i : EReal) = ∑ j ∈ Finset.range (s + 1), (term I d ((srcD d)^[j] c) (blk d c s) i : EReal) := by
  induction s generalizing c with
  | zero => rw [Finset.sum_range_one]; rfl
  | succ s ih =>
    rw [Finset.sum_range_succ']
    have h : (acc I d (s + 1) c i : EReal) = (acc I d s (srcD d c) i : EReal) + (part I d c (s + 1) i : EReal) := rfl
    rw [h, ih, blk_src]
    rfl

/-- At the last step it is the sum over all devices. -/
theorem acc_all (d : Dir) (c : Dev nD) (i : S128x4096.Idx) :
    (acc I d 31 c i : EReal) = ∑ e : Dev nD, (term I d e c i : EReal) := by
  rw [acc_sum, blk_last, Finset.sum_range]
  exact Fintype.sum_bijective _ (srcD_bij d c) _ _ (fun _ => rfl)

/-! ### One product -/

/-- Where a half's column is in the whole row. -/
def colD (d : Dir) (j : Fin 4096) : Fin 8192 :=
  match d with
  | false => ⟨j.val, by omega⟩
  | true => ⟨4096 + j.val, by omega⟩

/-- Where a block's row is among the rows, or a device's column among the columns. -/
def at128 (b : Fin 32) (r : Fin 128) : Fin 4096 := ⟨b.val * 128 + r.val, by omega⟩

/-- A block of rows, read at a row and a column. -/
theorem rowsAt_at (f : Vec Ideal S4096x128 .fp8e4m3) (b : Fin 32) (r k : Fin 128) : rowsAt f b (ix2 r k) = f (ix2 (at128 b r) k) := by
  show f _ = f _
  congr 1
  funext a; apply Fin.ext
  match a with
  | ⟨0, _⟩ => show b.val * 128 + 1 * r.val = b.val * 128 + r.val; omega
  | ⟨1, _⟩ => show 0 + 1 * k.val = k.val; omega

/-- Widening changes no value. -/
theorem wide_at (w : Vec Ideal S128x8192 .fp8e5m2) (i : S128x8192.Idx) : (wide w i : EReal) = w i := by
  show w (Shape.reshapeEquiv _ i) = w i
  rw [Shape.reshapeEquiv_self]

/-- A device's product at a row and a column. -/
theorem term_at (d : Dir) (e : Dev nD) (b : Fin 32) (r : Fin 128) (j : Fin 4096) :
    (term I d e b (ix2 r j) : EReal) = ∑ k : Fin 128, (I.x e (ix2 (at128 b r) k) : EReal) * (I.w e (ix2 k (colD d j)) : EReal) := by
  have hd : dot_S128x128_S128x4096_S128x4096_1_0_0_1_n_n = DotDims.plain 128 128 4096 := rfl
  unfold term blockProd
  rw [hd]
  refine (Ideal.matmul_plain_apply none _ _ _ r j).trans ?_
  have h0 : ((constant S128x4096 .f32 0x00000000#32 : FVec Ideal S128x4096 .f32) (ix2 r j) : EReal) = 0 := Ideal.ofBits_zero_f32
  rw [h0, zero_add]
  refine Finset.sum_congr rfl fun k _ => ?_
  have h1 : ((extf .bf16 (shapeCast S128x128 (rowsAt (I.x e) b) shapeCasts_S128x128_S128x128) bitsLt_fp8e4m3_bf16 : FVec Ideal S128x128 .bf16) (ix2 r k) : EReal)
      = I.x e (ix2 (at128 b r) k) := by
    refine Eq.trans ?_ (rowsAt_at (I.x e) b r k)
    show rowsAt (I.x e) b (Shape.reshapeEquiv _ (ix2 r k)) = _
    rw [Shape.reshapeEquiv_self]
  have h2 : ((match d with
      | false => extractStridedSlice S128x4096 ![0, 0] (wide (I.w e)) slices_S128x8192_o0_0_S128x4096
      | true => extractStridedSlice S128x4096 ![0, 4096] (wide (I.w e)) slices_S128x8192_o0_4096_S128x4096 : FVec Ideal S128x4096 .bf16) (ix2 k j) : EReal)
      = I.w e (ix2 k (colD d j)) := by
    cases d
    · refine (wide_at (I.w e) _).trans ?_
      congr 1
      funext a; apply Fin.ext
      match a with
      | ⟨0, _⟩ => show 0 + k.val = k.val; omega
      | ⟨1, _⟩ => show 0 + j.val = j.val; omega
    · refine (wide_at (I.w e) _).trans ?_
      congr 1
      funext a; apply Fin.ext
      match a with
      | ⟨0, _⟩ => show 0 + k.val = k.val; omega
      | ⟨1, _⟩ => rfl
  exact congrArg₂ (· * ·) h1 h2

/-! ### The whole product -/

/-- The whole product at a row and a column, cut over the contracted dimension into the devices' parts. -/
theorem sum_split (f : Fin 4096 → EReal) : ∑ K, f K = ∑ e : Fin 32, ∑ k : Fin 128, f (at128 e k) := by
  rw [← Fintype.sum_prod_type' (f := fun (e : Fin 32) (k : Fin 128) => f (at128 e k))]
  refine (Equiv.sum_comp (finProdFinEquiv (m := 32) (n := 128)) f).symm.trans ?_
  refine Finset.sum_congr rfl fun p _ => congrArg f (Fin.ext ?_)
  show p.2.val + 128 * p.1.val = p.1.val * 128 + p.2.val
  omega

/-- The reference's result at a row and a column. -/
theorem G_at (x : Vec Ideal Cert.ReferenceIdeal.S4096x4096 .fp8e4m3) (w : Vec Ideal Cert.ReferenceIdeal.S4096x8192 .fp8e5m2) (sx sw : Vec Ideal S1 .f32) (r : Fin 4096) (j : Fin 8192) :
    (Ref.G x w sx sw (ix2 r j) : EReal) = (∑ K : Fin 4096, (x (ix2 r K) : EReal) * (w (ix2 K j) : EReal)) * ((sx Ref.one : EReal) * (sw Ref.one : EReal)) := by
  have hd : Cert.ReferenceIdeal.dot_S4096x4096_S4096x8192_S4096x8192_1_0_0_1_n_n = DotDims.plain 4096 4096 8192 := rfl
  have h := Ideal.matmul_plain_apply (φ₁ := .f32) (φ₂ := .f32) none x w (constant (F := Ideal) Cert.ReferenceIdeal.S4096x8192 .f32 0x00000000#32) r j
  have h0 : ((constant Cert.ReferenceIdeal.S4096x8192 .f32 0x00000000#32 : FVec Ideal Cert.ReferenceIdeal.S4096x8192 .f32) (ix2 r j) : EReal) = 0 := Ideal.ofBits_zero_f32
  rw [h0, zero_add] at h
  unfold Ref.G Cert.ReferenceIdeal.Gen.k0_pay1
  rw [hd]
  exact congrArg (· * ((sx Ref.one : EReal) * (sw Ref.one : EReal))) h

/-! ### The ring's result is the reference's block -/

/-- The accumulator at the last step is the whole product at the device's rows. -/
theorem acc_whole (X : Vec Ideal Cert.ReferenceIdeal.S4096x4096 .fp8e4m3) (W : Vec Ideal Cert.ReferenceIdeal.S4096x8192 .fp8e5m2)
    (hx : ∀ c : Dev nD, I.x c = Layout.block ⟨2, ![4096, 128]⟩ ⟨2, ![4096, 4096]⟩ 1 32 c X)
    (hw : ∀ c : Dev nD, I.w c = Layout.block ⟨2, ![128, 8192]⟩ ⟨2, ![4096, 8192]⟩ 0 32 c W)
    (d : Dir) (c : Dev nD) (r : Fin 128) (j : Fin 4096) :
    (acc I d 31 c (ix2 r j) : EReal) = ∑ K : Fin 4096, (X (ix2 (at128 c r) K) : EReal) * (W (ix2 K (colD d j)) : EReal) := by
  rw [acc_all, sum_split]
  refine Finset.sum_congr rfl fun e _ => (term_at I d e c r j).trans (Finset.sum_congr rfl fun k _ => ?_)
  rw [hx e, hw e]
  refine congrArg₂ (· * ·) (congrArg X ?_) (congrArg W ?_)
  · funext a; apply Fin.ext
    match a with
    | ⟨0, _⟩ => rfl
    | ⟨1, _⟩ => rfl
  · funext a; apply Fin.ext
    match a with
    | ⟨0, _⟩ => rfl
    | ⟨1, _⟩ => rfl

/-- The word read off a scale. -/
theorem word1_eq (f : Vec Ideal S1 .f32) : word1 f = f Ref.one := by
  show f _ = f _
  congr 1
  funext a; apply Fin.ext
  match a with
  | ⟨0, _⟩ => rfl

/-- A half of the result, at a row and a column. -/
theorem half_at (X : Vec Ideal Cert.ReferenceIdeal.S4096x4096 .fp8e4m3) (W : Vec Ideal Cert.ReferenceIdeal.S4096x8192 .fp8e5m2)
    (hx : ∀ c : Dev nD, I.x c = Layout.block ⟨2, ![4096, 128]⟩ ⟨2, ![4096, 4096]⟩ 1 32 c X)
    (hw : ∀ c : Dev nD, I.w c = Layout.block ⟨2, ![128, 8192]⟩ ⟨2, ![4096, 8192]⟩ 0 32 c W)
    (sx sw : Vec Ideal S1 .f32) (d : Dir) (c : Dev nD) (r : Fin 128) (j : Fin 4096) :
    scaled (acc I d 31 c) (word1 sx) (word1 sw) (ix2 r j) = Ref.G X W sx sw (ix2 (at128 c r) (colD d j)) := by
  refine Eq.trans ?_ (G_at X W sx sw (at128 c r) (colD d j)).symm
  rw [word1_eq, word1_eq]
  exact congrArg (· * ((sx Ref.one : EReal) * (sw Ref.one : EReal))) (acc_whole I X W hx hw d c r j)

/-- What the ring leaves on device `c` is block `c` of the reference's result. -/
theorem result_eq (X : Vec Ideal Cert.ReferenceIdeal.S4096x4096 .fp8e4m3) (W : Vec Ideal Cert.ReferenceIdeal.S4096x8192 .fp8e5m2)
    (hx : ∀ c : Dev nD, I.x c = Layout.block ⟨2, ![4096, 128]⟩ ⟨2, ![4096, 4096]⟩ 1 32 c X)
    (hw : ∀ c : Dev nD, I.w c = Layout.block ⟨2, ![128, 8192]⟩ ⟨2, ![4096, 8192]⟩ 0 32 c W)
    (sx sw : Vec Ideal S1 .f32) (c : Dev nD) :
    halves (scaled (acc I false 31 c) (word1 sx) (word1 sw)) (scaled (acc I true 31 c) (word1 sx) (word1 sw))
      = Layout.block ⟨2, ![128, 8192]⟩ ⟨2, ![4096, 8192]⟩ 0 32 c (Ref.G X W sx sw) := by
  funext i
  have hi : (i 1).val < 8192 := (i 1).isLt
  unfold halves
  split
  · next h =>
    refine Eq.trans (congrArg _ ?_) ((half_at I X W hx hw sx sw false c ⟨(i 0).val, (i 0).isLt⟩ ⟨(i 1).val, h⟩).trans (congrArg (Ref.G X W sx sw) ?_))
    · funext a; apply Fin.ext
      match a with
      | ⟨0, _⟩ => rfl
      | ⟨1, _⟩ => rfl
    · funext a; apply Fin.ext
      match a with
      | ⟨0, _⟩ => rfl
      | ⟨1, _⟩ => rfl
  · next h =>
    refine Eq.trans (congrArg _ ?_) ((half_at I X W hx hw sx sw true c ⟨(i 0).val, (i 0).isLt⟩ ⟨(i 1).val - 4096, by omega⟩).trans (congrArg (Ref.G X W sx sw) ?_))
    · funext a; apply Fin.ext
      match a with
      | ⟨0, _⟩ => rfl
      | ⟨1, _⟩ => rfl
    · funext a; apply Fin.ext
      match a with
      | ⟨0, _⟩ => rfl
      | ⟨1, _⟩ => show 4096 + ((i 1).val - 4096) = (i 1).val; omega

end Cert.Proof

end
-- ==== Proof.Algebraic.lean ====
/- The value claim: the kernel's run and the reference's, side by side. -/
module

public import proofs.«01_k».proof.Defs
public import proofs.«01_k».proof.Proof.Value

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.SiteBlocks (L lv)

/-- Given the devices' blocks of one whole x and one whole w, and the same scales, the call leaves on device `c` block `c` of
    what the reference leaves. -/
theorem algebraic : Cert.algebraic_KernelIdeal_ReferenceIdeal := fun m g m' g' _ hagree => by
  refine ⟨Ref.G (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)),
    (θ_run Cert.KernelIdeal.defs _ _).mono (fun r h c => ⟨?_, (h.1 c).1, (h.1 c).2.1, (h.1 c).2.2.1, (h.1 c).2.2.2.1⟩) (run_main m g),
    (θ_run Cert.ReferenceIdeal.defs _ _).mono (fun r h => h 0) (Ref.run m' g')⟩
  refine (h.1 c).2.2.2.2.trans ?_
  unfold resV
  rw [Wv_arg2, Wv_arg3]
  refine (result_eq (ins m) _ _ (fun c => (hagree c).1) (fun c => (hagree c).2.1) _ _ c).trans ?_
  exact congrArg₂ (fun a b => Layout.block ⟨2, ![128, 8192]⟩ ⟨2, ![4096, 8192]⟩ 0 32 c
    (Ref.G (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)) a b))
    (hagree c).2.2.1 (hagree c).2.2.2

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames, the ideal programs agreeing with the printed one, and the value. -/
theorem claim : Cert.Claim := ⟨Cert.Kernel.Gen.facts, Cert.KernelIdeal.Gen.facts, Cert.ReferenceIdeal.Gen.facts,
  frame_kernel, frame_ideal, fun m ρ _ => Cert.ReferenceIdeal.Gen.frame m ρ, trivial, algebraic⟩

end Cert.Proof

end
